-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Lbp (m : (ℓ : Loc Cert.Lbp.nD Cert.Lbp.τ Cert.Lbp.sig) → Buf (Elt Bits) ℓ) : Prop :=
  True

def Pre_LbpIdeal (m : (ℓ : Loc Cert.LbpIdeal.nD Cert.LbpIdeal.τ Cert.LbpIdeal.sig) → Buf (Elt Ideal) ℓ) : Prop :=
  True

def Pre_LbpIdeal_finite_disp_and_indices [hPre_finite_disp_and_indices : Cert.Pre_finite_disp_and_indices.Facts] (m : (ℓ : Loc Cert.LbpIdeal.nD Cert.LbpIdeal.τ Cert.LbpIdeal.sig) → Buf (Elt Ideal) ℓ) : Prop :=
  ∀ c : Dev Cert.LbpIdeal.nD,
    (Cert.Pre_finite_disp_and_indices.fn (F := Ideal) (m ((c.tc : Thread Cert.LbpIdeal.nD Cert.LbpIdeal.τ).loc Cert.LbpIdeal.main_arg0)) (m ((c.tc : Thread Cert.LbpIdeal.nD Cert.LbpIdeal.τ).loc Cert.LbpIdeal.main_arg1)) (m ((c.tc : Thread Cert.LbpIdeal.nD Cert.LbpIdeal.τ).loc Cert.LbpIdeal.main_arg2)) (m ((c.tc : Thread Cert.LbpIdeal.nD Cert.LbpIdeal.τ).loc Cert.LbpIdeal.main_arg3))) = (fun _ => 1#1)

def Pre_LbpReferenceIdeal (m : (ℓ : Loc Cert.LbpReferenceIdeal.nD Cert.LbpReferenceIdeal.τ Cert.LbpReferenceIdeal.sig) → Buf (Elt Ideal) ℓ) : Prop :=
  True

def Pre_LbpReferenceIdeal_finite_disp_and_indices [hPre_finite_disp_and_indices : Cert.Pre_finite_disp_and_indices.Facts] (m : (ℓ : Loc Cert.LbpReferenceIdeal.nD Cert.LbpReferenceIdeal.τ Cert.LbpReferenceIdeal.sig) → Buf (Elt Ideal) ℓ) : Prop :=
  ∀ c : Dev Cert.LbpReferenceIdeal.nD,
    (Cert.Pre_finite_disp_and_indices.fn (F := Ideal) (m ((c.tc : Thread Cert.LbpReferenceIdeal.nD Cert.LbpReferenceIdeal.τ).loc Cert.LbpReferenceIdeal.main_arg0)) (m ((c.tc : Thread Cert.LbpReferenceIdeal.nD Cert.LbpReferenceIdeal.τ).loc Cert.LbpReferenceIdeal.main_arg1)) (m ((c.tc : Thread Cert.LbpReferenceIdeal.nD Cert.LbpReferenceIdeal.τ).loc Cert.LbpReferenceIdeal.main_arg2)) (m ((c.tc : Thread Cert.LbpReferenceIdeal.nD Cert.LbpReferenceIdeal.τ).loc Cert.LbpReferenceIdeal.main_arg3))) = (fun _ => 1#1)

def Pre_Edge (m : (ℓ : Loc Cert.Edge.nD Cert.Edge.τ Cert.Edge.sig) → Buf (Elt Bits) ℓ) : Prop :=
  True

def Pre_EdgeIdeal (m : (ℓ : Loc Cert.EdgeIdeal.nD Cert.EdgeIdeal.τ Cert.EdgeIdeal.sig) → Buf (Elt Ideal) ℓ) : Prop :=
  True

def Pre_EdgeIdeal_finite_points_and_indices [hPre_finite_points_and_indices : Cert.Pre_finite_points_and_indices.Facts] (m : (ℓ : Loc Cert.EdgeIdeal.nD Cert.EdgeIdeal.τ Cert.EdgeIdeal.sig) → Buf (Elt Ideal) ℓ) : Prop :=
  ∀ c : Dev Cert.EdgeIdeal.nD,
    (Cert.Pre_finite_points_and_indices.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3))) = (fun _ => 1#1)

def Pre_EdgeReferenceIdeal (m : (ℓ : Loc Cert.EdgeReferenceIdeal.nD Cert.EdgeReferenceIdeal.τ Cert.EdgeReferenceIdeal.sig) → Buf (Elt Ideal) ℓ) : Prop :=
  True

def Pre_EdgeReferenceIdeal_finite_points_and_indices [hPre_finite_points_and_indices : Cert.Pre_finite_points_and_indices.Facts] (m : (ℓ : Loc Cert.EdgeReferenceIdeal.nD Cert.EdgeReferenceIdeal.τ Cert.EdgeReferenceIdeal.sig) → Buf (Elt Ideal) ℓ) : Prop :=
  ∀ c : Dev Cert.EdgeReferenceIdeal.nD,
    (Cert.Pre_finite_points_and_indices.fn (F := Ideal) (m ((c.tc : Thread Cert.EdgeReferenceIdeal.nD Cert.EdgeReferenceIdeal.τ).loc Cert.EdgeReferenceIdeal.main_arg0)) (m ((c.tc : Thread Cert.EdgeReferenceIdeal.nD Cert.EdgeReferenceIdeal.τ).loc Cert.EdgeReferenceIdeal.main_arg1)) (m ((c.tc : Thread Cert.EdgeReferenceIdeal.nD Cert.EdgeReferenceIdeal.τ).loc Cert.EdgeReferenceIdeal.main_arg2)) (m ((c.tc : Thread Cert.EdgeReferenceIdeal.nD Cert.EdgeReferenceIdeal.τ).loc Cert.EdgeReferenceIdeal.main_arg3))) = (fun _ => 1#1)

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_apart_and_near [hPre_apart_and_near : Cert.Pre_apart_and_near.Facts] (m : (ℓ : Loc Cert.KnnIdeal.nD Cert.KnnIdeal.τ Cert.KnnIdeal.sig) → Buf (Elt Ideal) ℓ) : Prop :=
  ∀ c : Dev Cert.KnnIdeal.nD,
    (Cert.Pre_apart_and_near.fn (F := Ideal) (m ((c.tc : Thread Cert.KnnIdeal.nD Cert.KnnIdeal.τ).loc Cert.KnnIdeal.main_arg0))) = (fun _ => 1#1)

def Pre_KnnReferenceIdeal (m : (ℓ : Loc Cert.KnnReferenceIdeal.nD Cert.KnnReferenceIdeal.τ Cert.KnnReferenceIdeal.sig) → Buf (Elt Ideal) ℓ) : Prop :=
  True

def Pre_KnnReferenceIdeal_apart_and_near [hPre_apart_and_near : Cert.Pre_apart_and_near.Facts] (m : (ℓ : Loc Cert.KnnReferenceIdeal.nD Cert.KnnReferenceIdeal.τ Cert.KnnReferenceIdeal.sig) → Buf (Elt Ideal) ℓ) : Prop :=
  ∀ c : Dev Cert.KnnReferenceIdeal.nD,
    (Cert.Pre_apart_and_near.fn (F := Ideal) (m ((c.tc : Thread Cert.KnnReferenceIdeal.nD Cert.KnnReferenceIdeal.τ).loc Cert.KnnReferenceIdeal.main_arg0))) = (fun _ => 1#1)

def Pre_Cand (m : (ℓ : Loc Cert.Cand.nD Cert.Cand.τ Cert.Cand.sig) → Buf (Elt Bits) ℓ) : Prop :=
  True

def Pre_CandIdeal (m : (ℓ : Loc Cert.CandIdeal.nD Cert.CandIdeal.τ Cert.CandIdeal.sig) → Buf (Elt Ideal) ℓ) : Prop :=
  True

def Pre_CandIdeal_near_and_finite_features [hPre_near_and_finite_features : Cert.Pre_near_and_finite_features.Facts] (m : (ℓ : Loc Cert.CandIdeal.nD Cert.CandIdeal.τ Cert.CandIdeal.sig) → Buf (Elt Ideal) ℓ) : Prop :=
  ∀ c : Dev Cert.CandIdeal.nD,
    (Cert.Pre_near_and_finite_features.fn (F := Ideal) (m ((c.tc : Thread Cert.CandIdeal.nD Cert.CandIdeal.τ).loc Cert.CandIdeal.main_arg0)) (m ((c.tc : Thread Cert.CandIdeal.nD Cert.CandIdeal.τ).loc Cert.CandIdeal.main_arg1)) (m ((c.tc : Thread Cert.CandIdeal.nD Cert.CandIdeal.τ).loc Cert.CandIdeal.main_arg2)) (m ((c.tc : Thread Cert.CandIdeal.nD Cert.CandIdeal.τ).loc Cert.CandIdeal.main_arg3))) = (fun _ => 1#1)

def Pre_CandReferenceIdeal (m : (ℓ : Loc Cert.CandReferenceIdeal.nD Cert.CandReferenceIdeal.τ Cert.CandReferenceIdeal.sig) → Buf (Elt Ideal) ℓ) : Prop :=
  True

def Pre_CandReferenceIdeal_near_and_finite_features [hPre_near_and_finite_features : Cert.Pre_near_and_finite_features.Facts] (m : (ℓ : Loc Cert.CandReferenceIdeal.nD Cert.CandReferenceIdeal.τ Cert.CandReferenceIdeal.sig) → Buf (Elt Ideal) ℓ) : Prop :=
  ∀ c : Dev Cert.CandReferenceIdeal.nD,
    (Cert.Pre_near_and_finite_features.fn (F := Ideal) (m ((c.tc : Thread Cert.CandReferenceIdeal.nD Cert.CandReferenceIdeal.τ).loc Cert.CandReferenceIdeal.main_arg0)) (m ((c.tc : Thread Cert.CandReferenceIdeal.nD Cert.CandReferenceIdeal.τ).loc Cert.CandReferenceIdeal.main_arg1)) (m ((c.tc : Thread Cert.CandReferenceIdeal.nD Cert.CandReferenceIdeal.τ).loc Cert.CandReferenceIdeal.main_arg2)) (m ((c.tc : Thread Cert.CandReferenceIdeal.nD Cert.CandReferenceIdeal.τ).loc Cert.CandReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Lbp [hLbp : Cert.Lbp.Facts] : Prop :=
  ∀ (m : (ℓ : Loc Cert.Lbp.nD Cert.Lbp.τ Cert.Lbp.sig) → Buf (Elt Bits) ℓ) (g : Dev Cert.Lbp.nD → PrngReg), Pre_Lbp m →
    θ_run (Cert.Lbp.defs (F := Bits)) (onTc (τ := Cert.Lbp.τ) (Cert.Lbp.main (F := Bits))) ⟨m, fun _ => 0, g⟩ (fun r => (∀ c : Dev Cert.Lbp.nD,
      r.2.mem ((c.tc : Thread Cert.Lbp.nD Cert.Lbp.τ).loc Cert.Lbp.main_arg0) = m ((c.tc : Thread Cert.Lbp.nD Cert.Lbp.τ).loc Cert.Lbp.main_arg0)
      ∧ r.2.mem ((c.tc : Thread Cert.Lbp.nD Cert.Lbp.τ).loc Cert.Lbp.main_arg1) = m ((c.tc : Thread Cert.Lbp.nD Cert.Lbp.τ).loc Cert.Lbp.main_arg1)
      ∧ r.2.mem ((c.tc : Thread Cert.Lbp.nD Cert.Lbp.τ).loc Cert.Lbp.main_arg2) = m ((c.tc : Thread Cert.Lbp.nD Cert.Lbp.τ).loc Cert.Lbp.main_arg2)
      ∧ r.2.mem ((c.tc : Thread Cert.Lbp.nD Cert.Lbp.τ).loc Cert.Lbp.main_arg3) = m ((c.tc : Thread Cert.Lbp.nD Cert.Lbp.τ).loc Cert.Lbp.main_arg3))
      ∧ r.2.sem = fun _ => 0)

def quiescent_LbpIdeal [hLbpIdeal : Cert.LbpIdeal.Facts] : Prop :=
  ∀ (m : (ℓ : Loc Cert.LbpIdeal.nD Cert.LbpIdeal.τ Cert.LbpIdeal.sig) → Buf (Elt Ideal) ℓ) (g : Dev Cert.LbpIdeal.nD → PrngReg), Pre_LbpIdeal m →
    θ_run (Cert.LbpIdeal.defs (F := Ideal)) (onTc (τ := Cert.LbpIdeal.τ) (Cert.LbpIdeal.main (F := Ideal))) ⟨m, fun _ => 0, g⟩ (fun r => (∀ c : Dev Cert.LbpIdeal.nD,
      r.2.mem ((c.tc : Thread Cert.LbpIdeal.nD Cert.LbpIdeal.τ).loc Cert.LbpIdeal.main_arg0) = m ((c.tc : Thread Cert.LbpIdeal.nD Cert.LbpIdeal.τ).loc Cert.LbpIdeal.main_arg0)
      ∧ r.2.mem ((c.tc : Thread Cert.LbpIdeal.nD Cert.LbpIdeal.τ).loc Cert.LbpIdeal.main_arg1) = m ((c.tc : Thread Cert.LbpIdeal.nD Cert.LbpIdeal.τ).loc Cert.LbpIdeal.main_arg1)
      ∧ r.2.mem ((c.tc : Thread Cert.LbpIdeal.nD Cert.LbpIdeal.τ).loc Cert.LbpIdeal.main_arg2) = m ((c.tc : Thread Cert.LbpIdeal.nD Cert.LbpIdeal.τ).loc Cert.LbpIdeal.main_arg2)
      ∧ r.2.mem ((c.tc : Thread Cert.LbpIdeal.nD Cert.LbpIdeal.τ).loc Cert.LbpIdeal.main_arg3) = m ((c.tc : Thread Cert.LbpIdeal.nD Cert.LbpIdeal.τ).loc Cert.LbpIdeal.main_arg3))
      ∧ r.2.sem = fun _ => 0)

def quiescent_LbpIdeal_pre_finite_disp_and_indices [hLbpIdeal : Cert.LbpIdeal.Facts] [hPre_finite_disp_and_indices : Cert.Pre_finite_disp_and_indices.Facts] : Prop :=
  ∀ (m : (ℓ : Loc Cert.LbpIdeal.nD Cert.LbpIdeal.τ Cert.LbpIdeal.sig) → Buf (Elt Ideal) ℓ) (g : Dev Cert.LbpIdeal.nD → PrngReg), Pre_LbpIdeal_finite_disp_and_indices m →
    θ_run (Cert.LbpIdeal.defs (F := Ideal)) (onTc (τ := Cert.LbpIdeal.τ) (Cert.LbpIdeal.main (F := Ideal))) ⟨m, fun _ => 0, g⟩ (fun r => (∀ c : Dev Cert.LbpIdeal.nD,
      r.2.mem ((c.tc : Thread Cert.LbpIdeal.nD Cert.LbpIdeal.τ).loc Cert.LbpIdeal.main_arg0) = m ((c.tc : Thread Cert.LbpIdeal.nD Cert.LbpIdeal.τ).loc Cert.LbpIdeal.main_arg0)
      ∧ r.2.mem ((c.tc : Thread Cert.LbpIdeal.nD Cert.LbpIdeal.τ).loc Cert.LbpIdeal.main_arg1) = m ((c.tc : Thread Cert.LbpIdeal.nD Cert.LbpIdeal.τ).loc Cert.LbpIdeal.main_arg1)
      ∧ r.2.mem ((c.tc : Thread Cert.LbpIdeal.nD Cert.LbpIdeal.τ).loc Cert.LbpIdeal.main_arg2) = m ((c.tc : Thread Cert.LbpIdeal.nD Cert.LbpIdeal.τ).loc Cert.LbpIdeal.main_arg2)
      ∧ r.2.mem ((c.tc : Thread Cert.LbpIdeal.nD Cert.LbpIdeal.τ).loc Cert.LbpIdeal.main_arg3) = m ((c.tc : Thread Cert.LbpIdeal.nD Cert.LbpIdeal.τ).loc Cert.LbpIdeal.main_arg3))
      ∧ r.2.sem = fun _ => 0)

def quiescent_LbpReferenceIdeal [hLbpReferenceIdeal : Cert.LbpReferenceIdeal.Facts] : Prop :=
  ∀ (m : (ℓ : Loc Cert.LbpReferenceIdeal.nD Cert.LbpReferenceIdeal.τ Cert.LbpReferenceIdeal.sig) → Buf (Elt Ideal) ℓ) (g : Dev Cert.LbpReferenceIdeal.nD → PrngReg), Pre_LbpReferenceIdeal m →
    θ_run (Cert.LbpReferenceIdeal.defs (F := Ideal)) (onTc (τ := Cert.LbpReferenceIdeal.τ) (Cert.LbpReferenceIdeal.main (F := Ideal))) ⟨m, fun _ => 0, g⟩ (fun r => (∀ c : Dev Cert.LbpReferenceIdeal.nD,
      r.2.mem ((c.tc : Thread Cert.LbpReferenceIdeal.nD Cert.LbpReferenceIdeal.τ).loc Cert.LbpReferenceIdeal.main_arg0) = m ((c.tc : Thread Cert.LbpReferenceIdeal.nD Cert.LbpReferenceIdeal.τ).loc Cert.LbpReferenceIdeal.main_arg0)
      ∧ r.2.mem ((c.tc : Thread Cert.LbpReferenceIdeal.nD Cert.LbpReferenceIdeal.τ).loc Cert.LbpReferenceIdeal.main_arg1) = m ((c.tc : Thread Cert.LbpReferenceIdeal.nD Cert.LbpReferenceIdeal.τ).loc Cert.LbpReferenceIdeal.main_arg1)
      ∧ r.2.mem ((c.tc : Thread Cert.LbpReferenceIdeal.nD Cert.LbpReferenceIdeal.τ).loc Cert.LbpReferenceIdeal.main_arg2) = m ((c.tc : Thread Cert.LbpReferenceIdeal.nD Cert.LbpReferenceIdeal.τ).loc Cert.LbpReferenceIdeal.main_arg2)
      ∧ r.2.mem ((c.tc : Thread Cert.LbpReferenceIdeal.nD Cert.LbpReferenceIdeal.τ).loc Cert.LbpReferenceIdeal.main_arg3) = m ((c.tc : Thread Cert.LbpReferenceIdeal.nD Cert.LbpReferenceIdeal.τ).loc Cert.LbpReferenceIdeal.main_arg3))
      ∧ r.2.sem = fun _ => 0)

def quiescent_LbpReferenceIdeal_pre_finite_disp_and_indices [hLbpReferenceIdeal : Cert.LbpReferenceIdeal.Facts] [hPre_finite_disp_and_indices : Cert.Pre_finite_disp_and_indices.Facts] : Prop :=
  ∀ (m : (ℓ : Loc Cert.LbpReferenceIdeal.nD Cert.LbpReferenceIdeal.τ Cert.LbpReferenceIdeal.sig) → Buf (Elt Ideal) ℓ) (g : Dev Cert.LbpReferenceIdeal.nD → PrngReg), Pre_LbpReferenceIdeal_finite_disp_and_indices m →
    θ_run (Cert.LbpReferenceIdeal.defs (F := Ideal)) (onTc (τ := Cert.LbpReferenceIdeal.τ) (Cert.LbpReferenceIdeal.main (F := Ideal))) ⟨m, fun _ => 0, g⟩ (fun r => (∀ c : Dev Cert.LbpReferenceIdeal.nD,
      r.2.mem ((c.tc : Thread Cert.LbpReferenceIdeal.nD Cert.LbpReferenceIdeal.τ).loc Cert.LbpReferenceIdeal.main_arg0) = m ((c.tc : Thread Cert.LbpReferenceIdeal.nD Cert.LbpReferenceIdeal.τ).loc Cert.LbpReferenceIdeal.main_arg0)
      ∧ r.2.mem ((c.tc : Thread Cert.LbpReferenceIdeal.nD Cert.LbpReferenceIdeal.τ).loc Cert.LbpReferenceIdeal.main_arg1) = m ((c.tc : Thread Cert.LbpReferenceIdeal.nD Cert.LbpReferenceIdeal.τ).loc Cert.LbpReferenceIdeal.main_arg1)
      ∧ r.2.mem ((c.tc : Thread Cert.LbpReferenceIdeal.nD Cert.LbpReferenceIdeal.τ).loc Cert.LbpReferenceIdeal.main_arg2) = m ((c.tc : Thread Cert.LbpReferenceIdeal.nD Cert.LbpReferenceIdeal.τ).loc Cert.LbpReferenceIdeal.main_arg2)
      ∧ r.2.mem ((c.tc : Thread Cert.LbpReferenceIdeal.nD Cert.LbpReferenceIdeal.τ).loc Cert.LbpReferenceIdeal.main_arg3) = m ((c.tc : Thread Cert.LbpReferenceIdeal.nD Cert.LbpReferenceIdeal.τ).loc Cert.LbpReferenceIdeal.main_arg3))
      ∧ r.2.sem = fun _ => 0)

def quiescent_Edge [hEdge : Cert.Edge.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3))
      ∧ r.2.sem = fun _ => 0)

def quiescent_EdgeIdeal [hEdgeIdeal : Cert.EdgeIdeal.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3))
      ∧ r.2.sem = fun _ => 0)

def quiescent_EdgeIdeal_pre_finite_points_and_indices [hEdgeIdeal : Cert.EdgeIdeal.Facts] [hPre_finite_points_and_indices : Cert.Pre_finite_points_and_indices.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal_finite_points_and_indices m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3))
      ∧ r.2.sem = fun _ => 0)

def quiescent_EdgeReferenceIdeal [hEdgeReferenceIdeal : Cert.EdgeReferenceIdeal.Facts] : Prop :=
  ∀ (m : (ℓ : Loc Cert.EdgeReferenceIdeal.nD Cert.EdgeReferenceIdeal.τ Cert.EdgeReferenceIdeal.sig) → Buf (Elt Ideal) ℓ) (g : Dev Cert.EdgeReferenceIdeal.nD → PrngReg), Pre_EdgeReferenceIdeal m →
    θ_run (Cert.EdgeReferenceIdeal.defs (F := Ideal)) (onTc (τ := Cert.EdgeReferenceIdeal.τ) (Cert.EdgeReferenceIdeal.main (F := Ideal))) ⟨m, fun _ => 0, g⟩ (fun r => (∀ c : Dev Cert.EdgeReferenceIdeal.nD,
      r.2.mem ((c.tc : Thread Cert.EdgeReferenceIdeal.nD Cert.EdgeReferenceIdeal.τ).loc Cert.EdgeReferenceIdeal.main_arg0) = m ((c.tc : Thread Cert.EdgeReferenceIdeal.nD Cert.EdgeReferenceIdeal.τ).loc Cert.EdgeReferenceIdeal.main_arg0)
      ∧ r.2.mem ((c.tc : Thread Cert.EdgeReferenceIdeal.nD Cert.EdgeReferenceIdeal.τ).loc Cert.EdgeReferenceIdeal.main_arg1) = m ((c.tc : Thread Cert.EdgeReferenceIdeal.nD Cert.EdgeReferenceIdeal.τ).loc Cert.EdgeReferenceIdeal.main_arg1)
      ∧ r.2.mem ((c.tc : Thread Cert.EdgeReferenceIdeal.nD Cert.EdgeReferenceIdeal.τ).loc Cert.EdgeReferenceIdeal.main_arg2) = m ((c.tc : Thread Cert.EdgeReferenceIdeal.nD Cert.EdgeReferenceIdeal.τ).loc Cert.EdgeReferenceIdeal.main_arg2)
      ∧ r.2.mem ((c.tc : Thread Cert.EdgeReferenceIdeal.nD Cert.EdgeReferenceIdeal.τ).loc Cert.EdgeReferenceIdeal.main_arg3) = m ((c.tc : Thread Cert.EdgeReferenceIdeal.nD Cert.EdgeReferenceIdeal.τ).loc Cert.EdgeReferenceIdeal.main_arg3))
      ∧ r.2.sem = fun _ => 0)

def quiescent_EdgeReferenceIdeal_pre_finite_points_and_indices [hEdgeReferenceIdeal : Cert.EdgeReferenceIdeal.Facts] [hPre_finite_points_and_indices : Cert.Pre_finite_points_and_indices.Facts] : Prop :=
  ∀ (m : (ℓ : Loc Cert.EdgeReferenceIdeal.nD Cert.EdgeReferenceIdeal.τ Cert.EdgeReferenceIdeal.sig) → Buf (Elt Ideal) ℓ) (g : Dev Cert.EdgeReferenceIdeal.nD → PrngReg), Pre_EdgeReferenceIdeal_finite_points_and_indices m →
    θ_run (Cert.EdgeReferenceIdeal.defs (F := Ideal)) (onTc (τ := Cert.EdgeReferenceIdeal.τ) (Cert.EdgeReferenceIdeal.main (F := Ideal))) ⟨m, fun _ => 0, g⟩ (fun r => (∀ c : Dev Cert.EdgeReferenceIdeal.nD,
      r.2.mem ((c.tc : Thread Cert.EdgeReferenceIdeal.nD Cert.EdgeReferenceIdeal.τ).loc Cert.EdgeReferenceIdeal.main_arg0) = m ((c.tc : Thread Cert.EdgeReferenceIdeal.nD Cert.EdgeReferenceIdeal.τ).loc Cert.EdgeReferenceIdeal.main_arg0)
      ∧ r.2.mem ((c.tc : Thread Cert.EdgeReferenceIdeal.nD Cert.EdgeReferenceIdeal.τ).loc Cert.EdgeReferenceIdeal.main_arg1) = m ((c.tc : Thread Cert.EdgeReferenceIdeal.nD Cert.EdgeReferenceIdeal.τ).loc Cert.EdgeReferenceIdeal.main_arg1)
      ∧ r.2.mem ((c.tc : Thread Cert.EdgeReferenceIdeal.nD Cert.EdgeReferenceIdeal.τ).loc Cert.EdgeReferenceIdeal.main_arg2) = m ((c.tc : Thread Cert.EdgeReferenceIdeal.nD Cert.EdgeReferenceIdeal.τ).loc Cert.EdgeReferenceIdeal.main_arg2)
      ∧ r.2.mem ((c.tc : Thread Cert.EdgeReferenceIdeal.nD Cert.EdgeReferenceIdeal.τ).loc Cert.EdgeReferenceIdeal.main_arg3) = m ((c.tc : Thread Cert.EdgeReferenceIdeal.nD Cert.EdgeReferenceIdeal.τ).loc Cert.EdgeReferenceIdeal.main_arg3))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnIdeal_pre_apart_and_near [hKnnIdeal : Cert.KnnIdeal.Facts] [hPre_apart_and_near : Cert.Pre_apart_and_near.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_apart_and_near m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ r.2.sem = fun _ => 0)

def quiescent_KnnReferenceIdeal [hKnnReferenceIdeal : Cert.KnnReferenceIdeal.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0))
      ∧ r.2.sem = fun _ => 0)

def quiescent_KnnReferenceIdeal_pre_apart_and_near [hKnnReferenceIdeal : Cert.KnnReferenceIdeal.Facts] [hPre_apart_and_near : Cert.Pre_apart_and_near.Facts] : Prop :=
  ∀ (m : (ℓ : Loc Cert.KnnReferenceIdeal.nD Cert.KnnReferenceIdeal.τ Cert.KnnReferenceIdeal.sig) → Buf (Elt Ideal) ℓ) (g : Dev Cert.KnnReferenceIdeal.nD → PrngReg), Pre_KnnReferenceIdeal_apart_and_near m →
    θ_run (Cert.KnnReferenceIdeal.defs (F := Ideal)) (onTc (τ := Cert.KnnReferenceIdeal.τ) (Cert.KnnReferenceIdeal.main (F := Ideal))) ⟨m, fun _ => 0, g⟩ (fun r => (∀ c : Dev Cert.KnnReferenceIdeal.nD,
      r.2.mem ((c.tc : Thread Cert.KnnReferenceIdeal.nD Cert.KnnReferenceIdeal.τ).loc Cert.KnnReferenceIdeal.main_arg0) = m ((c.tc : Thread Cert.KnnReferenceIdeal.nD Cert.KnnReferenceIdeal.τ).loc Cert.KnnReferenceIdeal.main_arg0))
      ∧ r.2.sem = fun _ => 0)

def quiescent_Cand [hCand : Cert.Cand.Facts] : Prop :=
  ∀ (m : (ℓ : Loc Cert.Cand.nD Cert.Cand.τ Cert.Cand.sig) → Buf (Elt Bits) ℓ) (g : Dev Cert.Cand.nD → PrngReg), Pre_Cand m →
    θ_run (Cert.Cand.defs (F := Bits)) (onTc (τ := Cert.Cand.τ) (Cert.Cand.main (F := Bits))) ⟨m, fun _ => 0, g⟩ (fun r => (∀ c : Dev Cert.Cand.nD,
      r.2.mem ((c.tc : Thread Cert.Cand.nD Cert.Cand.τ).loc Cert.Cand.main_arg0) = m ((c.tc : Thread Cert.Cand.nD Cert.Cand.τ).loc Cert.Cand.main_arg0)
      ∧ r.2.mem ((c.tc : Thread Cert.Cand.nD Cert.Cand.τ).loc Cert.Cand.main_arg1) = m ((c.tc : Thread Cert.Cand.nD Cert.Cand.τ).loc Cert.Cand.main_arg1)
      ∧ r.2.mem ((c.tc : Thread Cert.Cand.nD Cert.Cand.τ).loc Cert.Cand.main_arg2) = m ((c.tc : Thread Cert.Cand.nD Cert.Cand.τ).loc Cert.Cand.main_arg2)
      ∧ r.2.mem ((c.tc : Thread Cert.Cand.nD Cert.Cand.τ).loc Cert.Cand.main_arg3) = m ((c.tc : Thread Cert.Cand.nD Cert.Cand.τ).loc Cert.Cand.main_arg3))
      ∧ r.2.sem = fun _ => 0)

def quiescent_CandIdeal [hCandIdeal : Cert.CandIdeal.Facts] : Prop :=
  ∀ (m : (ℓ : Loc Cert.CandIdeal.nD Cert.CandIdeal.τ Cert.CandIdeal.sig) → Buf (Elt Ideal) ℓ) (g : Dev Cert.CandIdeal.nD → PrngReg), Pre_CandIdeal m →
    θ_run (Cert.CandIdeal.defs (F := Ideal)) (onTc (τ := Cert.CandIdeal.τ) (Cert.CandIdeal.main (F := Ideal))) ⟨m, fun _ => 0, g⟩ (fun r => (∀ c : Dev Cert.CandIdeal.nD,
      r.2.mem ((c.tc : Thread Cert.CandIdeal.nD Cert.CandIdeal.τ).loc Cert.CandIdeal.main_arg0) = m ((c.tc : Thread Cert.CandIdeal.nD Cert.CandIdeal.τ).loc Cert.CandIdeal.main_arg0)
      ∧ r.2.mem ((c.tc : Thread Cert.CandIdeal.nD Cert.CandIdeal.τ).loc Cert.CandIdeal.main_arg1) = m ((c.tc : Thread Cert.CandIdeal.nD Cert.CandIdeal.τ).loc Cert.CandIdeal.main_arg1)
      ∧ r.2.mem ((c.tc : Thread Cert.CandIdeal.nD Cert.CandIdeal.τ).loc Cert.CandIdeal.main_arg2) = m ((c.tc : Thread Cert.CandIdeal.nD Cert.CandIdeal.τ).loc Cert.CandIdeal.main_arg2)
      ∧ r.2.mem ((c.tc : Thread Cert.CandIdeal.nD Cert.CandIdeal.τ).loc Cert.CandIdeal.main_arg3) = m ((c.tc : Thread Cert.CandIdeal.nD Cert.CandIdeal.τ).loc Cert.CandIdeal.main_arg3))
      ∧ r.2.sem = fun _ => 0)

def quiescent_CandIdeal_pre_near_and_finite_features [hCandIdeal : Cert.CandIdeal.Facts] [hPre_near_and_finite_features : Cert.Pre_near_and_finite_features.Facts] : Prop :=
  ∀ (m : (ℓ : Loc Cert.CandIdeal.nD Cert.CandIdeal.τ Cert.CandIdeal.sig) → Buf (Elt Ideal) ℓ) (g : Dev Cert.CandIdeal.nD → PrngReg), Pre_CandIdeal_near_and_finite_features m →
    θ_run (Cert.CandIdeal.defs (F := Ideal)) (onTc (τ := Cert.CandIdeal.τ) (Cert.CandIdeal.main (F := Ideal))) ⟨m, fun _ => 0, g⟩ (fun r => (∀ c : Dev Cert.CandIdeal.nD,
      r.2.mem ((c.tc : Thread Cert.CandIdeal.nD Cert.CandIdeal.τ).loc Cert.CandIdeal.main_arg0) = m ((c.tc : Thread Cert.CandIdeal.nD Cert.CandIdeal.τ).loc Cert.CandIdeal.main_arg0)
      ∧ r.2.mem ((c.tc : Thread Cert.CandIdeal.nD Cert.CandIdeal.τ).loc Cert.CandIdeal.main_arg1) = m ((c.tc : Thread Cert.CandIdeal.nD Cert.CandIdeal.τ).loc Cert.CandIdeal.main_arg1)
      ∧ r.2.mem ((c.tc : Thread Cert.CandIdeal.nD Cert.CandIdeal.τ).loc Cert.CandIdeal.main_arg2) = m ((c.tc : Thread Cert.CandIdeal.nD Cert.CandIdeal.τ).loc Cert.CandIdeal.main_arg2)
      ∧ r.2.mem ((c.tc : Thread Cert.CandIdeal.nD Cert.CandIdeal.τ).loc Cert.CandIdeal.main_arg3) = m ((c.tc : Thread Cert.CandIdeal.nD Cert.CandIdeal.τ).loc Cert.CandIdeal.main_arg3))
      ∧ r.2.sem = fun _ => 0)

def quiescent_CandReferenceIdeal [hCandReferenceIdeal : Cert.CandReferenceIdeal.Facts] : Prop :=
  ∀ (m : (ℓ : Loc Cert.CandReferenceIdeal.nD Cert.CandReferenceIdeal.τ Cert.CandReferenceIdeal.sig) → Buf (Elt Ideal) ℓ) (g : Dev Cert.CandReferenceIdeal.nD → PrngReg), Pre_CandReferenceIdeal m →
    θ_run (Cert.CandReferenceIdeal.defs (F := Ideal)) (onTc (τ := Cert.CandReferenceIdeal.τ) (Cert.CandReferenceIdeal.main (F := Ideal))) ⟨m, fun _ => 0, g⟩ (fun r => (∀ c : Dev Cert.CandReferenceIdeal.nD,
      r.2.mem ((c.tc : Thread Cert.CandReferenceIdeal.nD Cert.CandReferenceIdeal.τ).loc Cert.CandReferenceIdeal.main_arg0) = m ((c.tc : Thread Cert.CandReferenceIdeal.nD Cert.CandReferenceIdeal.τ).loc Cert.CandReferenceIdeal.main_arg0)
      ∧ r.2.mem ((c.tc : Thread Cert.CandReferenceIdeal.nD Cert.CandReferenceIdeal.τ).loc Cert.CandReferenceIdeal.main_arg1) = m ((c.tc : Thread Cert.CandReferenceIdeal.nD Cert.CandReferenceIdeal.τ).loc Cert.CandReferenceIdeal.main_arg1)
      ∧ r.2.mem ((c.tc : Thread Cert.CandReferenceIdeal.nD Cert.CandReferenceIdeal.τ).loc Cert.CandReferenceIdeal.main_arg2) = m ((c.tc : Thread Cert.CandReferenceIdeal.nD Cert.CandReferenceIdeal.τ).loc Cert.CandReferenceIdeal.main_arg2)
      ∧ r.2.mem ((c.tc : Thread Cert.CandReferenceIdeal.nD Cert.CandReferenceIdeal.τ).loc Cert.CandReferenceIdeal.main_arg3) = m ((c.tc : Thread Cert.CandReferenceIdeal.nD Cert.CandReferenceIdeal.τ).loc Cert.CandReferenceIdeal.main_arg3))
      ∧ r.2.sem = fun _ => 0)

def quiescent_CandReferenceIdeal_pre_near_and_finite_features [hCandReferenceIdeal : Cert.CandReferenceIdeal.Facts] [hPre_near_and_finite_features : Cert.Pre_near_and_finite_features.Facts] : Prop :=
  ∀ (m : (ℓ : Loc Cert.CandReferenceIdeal.nD Cert.CandReferenceIdeal.τ Cert.CandReferenceIdeal.sig) → Buf (Elt Ideal) ℓ) (g : Dev Cert.CandReferenceIdeal.nD → PrngReg), Pre_CandReferenceIdeal_near_and_finite_features m →
    θ_run (Cert.CandReferenceIdeal.defs (F := Ideal)) (onTc (τ := Cert.CandReferenceIdeal.τ) (Cert.CandReferenceIdeal.main (F := Ideal))) ⟨m, fun _ => 0, g⟩ (fun r => (∀ c : Dev Cert.CandReferenceIdeal.nD,
      r.2.mem ((c.tc : Thread Cert.CandReferenceIdeal.nD Cert.CandReferenceIdeal.τ).loc Cert.CandReferenceIdeal.main_arg0) = m ((c.tc : Thread Cert.CandReferenceIdeal.nD Cert.CandReferenceIdeal.τ).loc Cert.CandReferenceIdeal.main_arg0)
      ∧ r.2.mem ((c.tc : Thread Cert.CandReferenceIdeal.nD Cert.CandReferenceIdeal.τ).loc Cert.CandReferenceIdeal.main_arg1) = m ((c.tc : Thread Cert.CandReferenceIdeal.nD Cert.CandReferenceIdeal.τ).loc Cert.CandReferenceIdeal.main_arg1)
      ∧ r.2.mem ((c.tc : Thread Cert.CandReferenceIdeal.nD Cert.CandReferenceIdeal.τ).loc Cert.CandReferenceIdeal.main_arg2) = m ((c.tc : Thread Cert.CandReferenceIdeal.nD Cert.CandReferenceIdeal.τ).loc Cert.CandReferenceIdeal.main_arg2)
      ∧ r.2.mem ((c.tc : Thread Cert.CandReferenceIdeal.nD Cert.CandReferenceIdeal.τ).loc Cert.CandReferenceIdeal.main_arg3) = m ((c.tc : Thread Cert.CandReferenceIdeal.nD Cert.CandReferenceIdeal.τ).loc Cert.CandReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Lbp_LbpIdeal : Prop :=
  True

def algebraic_LbpIdeal_LbpReferenceIdeal_pre_finite_disp_and_indices [hLbpIdeal : Cert.LbpIdeal.Facts] [hLbpReferenceIdeal : Cert.LbpReferenceIdeal.Facts] [hPre_finite_disp_and_indices : Cert.Pre_finite_disp_and_indices.Facts] : Prop :=
  ∀ (m : (ℓ : Loc Cert.LbpIdeal.nD Cert.LbpIdeal.τ Cert.LbpIdeal.sig) → Buf (Elt Ideal) ℓ) (g : Dev Cert.LbpIdeal.nD → PrngReg)
    (m' : (ℓ : Loc Cert.LbpReferenceIdeal.nD Cert.LbpReferenceIdeal.τ Cert.LbpReferenceIdeal.sig) → Buf (Elt Ideal) ℓ) (g' : Dev Cert.LbpReferenceIdeal.nD → PrngReg), Pre_LbpIdeal_finite_disp_and_indices m →
    (∀ c : Dev Cert.LbpIdeal.nD,
      m' ((c.tc : Thread Cert.LbpReferenceIdeal.nD Cert.LbpReferenceIdeal.τ).loc Cert.LbpReferenceIdeal.main_arg0) = m ((c.tc : Thread Cert.LbpIdeal.nD Cert.LbpIdeal.τ).loc Cert.LbpIdeal.main_arg0)
      ∧ m' ((c.tc : Thread Cert.LbpReferenceIdeal.nD Cert.LbpReferenceIdeal.τ).loc Cert.LbpReferenceIdeal.main_arg1) = m ((c.tc : Thread Cert.LbpIdeal.nD Cert.LbpIdeal.τ).loc Cert.LbpIdeal.main_arg1)
      ∧ m' ((c.tc : Thread Cert.LbpReferenceIdeal.nD Cert.LbpReferenceIdeal.τ).loc Cert.LbpReferenceIdeal.main_arg2) = m ((c.tc : Thread Cert.LbpIdeal.nD Cert.LbpIdeal.τ).loc Cert.LbpIdeal.main_arg2)
      ∧ m' ((c.tc : Thread Cert.LbpReferenceIdeal.nD Cert.LbpReferenceIdeal.τ).loc Cert.LbpReferenceIdeal.main_arg3) = m ((c.tc : Thread Cert.LbpIdeal.nD Cert.LbpIdeal.τ).loc Cert.LbpIdeal.main_arg3)) →
    ∃ (v0 : (c : Dev Cert.LbpIdeal.nD) → Buf (Elt Ideal) ((c.tc : Thread Cert.LbpIdeal.nD Cert.LbpIdeal.τ).loc Cert.LbpIdeal.main_v6)),
      θ_run (Cert.LbpIdeal.defs (F := Ideal)) (onTc (τ := Cert.LbpIdeal.τ) (Cert.LbpIdeal.main (F := Ideal))) ⟨m, fun _ => 0, g⟩ (fun r => ∀ c : Dev Cert.LbpIdeal.nD,
          r.2.mem ((c.tc : Thread Cert.LbpIdeal.nD Cert.LbpIdeal.τ).loc Cert.LbpIdeal.main_v6) = v0 c
          ∧ r.2.mem ((c.tc : Thread Cert.LbpIdeal.nD Cert.LbpIdeal.τ).loc Cert.LbpIdeal.main_arg0) = m ((c.tc : Thread Cert.LbpIdeal.nD Cert.LbpIdeal.τ).loc Cert.LbpIdeal.main_arg0)
          ∧ r.2.mem ((c.tc : Thread Cert.LbpIdeal.nD Cert.LbpIdeal.τ).loc Cert.LbpIdeal.main_arg1) = m ((c.tc : Thread Cert.LbpIdeal.nD Cert.LbpIdeal.τ).loc Cert.LbpIdeal.main_arg1)
          ∧ r.2.mem ((c.tc : Thread Cert.LbpIdeal.nD Cert.LbpIdeal.τ).loc Cert.LbpIdeal.main_arg2) = m ((c.tc : Thread Cert.LbpIdeal.nD Cert.LbpIdeal.τ).loc Cert.LbpIdeal.main_arg2)
          ∧ r.2.mem ((c.tc : Thread Cert.LbpIdeal.nD Cert.LbpIdeal.τ).loc Cert.LbpIdeal.main_arg3) = m ((c.tc : Thread Cert.LbpIdeal.nD Cert.LbpIdeal.τ).loc Cert.LbpIdeal.main_arg3))
      ∧ θ_run (Cert.LbpReferenceIdeal.defs (F := Ideal)) (onTc (τ := Cert.LbpReferenceIdeal.τ) (Cert.LbpReferenceIdeal.main (F := Ideal))) ⟨m', fun _ => 0, g'⟩ (fun r => ∀ c : Dev Cert.LbpReferenceIdeal.nD,
          r.2.mem ((c.tc : Thread Cert.LbpReferenceIdeal.nD Cert.LbpReferenceIdeal.τ).loc Cert.LbpReferenceIdeal.main_v98) = v0 c
          ∧ r.2.mem ((c.tc : Thread Cert.LbpReferenceIdeal.nD Cert.LbpReferenceIdeal.τ).loc Cert.LbpReferenceIdeal.main_arg0) = m' ((c.tc : Thread Cert.LbpReferenceIdeal.nD Cert.LbpReferenceIdeal.τ).loc Cert.LbpReferenceIdeal.main_arg0)
          ∧ r.2.mem ((c.tc : Thread Cert.LbpReferenceIdeal.nD Cert.LbpReferenceIdeal.τ).loc Cert.LbpReferenceIdeal.main_arg1) = m' ((c.tc : Thread Cert.LbpReferenceIdeal.nD Cert.LbpReferenceIdeal.τ).loc Cert.LbpReferenceIdeal.main_arg1)
          ∧ r.2.mem ((c.tc : Thread Cert.LbpReferenceIdeal.nD Cert.LbpReferenceIdeal.τ).loc Cert.LbpReferenceIdeal.main_arg2) = m' ((c.tc : Thread Cert.LbpReferenceIdeal.nD Cert.LbpReferenceIdeal.τ).loc Cert.LbpReferenceIdeal.main_arg2)
          ∧ r.2.mem ((c.tc : Thread Cert.LbpReferenceIdeal.nD Cert.LbpReferenceIdeal.τ).loc Cert.LbpReferenceIdeal.main_arg3) = m' ((c.tc : Thread Cert.LbpReferenceIdeal.nD Cert.LbpReferenceIdeal.τ).loc Cert.LbpReferenceIdeal.main_arg3))

def preserves_Edge_EdgeIdeal : Prop :=
  True

def algebraic_EdgeIdeal_EdgeReferenceIdeal_pre_finite_points_and_indices [hEdgeIdeal : Cert.EdgeIdeal.Facts] [hEdgeReferenceIdeal : Cert.EdgeReferenceIdeal.Facts] [hPre_finite_points_and_indices : Cert.Pre_finite_points_and_indices.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeReferenceIdeal.nD Cert.EdgeReferenceIdeal.τ Cert.EdgeReferenceIdeal.sig) → Buf (Elt Ideal) ℓ) (g' : Dev Cert.EdgeReferenceIdeal.nD → PrngReg), Pre_EdgeIdeal_finite_points_and_indices m →
    (∀ c : Dev Cert.EdgeIdeal.nD,
      m' ((c.tc : Thread Cert.EdgeReferenceIdeal.nD Cert.EdgeReferenceIdeal.τ).loc Cert.EdgeReferenceIdeal.main_arg0) = m ((c.tc : Thread Cert.EdgeIdeal.nD Cert.EdgeIdeal.τ).loc Cert.EdgeIdeal.main_arg0)
      ∧ m' ((c.tc : Thread Cert.EdgeReferenceIdeal.nD Cert.EdgeReferenceIdeal.τ).loc Cert.EdgeReferenceIdeal.main_arg1) = m ((c.tc : Thread Cert.EdgeIdeal.nD Cert.EdgeIdeal.τ).loc Cert.EdgeIdeal.main_arg1)
      ∧ m' ((c.tc : Thread Cert.EdgeReferenceIdeal.nD Cert.EdgeReferenceIdeal.τ).loc Cert.EdgeReferenceIdeal.main_arg2) = m ((c.tc : Thread Cert.EdgeIdeal.nD Cert.EdgeIdeal.τ).loc Cert.EdgeIdeal.main_arg2)
      ∧ m' ((c.tc : Thread Cert.EdgeReferenceIdeal.nD Cert.EdgeReferenceIdeal.τ).loc Cert.EdgeReferenceIdeal.main_arg3) = m ((c.tc : Thread Cert.EdgeIdeal.nD Cert.EdgeIdeal.τ).loc Cert.EdgeIdeal.main_arg3)) →
    ∃ (v0 : (c : Dev Cert.EdgeIdeal.nD) → Buf (Elt Ideal) ((c.tc : Thread Cert.EdgeIdeal.nD Cert.EdgeIdeal.τ).loc Cert.EdgeIdeal.main_v0)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v0) = v0 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3))
      ∧ θ_run (Cert.EdgeReferenceIdeal.defs (F := Ideal)) (onTc (τ := Cert.EdgeReferenceIdeal.τ) (Cert.EdgeReferenceIdeal.main (F := Ideal))) ⟨m', fun _ => 0, g'⟩ (fun r => ∀ c : Dev Cert.EdgeReferenceIdeal.nD,
          r.2.mem ((c.tc : Thread Cert.EdgeReferenceIdeal.nD Cert.EdgeReferenceIdeal.τ).loc Cert.EdgeReferenceIdeal.main_v17) = v0 c
          ∧ r.2.mem ((c.tc : Thread Cert.EdgeReferenceIdeal.nD Cert.EdgeReferenceIdeal.τ).loc Cert.EdgeReferenceIdeal.main_arg0) = m' ((c.tc : Thread Cert.EdgeReferenceIdeal.nD Cert.EdgeReferenceIdeal.τ).loc Cert.EdgeReferenceIdeal.main_arg0)
          ∧ r.2.mem ((c.tc : Thread Cert.EdgeReferenceIdeal.nD Cert.EdgeReferenceIdeal.τ).loc Cert.EdgeReferenceIdeal.main_arg1) = m' ((c.tc : Thread Cert.EdgeReferenceIdeal.nD Cert.EdgeReferenceIdeal.τ).loc Cert.EdgeReferenceIdeal.main_arg1)
          ∧ r.2.mem ((c.tc : Thread Cert.EdgeReferenceIdeal.nD Cert.EdgeReferenceIdeal.τ).loc Cert.EdgeReferenceIdeal.main_arg2) = m' ((c.tc : Thread Cert.EdgeReferenceIdeal.nD Cert.EdgeReferenceIdeal.τ).loc Cert.EdgeReferenceIdeal.main_arg2)
          ∧ r.2.mem ((c.tc : Thread Cert.EdgeReferenceIdeal.nD Cert.EdgeReferenceIdeal.τ).loc Cert.EdgeReferenceIdeal.main_arg3) = m' ((c.tc : Thread Cert.EdgeReferenceIdeal.nD Cert.EdgeReferenceIdeal.τ).loc Cert.EdgeReferenceIdeal.main_arg3))

def preserves_Knn_KnnIdeal : Prop :=
  True

def algebraic_KnnIdeal_KnnReferenceIdeal_pre_apart_and_near [hKnnIdeal : Cert.KnnIdeal.Facts] [hKnnReferenceIdeal : Cert.KnnReferenceIdeal.Facts] [hPre_apart_and_near : Cert.Pre_apart_and_near.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnReferenceIdeal.nD Cert.KnnReferenceIdeal.τ Cert.KnnReferenceIdeal.sig) → Buf (Elt Ideal) ℓ) (g' : Dev Cert.KnnReferenceIdeal.nD → PrngReg), Pre_KnnIdeal_apart_and_near m →
    (∀ c : Dev Cert.KnnIdeal.nD,
      m' ((c.tc : Thread Cert.KnnReferenceIdeal.nD Cert.KnnReferenceIdeal.τ).loc Cert.KnnReferenceIdeal.main_arg0) = m ((c.tc : Thread Cert.KnnIdeal.nD Cert.KnnIdeal.τ).loc Cert.KnnIdeal.main_arg0)) →
    ∃ (v0 : (c : Dev Cert.KnnIdeal.nD) → Buf (Elt Ideal) ((c.tc : Thread Cert.KnnIdeal.nD Cert.KnnIdeal.τ).loc Cert.KnnIdeal.main_v1)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v1) = v0 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0))
      ∧ θ_run (Cert.KnnReferenceIdeal.defs (F := Ideal)) (onTc (τ := Cert.KnnReferenceIdeal.τ) (Cert.KnnReferenceIdeal.main (F := Ideal))) ⟨m', fun _ => 0, g'⟩ (fun r => ∀ c : Dev Cert.KnnReferenceIdeal.nD,
          r.2.mem ((c.tc : Thread Cert.KnnReferenceIdeal.nD Cert.KnnReferenceIdeal.τ).loc Cert.KnnReferenceIdeal.main_v8) = v0 c
          ∧ r.2.mem ((c.tc : Thread Cert.KnnReferenceIdeal.nD Cert.KnnReferenceIdeal.τ).loc Cert.KnnReferenceIdeal.main_arg0) = m' ((c.tc : Thread Cert.KnnReferenceIdeal.nD Cert.KnnReferenceIdeal.τ).loc Cert.KnnReferenceIdeal.main_arg0))

def preserves_Cand_CandIdeal : Prop :=
  True

def algebraic_CandIdeal_CandReferenceIdeal_pre_near_and_finite_features [hCandIdeal : Cert.CandIdeal.Facts] [hCandReferenceIdeal : Cert.CandReferenceIdeal.Facts] [hPre_near_and_finite_features : Cert.Pre_near_and_finite_features.Facts] : Prop :=
  ∀ (m : (ℓ : Loc Cert.CandIdeal.nD Cert.CandIdeal.τ Cert.CandIdeal.sig) → Buf (Elt Ideal) ℓ) (g : Dev Cert.CandIdeal.nD → PrngReg)
    (m' : (ℓ : Loc Cert.CandReferenceIdeal.nD Cert.CandReferenceIdeal.τ Cert.CandReferenceIdeal.sig) → Buf (Elt Ideal) ℓ) (g' : Dev Cert.CandReferenceIdeal.nD → PrngReg), Pre_CandIdeal_near_and_finite_features m →
    (∀ c : Dev Cert.CandIdeal.nD,
      m' ((c.tc : Thread Cert.CandReferenceIdeal.nD Cert.CandReferenceIdeal.τ).loc Cert.CandReferenceIdeal.main_arg0) = m ((c.tc : Thread Cert.CandIdeal.nD Cert.CandIdeal.τ).loc Cert.CandIdeal.main_arg0)
      ∧ m' ((c.tc : Thread Cert.CandReferenceIdeal.nD Cert.CandReferenceIdeal.τ).loc Cert.CandReferenceIdeal.main_arg1) = m ((c.tc : Thread Cert.CandIdeal.nD Cert.CandIdeal.τ).loc Cert.CandIdeal.main_arg1)
      ∧ m' ((c.tc : Thread Cert.CandReferenceIdeal.nD Cert.CandReferenceIdeal.τ).loc Cert.CandReferenceIdeal.main_arg2) = m ((c.tc : Thread Cert.CandIdeal.nD Cert.CandIdeal.τ).loc Cert.CandIdeal.main_arg2)
      ∧ m' ((c.tc : Thread Cert.CandReferenceIdeal.nD Cert.CandReferenceIdeal.τ).loc Cert.CandReferenceIdeal.main_arg3) = m ((c.tc : Thread Cert.CandIdeal.nD Cert.CandIdeal.τ).loc Cert.CandIdeal.main_arg3)) →
    ∃ (v0 : (c : Dev Cert.CandIdeal.nD) → Buf (Elt Ideal) ((c.tc : Thread Cert.CandIdeal.nD Cert.CandIdeal.τ).loc Cert.CandIdeal.main_v2_0)) (v1 : (c : Dev Cert.CandIdeal.nD) → Buf (Elt Ideal) ((c.tc : Thread Cert.CandIdeal.nD Cert.CandIdeal.τ).loc Cert.CandIdeal.main_v2_1)),
      θ_run (Cert.CandIdeal.defs (F := Ideal)) (onTc (τ := Cert.CandIdeal.τ) (Cert.CandIdeal.main (F := Ideal))) ⟨m, fun _ => 0, g⟩ (fun r => ∀ c : Dev Cert.CandIdeal.nD,
          r.2.mem ((c.tc : Thread Cert.CandIdeal.nD Cert.CandIdeal.τ).loc Cert.CandIdeal.main_v2_0) = v0 c
          ∧ r.2.mem ((c.tc : Thread Cert.CandIdeal.nD Cert.CandIdeal.τ).loc Cert.CandIdeal.main_v2_1) = v1 c
          ∧ r.2.mem ((c.tc : Thread Cert.CandIdeal.nD Cert.CandIdeal.τ).loc Cert.CandIdeal.main_arg0) = m ((c.tc : Thread Cert.CandIdeal.nD Cert.CandIdeal.τ).loc Cert.CandIdeal.main_arg0)
          ∧ r.2.mem ((c.tc : Thread Cert.CandIdeal.nD Cert.CandIdeal.τ).loc Cert.CandIdeal.main_arg1) = m ((c.tc : Thread Cert.CandIdeal.nD Cert.CandIdeal.τ).loc Cert.CandIdeal.main_arg1)
          ∧ r.2.mem ((c.tc : Thread Cert.CandIdeal.nD Cert.CandIdeal.τ).loc Cert.CandIdeal.main_arg2) = m ((c.tc : Thread Cert.CandIdeal.nD Cert.CandIdeal.τ).loc Cert.CandIdeal.main_arg2)
          ∧ r.2.mem ((c.tc : Thread Cert.CandIdeal.nD Cert.CandIdeal.τ).loc Cert.CandIdeal.main_arg3) = m ((c.tc : Thread Cert.CandIdeal.nD Cert.CandIdeal.τ).loc Cert.CandIdeal.main_arg3))
      ∧ θ_run (Cert.CandReferenceIdeal.defs (F := Ideal)) (onTc (τ := Cert.CandReferenceIdeal.τ) (Cert.CandReferenceIdeal.main (F := Ideal))) ⟨m', fun _ => 0, g'⟩ (fun r => ∀ c : Dev Cert.CandReferenceIdeal.nD,
          r.2.mem ((c.tc : Thread Cert.CandReferenceIdeal.nD Cert.CandReferenceIdeal.τ).loc Cert.CandReferenceIdeal.main_v31) = v0 c
          ∧ r.2.mem ((c.tc : Thread Cert.CandReferenceIdeal.nD Cert.CandReferenceIdeal.τ).loc Cert.CandReferenceIdeal.main_v35) = v1 c
          ∧ r.2.mem ((c.tc : Thread Cert.CandReferenceIdeal.nD Cert.CandReferenceIdeal.τ).loc Cert.CandReferenceIdeal.main_arg0) = m' ((c.tc : Thread Cert.CandReferenceIdeal.nD Cert.CandReferenceIdeal.τ).loc Cert.CandReferenceIdeal.main_arg0)
          ∧ r.2.mem ((c.tc : Thread Cert.CandReferenceIdeal.nD Cert.CandReferenceIdeal.τ).loc Cert.CandReferenceIdeal.main_arg1) = m' ((c.tc : Thread Cert.CandReferenceIdeal.nD Cert.CandReferenceIdeal.τ).loc Cert.CandReferenceIdeal.main_arg1)
          ∧ r.2.mem ((c.tc : Thread Cert.CandReferenceIdeal.nD Cert.CandReferenceIdeal.τ).loc Cert.CandReferenceIdeal.main_arg2) = m' ((c.tc : Thread Cert.CandReferenceIdeal.nD Cert.CandReferenceIdeal.τ).loc Cert.CandReferenceIdeal.main_arg2)
          ∧ r.2.mem ((c.tc : Thread Cert.CandReferenceIdeal.nD Cert.CandReferenceIdeal.τ).loc Cert.CandReferenceIdeal.main_arg3) = m' ((c.tc : Thread Cert.CandReferenceIdeal.nD Cert.CandReferenceIdeal.τ).loc Cert.CandReferenceIdeal.main_arg3))

def Claim : Prop :=
  ∃ (hKernel : Cert.Kernel.Facts) (hKernelIdeal : Cert.KernelIdeal.Facts) (hReferenceIdeal : Cert.ReferenceIdeal.Facts) (hLbp : Cert.Lbp.Facts) (hLbpIdeal : Cert.LbpIdeal.Facts) (hLbpReferenceIdeal : Cert.LbpReferenceIdeal.Facts) (hEdge : Cert.Edge.Facts) (hEdgeIdeal : Cert.EdgeIdeal.Facts) (hEdgeReferenceIdeal : Cert.EdgeReferenceIdeal.Facts) (hKnn : Cert.Knn.Facts) (hKnnIdeal : Cert.KnnIdeal.Facts) (hKnnReferenceIdeal : Cert.KnnReferenceIdeal.Facts) (hCand : Cert.Cand.Facts) (hCandIdeal : Cert.CandIdeal.Facts) (hCandReferenceIdeal : Cert.CandReferenceIdeal.Facts) (hPre_finite_disp_and_indices : Cert.Pre_finite_disp_and_indices.Facts) (hPre_finite_points_and_indices : Cert.Pre_finite_points_and_indices.Facts) (hPre_apart_and_near : Cert.Pre_apart_and_near.Facts) (hPre_near_and_finite_features : Cert.Pre_near_and_finite_features.Facts),
    quiescent_Kernel (hKernel := hKernel)
    ∧ quiescent_KernelIdeal (hKernelIdeal := hKernelIdeal)
    ∧ quiescent_ReferenceIdeal (hReferenceIdeal := hReferenceIdeal)
    ∧ quiescent_Lbp (hLbp := hLbp)
    ∧ quiescent_LbpIdeal (hLbpIdeal := hLbpIdeal)
    ∧ quiescent_LbpIdeal_pre_finite_disp_and_indices (hLbpIdeal := hLbpIdeal) (hPre_finite_disp_and_indices := hPre_finite_disp_and_indices)
    ∧ quiescent_LbpReferenceIdeal (hLbpReferenceIdeal := hLbpReferenceIdeal)
    ∧ quiescent_LbpReferenceIdeal_pre_finite_disp_and_indices (hLbpReferenceIdeal := hLbpReferenceIdeal) (hPre_finite_disp_and_indices := hPre_finite_disp_and_indices)
    ∧ quiescent_Edge (hEdge := hEdge)
    ∧ quiescent_EdgeIdeal (hEdgeIdeal := hEdgeIdeal)
    ∧ quiescent_EdgeIdeal_pre_finite_points_and_indices (hEdgeIdeal := hEdgeIdeal) (hPre_finite_points_and_indices := hPre_finite_points_and_indices)
    ∧ quiescent_EdgeReferenceIdeal (hEdgeReferenceIdeal := hEdgeReferenceIdeal)
    ∧ quiescent_EdgeReferenceIdeal_pre_finite_points_and_indices (hEdgeReferenceIdeal := hEdgeReferenceIdeal) (hPre_finite_points_and_indices := hPre_finite_points_and_indices)
    ∧ quiescent_Knn (hKnn := hKnn)
    ∧ quiescent_KnnIdeal (hKnnIdeal := hKnnIdeal)
    ∧ quiescent_KnnIdeal_pre_apart_and_near (hKnnIdeal := hKnnIdeal) (hPre_apart_and_near := hPre_apart_and_near)
    ∧ quiescent_KnnReferenceIdeal (hKnnReferenceIdeal := hKnnReferenceIdeal)
    ∧ quiescent_KnnReferenceIdeal_pre_apart_and_near (hKnnReferenceIdeal := hKnnReferenceIdeal) (hPre_apart_and_near := hPre_apart_and_near)
    ∧ quiescent_Cand (hCand := hCand)
    ∧ quiescent_CandIdeal (hCandIdeal := hCandIdeal)
    ∧ quiescent_CandIdeal_pre_near_and_finite_features (hCandIdeal := hCandIdeal) (hPre_near_and_finite_features := hPre_near_and_finite_features)
    ∧ quiescent_CandReferenceIdeal (hCandReferenceIdeal := hCandReferenceIdeal)
    ∧ quiescent_CandReferenceIdeal_pre_near_and_finite_features (hCandReferenceIdeal := hCandReferenceIdeal) (hPre_near_and_finite_features := hPre_near_and_finite_features)
    ∧ preserves_Kernel_KernelIdeal
    ∧ algebraic_KernelIdeal_ReferenceIdeal (hKernelIdeal := hKernelIdeal) (hReferenceIdeal := hReferenceIdeal)
    ∧ preserves_Lbp_LbpIdeal
    ∧ algebraic_LbpIdeal_LbpReferenceIdeal_pre_finite_disp_and_indices (hLbpIdeal := hLbpIdeal) (hLbpReferenceIdeal := hLbpReferenceIdeal) (hPre_finite_disp_and_indices := hPre_finite_disp_and_indices)
    ∧ preserves_Edge_EdgeIdeal
    ∧ algebraic_EdgeIdeal_EdgeReferenceIdeal_pre_finite_points_and_indices (hEdgeIdeal := hEdgeIdeal) (hEdgeReferenceIdeal := hEdgeReferenceIdeal) (hPre_finite_points_and_indices := hPre_finite_points_and_indices)
    ∧ preserves_Knn_KnnIdeal
    ∧ algebraic_KnnIdeal_KnnReferenceIdeal_pre_apart_and_near (hKnnIdeal := hKnnIdeal) (hKnnReferenceIdeal := hKnnReferenceIdeal) (hPre_apart_and_near := hPre_apart_and_near)
    ∧ preserves_Cand_CandIdeal
    ∧ algebraic_CandIdeal_CandReferenceIdeal_pre_near_and_finite_features (hCandIdeal := hCandIdeal) (hCandReferenceIdeal := hCandReferenceIdeal) (hPre_near_and_finite_features := hPre_near_and_finite_features)
-- ==== Pre_apart_and_near.lean ====
abbrev S4x2048x3 : Shape := ⟨3, ![4, 2048, 3]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩

class Facts : Prop where
  bcast_S4x2048x3_S4x2048x1x3_0_1_3 : S4x2048x3.BroadcastsInDim S4x2048x1x3 (![0, 1, 3] : Fin 3 → Fin S4x2048x1x3.rank)
  bcast_S4x2048x3_S4x1x2048x3_0_2_3 : S4x2048x3.BroadcastsInDim S4x1x2048x3 (![0, 2, 3] : Fin 3 → Fin S4x1x2048x3.rank)
  bcast_S4x2048x1x3_S4x2048x2048x3_0_1_2_3 : S4x2048x1x3.BroadcastsInDim S4x2048x2048x3 (![0, 1, 2, 3] : Fin 4 → Fin S4x2048x2048x3.rank)
  bcast_S4x1x2048x3_S4x2048x2048x3_0_1_2_3 : S4x1x2048x3.BroadcastsInDim S4x2048x2048x3 (![0, 1, 2, 3] : Fin 4 → Fin S4x2048x2048x3.rank)
  reducesTo_S4x2048x2048x3_S4x2048x2048_d3 : S4x2048x2048x3.ReducesTo [3] S4x2048x2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)

variable [Facts]

def fn_part1 {F : FTy → Type} [FloatOps F] (main_v16 : IVec S_ 1) (main_v18 : IVec S4x2048x2048 1) (main_v19 : IVec S1x2048x2048 1) : IVec S_ 1 :=
  let main_v20 : IVec S4x2048x2048 1 := broadcastInDim S4x2048x2048 ![0, 1, 2] bcast_S1x2048x2048_S4x2048x2048_0_1_2 main_v19
  let main_v21 : IVec S4x2048x2048 1 := ori main_v18 main_v20
  let main_c_2 : IVec S_ 1 := constantI S_ 1 1#1
  let main_v22 : IVec S_ 1 := (fun x v => Host.reduce IntOp.andi x v reducesTo_S4x2048x2048_S_d0_1_2 h_S_) main_v21 main_c_2
  let main_v23 : IVec S_ 1 := andi main_v16 main_v22
  main_v23

def fn {F : FTy → Type} [FloatOps F] (main_arg0 : FVec F S4x2048x3 .f32) : IVec S_ 1 :=
  let main_v0 : FVec F S4x2048x1x3 .f32 := broadcastInDim S4x2048x1x3 ![0, 1, 3] bcast_S4x2048x3_S4x2048x1x3_0_1_3 main_arg0
  let main_v1 : FVec F S4x1x2048x3 .f32 := broadcastInDim S4x1x2048x3 ![0, 2, 3] bcast_S4x2048x3_S4x1x2048x3_0_2_3 main_arg0
  let main_v2 : FVec F S4x2048x2048x3 .f32 := broadcastInDim S4x2048x2048x3 ![0, 1, 2, 3] bcast_S4x2048x1x3_S4x2048x2048x3_0_1_2_3 main_v0
  let main_v3 : FVec F S4x2048x2048x3 .f32 := broadcastInDim S4x2048x2048x3 ![0, 1, 2, 3] bcast_S4x1x2048x3_S4x2048x2048x3_0_1_2_3 main_v1
  let main_v4 : FVec F S4x2048x2048x3 .f32 := subf main_v2 main_v3
  let main_v5 : FVec F S4x2048x2048x3 .f32 := mulf main_v4 main_v4
  let main_cst : FVec F S_ .f32 := constant S_ .f32 0x00000000#32
  let main_v6 : FVec F S4x2048x2048 .f32 := (fun x v => Host.reduceAdd x v reducesTo_S4x2048x2048x3_S4x2048x2048_d3 h_S_) main_v5 main_cst
  let main_v7 : IVec S2048 32 := iotaInDim S2048 32 0
  let main_v8 : IVec S2048x1 32 := broadcastInDim S2048x1 ![0] bcast_S2048_S2048x1_0 main_v7
  let main_v9 : IVec S2048 32 := iotaInDim S2048 32 0
  let main_v10 : IVec S1x2048 32 := broadcastInDim S1x2048 ![1] bcast_S2048_S1x2048_1 main_v9
  let main_v11 : IVec S2048x2048 32 := broadcastInDim S2048x2048 ![0, 1] bcast_S2048x1_S2048x2048_0_1 main_v8
  let main_v12 : IVec S2048x2048 32 := broadcastInDim S2048x2048 ![0, 1] bcast_S1x2048_S2048x2048_0_1 main_v10
  let main_v13 : IVec S2048x2048 1 := cmpi .eq main_v11 main_v12
  let main_cst_0 : FVec F S_ .f32 := constant S_ .f32 0x7149F2CA#32
  let main_v14 : FVec F S4x2048x2048 .f32 := broadcastInDim S4x2048x2048 ![] bcast_S_S4x2048x2048 main_cst_0
  let main_v15 : IVec S4x2048x2048 1 := cmpf .olt main_v6 main_v14
  let main_c : IVec S_ 1 := constantI S_ 1 1#1
  let main_v16 : IVec S_ 1 := (fun x v => Host.reduce IntOp.andi x v reducesTo_S4x2048x2048_S_d0_1_2 h_S_) main_v15 main_c
  let main_cst_1 : FVec F S_ .f32 := constant S_ .f32 0x00000000#32
  let main_v17 : FVec F S4x2048x2048 .f32 := broadcastInDim S4x2048x2048 ![] bcast_S_S4x2048x2048 main_cst_1
  let main_v18 : IVec S4x2048x2048 1 := cmpf .ogt main_v6 main_v17
  let main_v19 : IVec S1x2048x2048 1 := broadcastInDim S1x2048x2048 ![1, 2] bcast_S2048x2048_S1x2048x2048_1_2 main_v13
  fn_part1 (F := F) main_v16 main_v18 main_v19
-- ==== Pre_finite_disp_and_indices.lean ====
abbrev S4x2048x192 : Shape := ⟨3, ![4, 2048, 192]⟩
abbrev S4x2048x10 : Shape := ⟨3, ![4, 2048, 10]⟩
abbrev S4x2048x64 : Shape := ⟨3, ![4, 2048, 64]⟩
abbrev S4x2048x3 : Shape := ⟨3, ![4, 2048, 3]⟩
abbrev S_ : Shape := ⟨0, ![]⟩

class Facts : Prop where
  bcast_S_S4x2048x192 : S_.BroadcastsInDim S4x2048x192 (![] : Fin 0 → Fin S4x2048x192.rank)
  reducesTo_S4x2048x192_S_d0_1_2 : S4x2048x192.ReducesTo [0, 1, 2] S_
  h_S_ : 0 < S_.numel
  bcast_S_S4x2048x10 : S_.BroadcastsInDim S4x2048x10 (![] : Fin 0 → Fin S4x2048x10.rank)
  reducesTo_S4x2048x10_S_d0_1_2 : S4x2048x10.ReducesTo [0, 1, 2] S_

variable [Facts]

def fn {F : FTy → Type} [FloatOps F] (main_arg0 : FVec F S4x2048x192 .f32) (main_arg1 : IVec S4x2048x10 32) (main_arg2 : FVec F S4x2048x64 .f32) (main_arg3 : FVec F S4x2048x3 .f32) : IVec S_ 1 :=
  let main_v0 : FVec F S4x2048x192 .f32 := Host.absf main_arg0
  let main_cst : FVec F S_ .f32 := constant S_ .f32 0x7F800000#32
  let main_v1 : FVec F S4x2048x192 .f32 := broadcastInDim S4x2048x192 ![] bcast_S_S4x2048x192 main_cst
  let main_v2 : IVec S4x2048x192 1 := cmpf .olt main_v0 main_v1
  let main_c : IVec S_ 1 := constantI S_ 1 1#1
  let main_v3 : IVec S_ 1 := (fun x v => Host.reduce IntOp.andi x v reducesTo_S4x2048x192_S_d0_1_2 h_S_) main_v2 main_c
  let main_c_0 : IVec S_ 32 := constantI S_ 32 0#32
  let main_v4 : IVec S4x2048x10 32 := broadcastInDim S4x2048x10 ![] bcast_S_S4x2048x10 main_c_0
  let main_v5 : IVec S4x2048x10 1 := cmpi .sge main_arg1 main_v4
  let main_c_1 : IVec S_ 32 := constantI S_ 32 2048#32
  let main_v6 : IVec S4x2048x10 32 := broadcastInDim S4x2048x10 ![] bcast_S_S4x2048x10 main_c_1
  let main_v7 : IVec S4x2048x10 1 := cmpi .slt main_arg1 main_v6
  let main_v8 : IVec S4x2048x10 1 := andi main_v5 main_v7
  let main_c_2 : IVec S_ 1 := constantI S_ 1 1#1
  let main_v9 : IVec S_ 1 := (fun x v => Host.reduce IntOp.andi x v reducesTo_S4x2048x10_S_d0_1_2 h_S_) main_v8 main_c_2
  let main_v10 : IVec S_ 1 := andi main_v3 main_v9
  main_v10
-- ==== Pre_finite_points_and_indices.lean ====
abbrev S4x2048x3 : Shape := ⟨3, ![4, 2048, 3]⟩
abbrev S4x2048x10 : Shape := ⟨3, ![4, 2048, 10]⟩
abbrev S6x64 : Shape := ⟨2, ![6, 64]⟩
abbrev S1x64 : Shape := ⟨2, ![1, 64]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel
  bcast_S_S6x64 : S_.BroadcastsInDim S6x64 (![] : Fin 0 → Fin S6x64.rank)
  reducesTo_S6x64_S_d0_1 : S6x64.ReducesTo [0, 1] S_
  bcast_S_S4x2048x10 : S_.BroadcastsInDim S4x2048x10 (![] : Fin 0 → Fin S4x2048x10.rank)
  reducesTo_S4x2048x10_S_d0_1_2 : S4x2048x10.ReducesTo [0, 1, 2] S_

variable [Facts]

def fn {F : FTy → Type} [FloatOps F] (main_arg0 : FVec F S4x2048x3 .f32) (main_arg1 : IVec S4x2048x10 32) (main_arg2 : FVec F S6x64 .f32) (main_arg3 : FVec F S1x64 .f32) : IVec S_ 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_c : IVec S_ 1 := constantI S_ 1 1#1
  let main_v3 : IVec S_ 1 := (fun x v => Host.reduce IntOp.andi x v reducesTo_S4x2048x3_S_d0_1_2 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_c_2 : IVec S_ 32 := constantI S_ 32 0#32
  let main_v9 : IVec S4x2048x10 32 := broadcastInDim S4x2048x10 ![] bcast_S_S4x2048x10 main_c_2
  let main_v10 : IVec S4x2048x10 1 := cmpi .sge main_arg1 main_v9
  let main_c_3 : IVec S_ 32 := constantI S_ 32 2048#32
  let main_v11 : IVec S4x2048x10 32 := broadcastInDim S4x2048x10 ![] bcast_S_S4x2048x10 main_c_3
  let main_v12 : IVec S4x2048x10 1 := cmpi .slt main_arg1 main_v11
  let main_v13 : IVec S4x2048x10 1 := andi main_v10 main_v12
  let main_c_4 : IVec S_ 1 := constantI S_ 1 1#1
  let main_v14 : IVec S_ 1 := (fun x v => Host.reduce IntOp.andi x v reducesTo_S4x2048x10_S_d0_1_2 h_S_) main_v13 main_c_4
  let main_v15 : IVec S_ 1 := andi main_v8 main_v14
  main_v15
-- ==== Pre_near_and_finite_features.lean ====
abbrev S4x2048x3 : Shape := ⟨3, ![4, 2048, 3]⟩
abbrev S4x2048x64 : Shape := ⟨3, ![4, 2048, 64]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩

class Facts : Prop where
  bcast_S4x2048x3_S4x2048x1x3_0_1_3 : S4x2048x3.BroadcastsInDim S4x2048x1x3 (![0, 1, 3] : Fin 3 → Fin S4x2048x1x3.rank)
  bcast_S4x2048x3_S4x1x2048x3_0_2_3 : S4x2048x3.BroadcastsInDim S4x1x2048x3 (![0, 2, 3] : Fin 3 → Fin S4x1x2048x3.rank)
  bcast_S4x2048x1x3_S4x2048x2048x3_0_1_2_3 : S4x2048x1x3.BroadcastsInDim S4x2048x2048x3 (![0, 1, 2, 3] : Fin 4 → Fin S4x2048x2048x3.rank)
  bcast_S4x1x2048x3_S4x2048x2048x3_0_1_2_3 : S4x1x2048x3.BroadcastsInDim S4x2048x2048x3 (![0, 1, 2, 3] : Fin 4 → Fin S4x2048x2048x3.rank)
  reducesTo_S4x2048x2048x3_S4x2048x2048_d3 : S4x2048x2048x3.ReducesTo [3] S4x2048x2048
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v14 : IVec S_ 1) (main_v17 : IVec S4x2048x64 1) : IVec S_ 1 :=
  let main_c_4 : IVec S_ 1 := constantI S_ 1 1#1
  let main_v18 : IVec S_ 1 := (fun x v => Host.reduce IntOp.andi x v reducesTo_S4x2048x64_S_d0_1_2 h_S_) main_v17 main_c_4
  let main_v19 : IVec S_ 1 := andi main_v14 main_v18
  main_v19

def fn {F : FTy → Type} [FloatOps F] (main_arg0 : FVec F S4x2048x3 .f32) (main_arg1 : FVec F S4x2048x3 .f32) (main_arg2 : FVec F S4x2048x64 .f32) (main_arg3 : FVec F S4x2048x64 .f32) : IVec S_ 1 :=
  let main_v0 : FVec F S4x2048x1x3 .f32 := broadcastInDim S4x2048x1x3 ![0, 1, 3] bcast_S4x2048x3_S4x2048x1x3_0_1_3 main_arg0
  let main_v1 : FVec F S4x1x2048x3 .f32 := broadcastInDim S4x1x2048x3 ![0, 2, 3] bcast_S4x2048x3_S4x1x2048x3_0_2_3 main_arg1
  let main_v2 : FVec F S4x2048x2048x3 .f32 := broadcastInDim S4x2048x2048x3 ![0, 1, 2, 3] bcast_S4x2048x1x3_S4x2048x2048x3_0_1_2_3 main_v0
  let main_v3 : FVec F S4x2048x2048x3 .f32 := broadcastInDim S4x2048x2048x3 ![0, 1, 2, 3] bcast_S4x1x2048x3_S4x2048x2048x3_0_1_2_3 main_v1
  let main_v4 : FVec F S4x2048x2048x3 .f32 := subf main_v2 main_v3
  let main_v5 : FVec F S4x2048x2048x3 .f32 := mulf main_v4 main_v4
  let main_cst : FVec F S_ .f32 := constant S_ .f32 0x00000000#32
  let main_v6 : FVec F S4x2048x2048 .f32 := (fun x v => Host.reduceAdd x v reducesTo_S4x2048x2048x3_S4x2048x2048_d3 h_S_) main_v5 main_cst
  let main_cst_0 : FVec F S_ .f32 := constant S_ .f32 0x7149F2CA#32
  let main_v7 : FVec F S4x2048x2048 .f32 := broadcastInDim S4x2048x2048 ![] bcast_S_S4x2048x2048 main_cst_0
  let main_v8 : IVec S4x2048x2048 1 := cmpf .olt main_v6 main_v7
  let main_c : IVec S_ 1 := constantI S_ 1 1#1
  let main_v9 : IVec S_ 1 := (fun x v => Host.reduce IntOp.andi x v reducesTo_S4x2048x2048_S_d0_1_2 h_S_) main_v8 main_c
  let main_v10 : FVec F S4x2048x64 .f32 := Host.absf main_arg2
  let main_cst_1 : FVec F S_ .f32 := constant S_ .f32 0x7F800000#32
  let main_v11 : FVec F S4x2048x64 .f32 := broadcastInDim S4x2048x64 ![] bcast_S_S4x2048x64 main_cst_1
  let main_v12 : IVec S4x2048x64 1 := cmpf .olt main_v10 main_v11
  let main_c_2 : IVec S_ 1 := constantI S_ 1 1#1
  let main_v13 : IVec S_ 1 := (fun x v => Host.reduce IntOp.andi x v reducesTo_S4x2048x64_S_d0_1_2 h_S_) main_v12 main_c_2
  let main_v14 : IVec S_ 1 := andi main_v9 main_v13
  let main_v15 : FVec F S4x2048x64 .f32 := Host.absf main_arg3
  let main_cst_3 : FVec F S_ .f32 := constant S_ .f32 0x7F800000#32
  let main_v16 : FVec F S4x2048x64 .f32 := broadcastInDim S4x2048x64 ![] bcast_S_S4x2048x64 main_cst_3
  let main_v17 : IVec S4x2048x64 1 := cmpf .olt main_v15 main_v16
  fn_part1 (F := F) main_v14 main_v17
-- ==== Kernel.lean ====
abbrev S4x2048x64 : Shape := ⟨3, ![4, 2048, 64]⟩
abbrev S64x64 : Shape := ⟨2, ![64, 64]⟩
abbrev S64x1024 : Shape := ⟨2, ![64, 1024]⟩
abbrev S1x1024 : Shape := ⟨2, ![1, 1024]⟩
abbrev S1024x64 : Shape := ⟨2, ![1024, 64]⟩
abbrev S1x64 : Shape := ⟨2, ![1, 64]⟩
abbrev S1x2048x64 : Shape := ⟨3, ![1, 2048, 64]⟩
abbrev S2048x64 : Shape := ⟨2, ![2048, 64]⟩
abbrev S1x256x64 : Shape := ⟨3, ![1, 256, 64]⟩
abbrev S256x64 : Shape := ⟨2, ![256, 64]⟩
abbrev S256x16 : Shape := ⟨2, ![256, 16]⟩
abbrev S2048x16 : Shape := ⟨2, ![2048, 16]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x64, .f32⟩
  | .hbm, ⟨1, _⟩ => ⟨S4x2048x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x1024, .f32⟩
  | .hbm, ⟨7, _⟩ => ⟨S1x1024, .f32⟩
  | .hbm, ⟨8, _⟩ => ⟨S1024x64, .f32⟩
  | .hbm, ⟨9, _⟩ => ⟨S1x64, .f32⟩
  | .hbm, ⟨10, _⟩ => ⟨S4x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x1024, .f32⟩
  | .local _ .vmem, ⟨9, _⟩ => ⟨S1x1024, .f32⟩
  | .local _ .vmem, ⟨10, _⟩ => ⟨S1024x64, .f32⟩
  | .local _ .vmem, ⟨11, _⟩ => ⟨S1x64, .f32⟩
  | .local _ .vmem, ⟨12, _⟩ => ⟨S1x2048x64, .f32⟩
  | .local _ .vmem, ⟨13, _⟩ => ⟨S1x2048x64, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x2048x64 : Shape := ⟨3, ![4, 2048, 64]⟩
abbrev S64x64 : Shape := ⟨2, ![64, 64]⟩
abbrev S64x1024 : Shape := ⟨2, ![64, 1024]⟩
abbrev S1x1024 : Shape := ⟨2, ![1, 1024]⟩
abbrev S1024x64 : Shape := ⟨2, ![1024, 64]⟩
abbrev S1x64 : Shape := ⟨2, ![1, 64]⟩
abbrev S4x2048x4x16 : Shape := ⟨4, ![4, 2048, 4, 16]⟩
abbrev S4x4x2048x2048 : Shape := ⟨4, ![4, 4, 2048, 2048]⟩
abbrev S_ : Shape := ⟨0, ![]⟩
abbrev S4x4x2048 : Shape := ⟨3, ![4, 4, 2048]⟩
abbrev S4x4x2048x1 : Shape := ⟨4, ![4, 4, 2048, 1]⟩
abbrev S4x4x16x2048 : Shape := ⟨4, ![4, 4, 16, 2048]⟩
abbrev S4x2048 : Shape := ⟨2, ![4, 2048]⟩
abbrev S4x2048x1 : Shape := ⟨3, ![4, 2048, 1]⟩
abbrev S4x2048x1024 : Shape := ⟨3, ![4, 2048, 1024]⟩
abbrev S1024 : Shape := ⟨1, ![1024]⟩
abbrev S1x1x1024 : Shape := ⟨3, ![1, 1, 1024]⟩
abbrev S64 : Shape := ⟨1, ![64]⟩
abbrev S1x1x64 : Shape := ⟨3, ![1, 1, 64]⟩

abbrev nBuf : Space → Nat
  | .hbm => 129
  | .vmem => 0
  | .smem => 0
  | _ => 0

abbrev hbmTy0_0 (i : Nat) : BufTy := match i % 128 with
  | 0 => ⟨S4x2048x64, .f32⟩
  | 1 => ⟨S4x2048x64, .f32⟩
  | 2 => ⟨S64x64, .f32⟩
  | 3 => ⟨S64x64, .f32⟩
  | 4 => ⟨S64x64, .f32⟩
  | 5 => ⟨S64x64, .f32⟩
  | 6 => ⟨S64x1024, .f32⟩
  | 7 => ⟨S1x1024, .f32⟩
  | 8 => ⟨S1024x64, .f32⟩
  | 9 => ⟨S1x64, .f32⟩
  | 10 => ⟨S4x2048x64, .f32⟩
  | 11 => ⟨S4x2048x4x16, .f32⟩
  | 12 => ⟨S4x2048x64, .f32⟩
  | 13 => ⟨S4x2048x4x16, .f32⟩
  | 14 => ⟨S4x2048x64, .f32⟩
  | 15 => ⟨S4x2048x4x16, .f32⟩
  | 16 => ⟨S4x4x2048x2048, .f32⟩
  | 17 => ⟨S_, .f32⟩
  | 18 => ⟨S4x4x2048x2048, .f32⟩
  | 19 => ⟨S4x4x2048x2048, .f32⟩
  | 20 => ⟨S_, .f32⟩
  | 21 => ⟨S4x4x2048, .f32⟩
  | 22 => ⟨S_, .f32⟩
  | 23 => ⟨S4x4x2048, .f32⟩
  | 24 => ⟨S4x4x2048, .f32⟩
  | 25 => ⟨S4x4x2048x1, .f32⟩
  | 26 => ⟨S4x4x2048x2048, .f32⟩
  | 27 => ⟨S4x4x2048x2048, .f32⟩
  | 28 => ⟨S4x4x2048x2048, .f32⟩
  | 29 => ⟨S_, .f32⟩
  | 30 => ⟨S4x4x2048, .f32⟩
  | 31 => ⟨S4x4x2048x1, .f32⟩
  | 32 => ⟨S4x4x2048x2048, .f32⟩
  | 33 => ⟨S4x4x2048x2048, .f32⟩
  | 34 => ⟨S4x4x16x2048, .f32⟩
  | 35 => ⟨S4x2048x4x16, .f32⟩
  | 36 => ⟨S4x2048x64, .f32⟩
  | 37 => ⟨S4x2048x64, .f32⟩
  | 38 => ⟨S4x2048x64, .f32⟩
  | 39 => ⟨S_, .f32⟩
  | 40 => ⟨S4x2048, .f32⟩
  | 41 => ⟨S4x2048x1, .f32⟩
  | 42 => ⟨S_, .f32⟩
  | 43 => ⟨S4x2048x1, .f32⟩
  | 44 => ⟨S4x2048x1, .f32⟩
  | 45 => ⟨S_, .i32⟩
  | 46 => ⟨S_, .f32⟩
  | 47 => ⟨S4x2048, .f32⟩
  | 48 => ⟨S4x2048x1, .f32⟩
  | 49 => ⟨S_, .f32⟩
  | 50 => ⟨S4x2048x1, .f32⟩
  | 51 => ⟨S4x2048x1, .f32⟩
  | 52 => ⟨S4x2048x64, .f32⟩
  | 53 => ⟨S4x2048x64, .f32⟩
  | 54 => ⟨S4x2048x64, .f32⟩
  | 55 => ⟨S_, .f32⟩
  | 56 => ⟨S_, .f32⟩
  | 57 => ⟨S_, .f32⟩
  | 58 => ⟨S_, .f32⟩
  | 59 => ⟨S4x2048, .f32⟩
  | 60 => ⟨S4x2048x1, .f32⟩
  | 61 => ⟨S4x2048x1, .f32⟩
  | 62 => ⟨S4x2048x1, .f32⟩
  | 63 => ⟨S_, .f32⟩
  | 64 => ⟨S_, .i1⟩
  | 65 => ⟨S_, .f32⟩
  | 66 => ⟨S_, .f32⟩
  | 67 => ⟨S4x2048x1, .f32⟩
  | 68 => ⟨S4x2048x1, .f32⟩
  | 69 => ⟨S4x2048x64, .f32⟩
  | 70 => ⟨S4x2048x64, .f32⟩
  | 71 => ⟨S_, .f32⟩
  | 72 => ⟨S4x2048x1, .f32⟩
  | 73 => ⟨S4x2048x1, .f32⟩
  | 74 => ⟨S4x2048x1, .f32⟩
  | 75 => ⟨S4x2048x64, .f32⟩
  | 76 => ⟨S4x2048x64, .f32⟩
  | 77 => ⟨S4x2048x1024, .f32⟩
  | 78 => ⟨S1024, .f32⟩
  | 79 => ⟨S1x1x1024, .f32⟩
  | 80 => ⟨S4x2048x1024, .f32⟩
  | 81 => ⟨S4x2048x1024, .f32⟩
  | 82 => ⟨S_, .f32⟩
  | 83 => ⟨S4x2048x1024, .f32⟩
  | 84 => ⟨S4x2048x1024, .f32⟩
  | 85 => ⟨S4x2048x64, .f32⟩
  | 86 => ⟨S64, .f32⟩
  | 87 => ⟨S1x1x64, .f32⟩
  | 88 => ⟨S4x2048x64, .f32⟩
  | 89 => ⟨S4x2048x64, .f32⟩
  | 90 => ⟨S4x2048x64, .f32⟩
  | 91 => ⟨S_, .f32⟩
  | 92 => ⟨S4x2048, .f32⟩
  | 93 => ⟨S4x2048x1, .f32⟩
  | 94 => ⟨S_, .f32⟩
  | 95 => ⟨S4x2048x1, .f32⟩
  | 96 => ⟨S4x2048x1, .f32⟩
  | 97 => ⟨S_, .i32⟩
  | 98 => ⟨S_, .f32⟩
  | 99 => ⟨S4x2048, .f32⟩
  | 100 => ⟨S4x2048x1, .f32⟩
  | 101 => ⟨S_, .f32⟩
  | 102 => ⟨S4x2048x1, .f32⟩
  | 103 => ⟨S4x2048x1, .f32⟩
  | 104 => ⟨S4x2048x64, .f32⟩
  | 105 => ⟨S4x2048x64, .f32⟩
  | 106 => ⟨S4x2048x64, .f32⟩
  | 107 => ⟨S_, .f32⟩
  | 108 => ⟨S_, .f32⟩
  | 109 => ⟨S_, .f32⟩
  | 110 => ⟨S_, .f32⟩
  | 111 => ⟨S4x2048, .f32⟩
  | 112 => ⟨S4x2048x1, .f32⟩
  | 113 => ⟨S4x2048x1, .f32⟩
  | 114 => ⟨S4x2048x1, .f32⟩
  | 115 => ⟨S_, .f32⟩
  | 116 => ⟨S_, .i1⟩
  | 117 => ⟨S_, .f32⟩
  | 118 => ⟨S_, .f32⟩
  | 119 => ⟨S4x2048x1, .f32⟩
  | 120 => ⟨S4x2048x1, .f32⟩
  | 121 => ⟨S4x2048x64, .f32⟩
  | 122 => ⟨S4x2048x64, .f32⟩
  | 123 => ⟨S_, .f32⟩
  | 124 => ⟨S4x2048x1, .f32⟩
  | 125 => ⟨S4x2048x1, .f32⟩
  | 126 => ⟨S4x2048x1, .f32⟩
  | 127 => ⟨S4x2048x64, .f32⟩
  | _ => ⟨S4x2048x64, .f32⟩

abbrev hbmTy0_1 (i : Nat) : BufTy := match i % 128 with
  | 0 => ⟨S4x2048x64, .f32⟩
  | _ => ⟨S4x2048x64, .f32⟩

abbrev hbmTy (i : Nat) : BufTy := match i / 128 with
  | 0 => hbmTy0_0 i
  | 1 => hbmTy0_1 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_cst_3 : Ref sig .tc := ⟨.hbm, 63, rfl⟩
abbrev main_call0_v13 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call1_cst : Ref sig .tc := ⟨.hbm, 82, rfl⟩
abbrev main_call1_v0 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_6 : Ref sig .tc := ⟨.hbm, 91, rfl⟩
abbrev main_v49 : Ref sig .tc := ⟨.hbm, 92, rfl⟩
abbrev main_v50 : Ref sig .tc := ⟨.hbm, 93, rfl⟩
abbrev main_cst_7 : Ref sig .tc := ⟨.hbm, 94, rfl⟩
abbrev main_v51 : Ref sig .tc := ⟨.hbm, 95, rfl⟩
abbrev main_v52 : Ref sig .tc := ⟨.hbm, 96, rfl⟩
abbrev main_c_8 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_cst_3 : Ref sig .tc := ⟨.hbm, 115, rfl⟩
abbrev main_call2_v13 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_9 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩

abbrev nD : Nat := 1
abbrev τ : Topo := Topo.v7x

variable {F : FTy → Type} [FloatOps F]
-- ==== Lbp.lean ====
abbrev S4x2048x192 : Shape := ⟨3, ![4, 2048, 192]⟩
abbrev S4x2048x10 : Shape := ⟨3, ![4, 2048, 10]⟩
abbrev S4x2048x64 : Shape := ⟨3, ![4, 2048, 64]⟩
abbrev S4x2048x3 : Shape := ⟨3, ![4, 2048, 3]⟩
abbrev S4x10x2048x192 : Shape := ⟨4, ![4, 10, 2048, 192]⟩
abbrev S4x10x2048x64 : Shape := ⟨4, ![4, 10, 2048, 64]⟩
abbrev S1x2048x192 : Shape := ⟨3, ![1, 2048, 192]⟩
abbrev S1x256x10 : Shape := ⟨3, ![1, 256, 10]⟩
abbrev S1x10x256x192 : Shape := ⟨4, ![1, 10, 256, 192]⟩
abbrev S1x10x256x64 : Shape := ⟨4, ![1, 10, 256, 64]⟩
abbrev S256x2048 : Shape := ⟨2, ![256, 2048]⟩
abbrev S2048x192 : Shape := ⟨2, ![2048, 192]⟩
abbrev S1x256x1 : Shape := ⟨3, ![1, 256, 1]⟩
abbrev S256x1 : Shape := ⟨2, ![256, 1]⟩
abbrev S256x192 : Shape := ⟨2, ![256, 192]⟩
abbrev S1x1x256x192 : Shape := ⟨4, ![1, 1, 256, 192]⟩
abbrev S256x64 : Shape := ⟨2, ![256, 64]⟩
abbrev S1x1x256x64 : Shape := ⟨4, ![1, 1, 256, 64]⟩
abbrev S1x2048x64 : Shape := ⟨3, ![1, 2048, 64]⟩
abbrev S1x256x64 : Shape := ⟨3, ![1, 256, 64]⟩
abbrev S1x256x192 : Shape := ⟨3, ![1, 256, 192]⟩
abbrev S2048x64 : Shape := ⟨2, ![2048, 64]⟩
abbrev S256x10 : Shape := ⟨2, ![256, 10]⟩
abbrev S1x10 : Shape := ⟨2, ![1, 10]⟩
abbrev S256 : Shape := ⟨1, ![256]⟩
abbrev S256x64x64 : Shape := ⟨3, ![256, 64, 64]⟩
abbrev S256x64x1 : Shape := ⟨3, ![256, 64, 1]⟩
abbrev S256x1x64 : Shape := ⟨3, ![256, 1, 64]⟩
abbrev S1x2048x3 : Shape := ⟨3, ![1, 2048, 3]⟩
abbrev S2048 : Shape := ⟨1, ![2048]⟩
abbrev S2048x1 : Shape := ⟨2, ![2048, 1]⟩
abbrev S1x2048x1 : Shape := ⟨3, ![1, 2048, 1]⟩

abbrev nBuf : Space → Nat
  | .hbm => 12
  | .vmem => 86
  | .smem => 0
  | _ => 0

abbrev bufTy : (tb : Table) → Fin (tcTables nBuf tb) → BufTy
  | .hbm, ⟨0, _⟩ => ⟨S4x2048x192, .f32⟩
  | .hbm, ⟨1, _⟩ => ⟨S4x2048x10, .i32⟩
  | .hbm, ⟨2, _⟩ => ⟨S4x2048x64, .f32⟩
  | .hbm, ⟨3, _⟩ => ⟨S4x2048x3, .f32⟩
  | .hbm, ⟨4, _⟩ => ⟨S4x10x2048x192, .f32⟩
  | .hbm, ⟨5, _⟩ => ⟨S4x10x2048x64, .f32⟩
  | .hbm, ⟨6, _⟩ => ⟨S4x2048x64, .f32⟩
  | .hbm, ⟨7, _⟩ => ⟨S4x2048x64, .f32⟩
  | .hbm, ⟨8, _⟩ => ⟨S4x2048x64, .f32⟩
  | .hbm, ⟨9, _⟩ => ⟨S4x2048x64, .f32⟩
  | .hbm, ⟨10, _⟩ => ⟨S4x2048x64, .f32⟩
  | .hbm, ⟨11, _⟩ => ⟨S4x2048x3, .f32⟩
  | .local _ .vmem, ⟨0, _⟩ => ⟨S1x2048x192, .f32⟩
  | .local _ .vmem, ⟨1, _⟩ => ⟨S1x2048x192, .f32⟩
  | .local _ .vmem, ⟨2, _⟩ => ⟨S1x256x10, .i32⟩
  | .local _ .vmem, ⟨3, _⟩ => ⟨S1x256x10, .i32⟩
  | .local _ .vmem, ⟨4, _⟩ => ⟨S1x10x256x192, .f32⟩
  | .local _ .vmem, ⟨5, _⟩ => ⟨S1x10x256x192, .f32⟩
  | .local _ .vmem, ⟨6, _⟩ => ⟨S1x10x256x64, .f32⟩
  | .local _ .vmem, ⟨7, _⟩ => ⟨S1x10x256x64, .f32⟩
  | .local _ .vmem, ⟨8, _⟩ => ⟨S1x2048x64, .f32⟩
  | .local _ .vmem, ⟨9, _⟩ => ⟨S1x2048x64, .f32⟩
  | .local _ .vmem, ⟨10, _⟩ => ⟨S1x256x64, .f32⟩
  | .local _ .vmem, ⟨11, _⟩ => ⟨S1x256x64, .f32⟩
  | .local _ .vmem, ⟨12, _⟩ => ⟨S1x256x192, .f32⟩
  | .local _ .vmem, ⟨13, _⟩ => ⟨S1x256x192, .f32⟩
  | .local _ .vmem, ⟨14, _⟩ => ⟨S1x256x10, .i32⟩
  | .local _ .vmem, ⟨15, _⟩ => ⟨S1x256x10, .i32⟩
  | .local _ .vmem, ⟨16, _⟩ => ⟨S1x10x256x192, .f32⟩
  | .local _ .vmem, ⟨17, _⟩ => ⟨S1x10x256x192, .f32⟩
  | .local _ .vmem, ⟨18, _⟩ => ⟨S1x10x256x64, .f32⟩
  | .local _ .vmem, ⟨19, _⟩ => ⟨S1x10x256x64, .f32⟩
  | .local _ .vmem, ⟨20, _⟩ => ⟨S1x256x64, .f32⟩
  | .local _ .vmem, ⟨21, _⟩ => ⟨S1x256x64, .f32⟩
  | .local _ .vmem, ⟨22, _⟩ => ⟨S1x2048x64, .f32⟩
  | .local _ .vmem, ⟨23, _⟩ => ⟨S1x2048x64, .f32⟩
  | .local _ .vmem, ⟨24, _⟩ => ⟨S1x256x64, .f32⟩
  | .local _ .vmem, ⟨25, _⟩ => ⟨S1x256x64, .f32⟩
  | .local _ .vmem, ⟨26, _⟩ => ⟨S1x256x192, .f32⟩
  | .local _ .vmem, ⟨27, _⟩ => ⟨S1x256x192, .f32⟩
  | .local _ .vmem, ⟨28, _⟩ => ⟨S1x256x10, .i32⟩
  | .local _ .vmem, ⟨29, _⟩ => ⟨S1x256x10, .i32⟩
  | .local _ .vmem, ⟨30, _⟩ => ⟨S1x10x256x192, .f32⟩
  | .local _ .vmem, ⟨31, _⟩ => ⟨S1x10x256x192, .f32⟩
  | .local _ .vmem, ⟨32, _⟩ => ⟨S1x10x256x64, .f32⟩
  | .local _ .vmem, ⟨33, _⟩ => ⟨S1x10x256x64, .f32⟩
  | .local _ .vmem, ⟨34, _⟩ => ⟨S1x256x64, .f32⟩
  | .local _ .vmem, ⟨35, _⟩ => ⟨S1x256x64, .f32⟩
  | .local _ .vmem, ⟨36, _⟩ => ⟨S1x2048x64, .f32⟩
  | .local _ .vmem, ⟨37, _⟩ => ⟨S1x2048x64, .f32⟩
  | .local _ .vmem, ⟨38, _⟩ => ⟨S1x256x64, .f32⟩
  | .local _ .vmem, ⟨39, _⟩ => ⟨S1x256x64, .f32⟩
  | .local _ .vmem, ⟨40, _⟩ => ⟨S1x256x192, .f32⟩
  | .local _ .vmem, ⟨41, _⟩ => ⟨S1x256x192, .f32⟩
  | .local _ .vmem, ⟨42, _⟩ => ⟨S1x256x10, .i32⟩
  | .local _ .vmem, ⟨43, _⟩ => ⟨S1x256x10, .i32⟩
  | .local _ .vmem, ⟨44, _⟩ => ⟨S1x10x256x192, .f32⟩
  | .local _ .vmem, ⟨45, _⟩ => ⟨S1x10x256x192, .f32⟩
  | .local _ .vmem, ⟨46, _⟩ => ⟨S1x10x256x64, .f32⟩
  | .local _ .vmem, ⟨47, _⟩ => ⟨S1x10x256x64, .f32⟩
  | .local _ .vmem, ⟨48, _⟩ => ⟨S1x256x64, .f32⟩
  | .local _ .vmem, ⟨49, _⟩ => ⟨S1x256x64, .f32⟩
  | .local _ .vmem, ⟨50, _⟩ => ⟨S1x2048x64, .f32⟩
  | .local _ .vmem, ⟨51, _⟩ => ⟨S1x2048x64, .f32⟩
  | .local _ .vmem, ⟨52, _⟩ => ⟨S1x256x64, .f32⟩
  | .local _ .vmem, ⟨53, _⟩ => ⟨S1x256x64, .f32⟩
  | .local _ .vmem, ⟨54, _⟩ => ⟨S1x256x192, .f32⟩
  | .local _ .vmem, ⟨55, _⟩ => ⟨S1x256x192, .f32⟩
  | .local _ .vmem, ⟨56, _⟩ => ⟨S1x256x10, .i32⟩
  | .local _ .vmem, ⟨57, _⟩ => ⟨S1x256x10, .i32⟩
  | .local _ .vmem, ⟨58, _⟩ => ⟨S1x10x256x192, .f32⟩
  | .local _ .vmem, ⟨59, _⟩ => ⟨S1x10x256x192, .f32⟩
  | .local _ .vmem, ⟨60, _⟩ => ⟨S1x10x256x64, .f32⟩
  | .local _ .vmem, ⟨61, _⟩ => ⟨S1x10x256x64, .f32⟩
  | .local _ .vmem, ⟨62, _⟩ => ⟨S1x256x64, .f32⟩
  | .local _ .vmem, ⟨63, _⟩ => ⟨S1x256x64, .f32⟩
  | .local _ .vmem, ⟨64, _⟩ => ⟨S1x2048x64, .f32⟩
  | .local _ .vmem, ⟨65, _⟩ => ⟨S1x2048x64, .f32⟩
  | .local _ .vmem, ⟨66, _⟩ => ⟨S1x256x64, .f32⟩
  | .local _ .vmem, ⟨67, _⟩ => ⟨S1x256x64, .f32⟩
  | .local _ .vmem, ⟨68, _⟩ => ⟨S1x256x192, .f32⟩
  | .local _ .vmem, ⟨69, _⟩ => ⟨S1x256x192, .f32⟩
  | .local _ .vmem, ⟨70, _⟩ => ⟨S1x256x10, .i32⟩
  | .local _ .vmem, ⟨71, _⟩ => ⟨S1x256x10, .i32⟩
  | .local _ .vmem, ⟨72, _⟩ => ⟨S1x10x256x192, .f32⟩
  | .local _ .vmem, ⟨73, _⟩ => ⟨S1x10x256x192, .f32⟩
  | .local _ .vmem, ⟨74, _⟩ => ⟨S1x10x256x64, .f32⟩
  | .local _ .vmem, ⟨75, _⟩ => ⟨S1x10x256x64, .f32⟩
  | .local _ .vmem, ⟨76, _⟩ => ⟨S1x256x64, .f32⟩
  | .local _ .vmem, ⟨77, _⟩ => ⟨S1x256x64, .f32⟩
  | .local _ .vmem, ⟨78, _⟩ => ⟨S1x2048x64, .f32⟩
  | .local _ .vmem, ⟨79, _⟩ => ⟨S1x2048x64, .f32⟩
  | .local _ .vmem, ⟨80, _⟩ => ⟨S1x2048x192, .f32⟩
  | .local _ .vmem, ⟨81, _⟩ => ⟨S1x2048x192, .f32⟩
  | .local _ .vmem, ⟨82, _⟩ => ⟨S1x2048x3, .f32⟩
  | .local _ .vmem, ⟨83, _⟩ => ⟨S1x2048x3, .f32⟩
  | .local _ .vmem, ⟨84, _⟩ => ⟨S1x2048x3, .f32⟩
  | .local _ .vmem, ⟨85, _⟩ => ⟨S1x2048x3, .f32⟩
  | _, _ => ⟨S4x2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg2_1 : Ref sig .tc := ⟨.vmem, 55, rfl⟩
abbrev cc4_stg3_0 : Ref sig .tc := ⟨.vmem, 56, rfl⟩
abbrev cc4_stg3_1 : Ref sig .tc := ⟨.vmem, 57, rfl⟩
abbrev cc4_stg4_0 : Ref sig .tc := ⟨.vmem, 58, rfl⟩
abbrev cc4_stg4_1 : Ref sig .tc := ⟨.vmem, 59, rfl⟩
abbrev cc4_stg5_0 : Ref sig .tc := ⟨.vmem, 60, rfl⟩
abbrev cc4_stg5_1 : Ref sig .tc := ⟨.vmem, 61, rfl⟩
abbrev cc4_stg6_0 : Ref sig .tc := ⟨.vmem, 62, rfl⟩
abbrev cc4_stg6_1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg2_1 : Ref sig .tc := ⟨.vmem, 69, rfl⟩
abbrev cc5_stg3_0 : Ref sig .tc := ⟨.vmem, 70, rfl⟩
abbrev cc5_stg3_1 : Ref sig .tc := ⟨.vmem, 71, rfl⟩
abbrev cc5_stg4_0 : Ref sig .tc := ⟨.vmem, 72, rfl⟩
abbrev cc5_stg4_1 : Ref sig .tc := ⟨.vmem, 73, rfl⟩
abbrev cc5_stg5_0 : Ref sig .tc := ⟨.vmem, 74, rfl⟩
abbrev cc5_stg5_1 : Ref sig .tc := ⟨.vmem, 75, rfl⟩
abbrev cc5_stg6_0 : Ref sig .tc := ⟨.vmem, 76, rfl⟩
abbrev cc5_stg6_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc6_stg3_0 : Ref sig .tc := ⟨.vmem, 84, rfl⟩
abbrev cc6_stg3_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem2_1 : DmaSem sig := 55
abbrev cc4_sem3_0 : DmaSem sig := 56
abbrev cc4_sem3_1 : DmaSem sig := 57
abbrev cc4_sem4_0 : DmaSem sig := 58
abbrev cc4_sem4_1 : DmaSem sig := 59
abbrev cc4_sem5_0 : DmaSem sig := 60
abbrev cc4_sem5_1 : DmaSem sig := 61
abbrev cc4_sem6_0 : DmaSem sig := 62
abbrev cc4_sem6_1 : DmaSem sig := 63
abbrev cc5_sem0_0 : DmaSem sig := 64
abbrev cc5_sem0_1 : DmaSem sig := 65
abbrev cc5_sem1_0 : DmaSem sig := 66
abbrev cc5_sem1_1 : DmaSem sig := 67
abbrev cc5_sem2_0 : DmaSem sig := 68
abbrev cc5_sem2_1 : DmaSem sig := 69
abbrev cc5_sem3_0 : DmaSem sig := 70
abbrev cc5_sem3_1 : DmaSem sig := 71
abbrev cc5_sem4_0 : DmaSem sig := 72
abbrev cc5_sem4_1 : DmaSem sig := 73
abbrev cc5_sem5_0 : DmaSem sig := 74
abbrev cc5_sem5_1 : DmaSem sig := 75
abbrev cc5_sem6_0 : DmaSem sig := 76
abbrev cc5_sem6_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem2_1 : DmaSem sig := 83
abbrev cc6_sem3_0 : DmaSem sig := 84
abbrev cc6_sem3_1 : DmaSem sig := 85

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2048x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x10x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

@[reducible] def k1_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
def k1_off1 (k1_t1 : Fin k1_t1_loop.trips) : Fin 4 → Nat :=
  let c0_25 : Index := 0#32
  let c0_i32 : BitVec 32 := 0#32
  let c1_i32 : BitVec 32 := 1#32
  let arg9 : BitVec 32 := Scf.iv c0_i32 c1_i32 k1_t1
  let v46 : Index := Scalar.indexCast arg9
  let c0_26 : Index := 0#32
  let c0_27 : Index := 0#32
  ![0, v46.toNat, 0, 0]
def k1_off2 (k1_t1 : Fin k1_t1_loop.trips) : Fin 4 → Nat :=
  let c0_28 : Index := 0#32
  let c0_i32 : BitVec 32 := 0#32
  let c1_i32 : BitVec 32 := 1#32
  let arg9 : BitVec 32 := Scf.iv c0_i32 c1_i32 k1_t1
  let v50 : Index := Scalar.indexCast arg9
  let c0_29 : Index := 0#32
  let c0_30 : Index := 0#32
  ![0, v50.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x10 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x10x256x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x10x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![4, 8], ![false, false]⟩

@[reducible] def k2_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
def k2_off1 (k2_t1 : Fin k2_t1_loop.trips) : Fin 4 → Nat :=
  let c0_25 : Index := 0#32
  let c0_i32 : BitVec 32 := 0#32
  let c1_i32 : BitVec 32 := 1#32
  let arg9 : BitVec 32 := Scf.iv c0_i32 c1_i32 k2_t1
  let v46 : Index := Scalar.indexCast arg9
  let c0_26 : Index := 0#32
  let c0_27 : Index := 0#32
  ![0, v46.toNat, 0, 0]
def k2_off2 (k2_t1 : Fin k2_t1_loop.trips) : Fin 4 → Nat :=
  let c0_28 : Index := 0#32
  let c0_i32 : BitVec 32 := 0#32
  let c1_i32 : BitVec 32 := 1#32
  let arg9 : BitVec 32 := Scf.iv c0_i32 c1_i32 k2_t1
  let v50 : Index := Scalar.indexCast arg9
  let c0_29 : Index := 0#32
  let c0_30 : Index := 0#32
  ![0, v50.toNat, 0, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x10 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x10x256x192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x10x256x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 8], ![false, false]⟩

@[reducible] def k3_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
def k3_off1 (k3_t1 : Fin k3_t1_loop.trips) : Fin 4 → Nat :=
  let c0_25 : Index := 0#32
  let c0_i32 : BitVec 32 := 0#32
  let c1_i32 : BitVec 32 := 1#32
  let arg9 : BitVec 32 := Scf.iv c0_i32 c1_i32 k3_t1
  let v46 : Index := Scalar.indexCast arg9
  let c0_26 : Index := 0#32
  let c0_27 : Index := 0#32
  ![0, v46.toNat, 0, 0]
def k3_off2 (k3_t1 : Fin k3_t1_loop.trips) : Fin 4 → Nat :=
  let c0_28 : Index := 0#32
  let c0_i32 : BitVec 32 := 0#32
  let c1_i32 : BitVec 32 := 1#32
  let arg9 : BitVec 32 := Scf.iv c0_i32 c1_i32 k3_t1
  let v50 : Index := Scalar.indexCast arg9
  let c0_29 : Index := 0#32
  let c0_30 : Index := 0#32
  ![0, v50.toNat, 0, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x256x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x256x10 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x10x256x192 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x10x256x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![4, 8], ![false, false]⟩

@[reducible] def k4_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
def k4_off1 (k4_t1 : Fin k4_t1_loop.trips) : Fin 4 → Nat :=
  let c0_25 : Index := 0#32
  let c0_i32 : BitVec 32 := 0#32
  let c1_i32 : BitVec 32 := 1#32
  let arg9 : BitVec 32 := Scf.iv c0_i32 c1_i32 k4_t1
  let v46 : Index := Scalar.indexCast arg9
  let c0_26 : Index := 0#32
  let c0_27 : Index := 0#32
  ![0, v46.toNat, 0, 0]
def k4_off2 (k4_t1 : Fin k4_t1_loop.trips) : Fin 4 → Nat :=
  let c0_28 : Index := 0#32
  let c0_i32 : BitVec 32 := 0#32
  let c1_i32 : BitVec 32 := 1#32
  let arg9 : BitVec 32 := Scf.iv c0_i32 c1_i32 k4_t1
  let v50 : Index := Scalar.indexCast arg9
  let c0_29 : Index := 0#32
  let c0_30 : Index := 0#32
  ![0, v50.toNat, 0, 0]
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_5 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x256x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256x192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x256x10 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x10x256x192 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x10x256x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x256x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![4, 8], ![false, false]⟩

@[reducible] def k5_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
def k5_off1 (k5_t1 : Fin k5_t1_loop.trips) : Fin 4 → Nat :=
  let c0_25 : Index := 0#32
  let c0_i32 : BitVec 32 := 0#32
  let c1_i32 : BitVec 32 := 1#32
  let arg9 : BitVec 32 := Scf.iv c0_i32 c1_i32 k5_t1
  let v46 : Index := Scalar.indexCast arg9
  let c0_26 : Index := 0#32
  let c0_27 : Index := 0#32
  ![0, v46.toNat, 0, 0]
def k5_off2 (k5_t1 : Fin k5_t1_loop.trips) : Fin 4 → Nat :=
  let c0_28 : Index := 0#32
  let c0_i32 : BitVec 32 := 0#32
  let c1_i32 : BitVec 32 := 1#32
  let arg9 : BitVec 32 := Scf.iv c0_i32 c1_i32 k5_t1
  let v50 : Index := Scalar.indexCast arg9
  let c0_29 : Index := 0#32
  let c0_30 : Index := 0#32
  ![0, v50.toNat, 0, 0]
def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_4 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_5 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x256x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x256x192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x256x10 .i32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x10x256x192 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x10x256x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x256x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2048x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x192 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048x3 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x2048x3 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]
-- ==== LbpReferenceIdeal.lean ====
abbrev S4x2048x192 : Shape := ⟨3, ![4, 2048, 192]⟩
abbrev S4x2048x10 : Shape := ⟨3, ![4, 2048, 10]⟩
abbrev S4x2048x64 : Shape := ⟨3, ![4, 2048, 64]⟩
abbrev S4x2048x3 : Shape := ⟨3, ![4, 2048, 3]⟩
abbrev S4x2048x3x64 : Shape := ⟨4, ![4, 2048, 3, 64]⟩
abbrev S_ : Shape := ⟨0, ![]⟩
abbrev S4x2048x10x1 : Shape := ⟨4, ![4, 2048, 10, 1]⟩
abbrev S4x2048x10x3x64 : Shape := ⟨5, ![4, 2048, 10, 3, 64]⟩
abbrev S4x2048x10x3x64x1 : Shape := ⟨6, ![4, 2048, 10, 3, 64, 1]⟩
abbrev S4x2048x1x3x1x64 : Shape := ⟨6, ![4, 2048, 1, 3, 1, 64]⟩
abbrev S4x2048x10x3x64x64 : Shape := ⟨6, ![4, 2048, 10, 3, 64, 64]⟩
abbrev S4x2048x10x64x64 : Shape := ⟨5, ![4, 2048, 10, 64, 64]⟩
abbrev S4x2048x10x64 : Shape := ⟨4, ![4, 2048, 10, 64]⟩
abbrev S4x2048x10x64x1 : Shape := ⟨5, ![4, 2048, 10, 64, 1]⟩
abbrev S4x2048 : Shape := ⟨2, ![4, 2048]⟩
abbrev S4x2048x1 : Shape := ⟨3, ![4, 2048, 1]⟩
abbrev S4x2048x1x64 : Shape := ⟨4, ![4, 2048, 1, 64]⟩

abbrev nBuf : Space → Nat
  | .hbm => 131
  | .vmem => 0
  | .smem => 0
  | _ => 0

abbrev hbmTy0_0 (i : Nat) : BufTy := match i % 128 with
  | 0 => ⟨S4x2048x192, .f32⟩
  | 1 => ⟨S4x2048x10, .i32⟩
  | 2 => ⟨S4x2048x64, .f32⟩
  | 3 => ⟨S4x2048x3, .f32⟩
  | 4 => ⟨S4x2048x3x64, .f32⟩
  | 5 => ⟨S_, .i32⟩
  | 6 => ⟨S4x2048x10, .i32⟩
  | 7 => ⟨S4x2048x10, .i1⟩
  | 8 => ⟨S_, .i32⟩
  | 9 => ⟨S4x2048x10, .i32⟩
  | 10 => ⟨S4x2048x10, .i32⟩
  | 11 => ⟨S4x2048x10, .i32⟩
  | 12 => ⟨S4x2048x10x1, .i32⟩
  | 13 => ⟨S4x2048x10x3x64, .f32⟩
  | 14 => ⟨S4x2048x10x3x64x1, .f32⟩
  | 15 => ⟨S4x2048x1x3x1x64, .f32⟩
  | 16 => ⟨S4x2048x10x3x64x64, .f32⟩
  | 17 => ⟨S4x2048x10x3x64x64, .f32⟩
  | 18 => ⟨S4x2048x10x3x64x64, .f32⟩
  | 19 => ⟨S4x2048x10x3x64x64, .f32⟩
  | 20 => ⟨S_, .f32⟩
  | 21 => ⟨S4x2048x10x64x64, .f32⟩
  | 22 => ⟨S_, .f32⟩
  | 23 => ⟨S4x2048x10x64x64, .f32⟩
  | 24 => ⟨S4x2048x10x64x64, .f32⟩
  | 25 => ⟨S_, .i32⟩
  | 26 => ⟨S4x2048x10, .i32⟩
  | 27 => ⟨S4x2048x10, .i1⟩
  | 28 => ⟨S_, .i32⟩
  | 29 => ⟨S4x2048x10, .i32⟩
  | 30 => ⟨S4x2048x10, .i32⟩
  | 31 => ⟨S4x2048x10, .i32⟩
  | 32 => ⟨S4x2048x10x1, .i32⟩
  | 33 => ⟨S4x2048x10x64, .f32⟩
  | 34 => ⟨S4x2048x10x64x1, .f32⟩
  | 35 => ⟨S4x2048x10x64x64, .f32⟩
  | 36 => ⟨S4x2048x10x64x64, .f32⟩
  | 37 => ⟨S_, .f32⟩
  | 38 => ⟨S4x2048x10x64, .f32⟩
  | 39 => ⟨S_, .f32⟩
  | 40 => ⟨S4x2048x64, .f32⟩
  | 41 => ⟨S4x2048x64, .f32⟩
  | 42 => ⟨S_, .i32⟩
  | 43 => ⟨S4x2048x10, .i32⟩
  | 44 => ⟨S4x2048x10, .i1⟩
  | 45 => ⟨S_, .i32⟩
  | 46 => ⟨S4x2048x10, .i32⟩
  | 47 => ⟨S4x2048x10, .i32⟩
  | 48 => ⟨S4x2048x10, .i32⟩
  | 49 => ⟨S4x2048x10x1, .i32⟩
  | 50 => ⟨S4x2048x10x64, .f32⟩
  | 51 => ⟨S4x2048x10x64x1, .f32⟩
  | 52 => ⟨S4x2048x10x64x64, .f32⟩
  | 53 => ⟨S4x2048x10x64x64, .f32⟩
  | 54 => ⟨S_, .f32⟩
  | 55 => ⟨S4x2048x10x64, .f32⟩
  | 56 => ⟨S_, .f32⟩
  | 57 => ⟨S4x2048x64, .f32⟩
  | 58 => ⟨S4x2048x64, .f32⟩
  | 59 => ⟨S_, .i32⟩
  | 60 => ⟨S4x2048x10, .i32⟩
  | 61 => ⟨S4x2048x10, .i1⟩
  | 62 => ⟨S_, .i32⟩
  | 63 => ⟨S4x2048x10, .i32⟩
  | 64 => ⟨S4x2048x10, .i32⟩
  | 65 => ⟨S4x2048x10, .i32⟩
  | 66 => ⟨S4x2048x10x1, .i32⟩
  | 67 => ⟨S4x2048x10x64, .f32⟩
  | 68 => ⟨S4x2048x10x64x1, .f32⟩
  | 69 => ⟨S4x2048x10x64x64, .f32⟩
  | 70 => ⟨S4x2048x10x64x64, .f32⟩
  | 71 => ⟨S_, .f32⟩
  | 72 => ⟨S4x2048x10x64, .f32⟩
  | 73 => ⟨S_, .f32⟩
  | 74 => ⟨S4x2048x64, .f32⟩
  | 75 => ⟨S4x2048x64, .f32⟩
  | 76 => ⟨S_, .i32⟩
  | 77 => ⟨S4x2048x10, .i32⟩
  | 78 => ⟨S4x2048x10, .i1⟩
  | 79 => ⟨S_, .i32⟩
  | 80 => ⟨S4x2048x10, .i32⟩
  | 81 => ⟨S4x2048x10, .i32⟩
  | 82 => ⟨S4x2048x10, .i32⟩
  | 83 => ⟨S4x2048x10x1, .i32⟩
  | 84 => ⟨S4x2048x10x64, .f32⟩
  | 85 => ⟨S4x2048x10x64x1, .f32⟩
  | 86 => ⟨S4x2048x10x64x64, .f32⟩
  | 87 => ⟨S4x2048x10x64x64, .f32⟩
  | 88 => ⟨S_, .f32⟩
  | 89 => ⟨S4x2048x10x64, .f32⟩
  | 90 => ⟨S_, .f32⟩
  | 91 => ⟨S4x2048x64, .f32⟩
  | 92 => ⟨S4x2048x64, .f32⟩
  | 93 => ⟨S_, .i32⟩
  | 94 => ⟨S4x2048x10, .i32⟩
  | 95 => ⟨S4x2048x10, .i1⟩
  | 96 => ⟨S_, .i32⟩
  | 97 => ⟨S4x2048x10, .i32⟩
  | 98 => ⟨S4x2048x10, .i32⟩
  | 99 => ⟨S4x2048x10, .i32⟩
  | 100 => ⟨S4x2048x10x1, .i32⟩
  | 101 => ⟨S4x2048x10x64, .f32⟩
  | 102 => ⟨S4x2048x10x64x1, .f32⟩
  | 103 => ⟨S4x2048x10x64x64, .f32⟩
  | 104 => ⟨S4x2048x10x64x64, .f32⟩
  | 105 => ⟨S_, .f32⟩
  | 106 => ⟨S4x2048x10x64, .f32⟩
  | 107 => ⟨S_, .f32⟩
  | 108 => ⟨S4x2048x64, .f32⟩
  | 109 => ⟨S4x2048x64, .f32⟩
  | 110 => ⟨S4x2048x64, .f32⟩
  | 111 => ⟨S_, .f32⟩
  | 112 => ⟨S4x2048, .f32⟩
  | 113 => ⟨S_, .f32⟩
  | 114 => ⟨S4x2048, .f32⟩
  | 115 => ⟨S4x2048, .f32⟩
  | 116 => ⟨S4x2048x1, .f32⟩
  | 117 => ⟨S4x2048x64, .f32⟩
  | 118 => ⟨S4x2048x64, .f32⟩
  | 119 => ⟨S4x2048x64, .f32⟩
  | 120 => ⟨S_, .f32⟩
  | 121 => ⟨S4x2048, .f32⟩
  | 122 => ⟨S4x2048x1, .f32⟩
  | 123 => ⟨S4x2048x64, .f32⟩
  | 124 => ⟨S4x2048x64, .f32⟩
  | 125 => ⟨S4x2048x1x64, .f32⟩
  | 126 => ⟨S4x2048x3x64, .f32⟩
  | 127 => ⟨S4x2048x3x64, .f32⟩
  | _ => ⟨S4x2048x192, .f32⟩

abbrev hbmTy0_1 (i : Nat) : BufTy := match i % 128 with
  | 0 => ⟨S_, .f32⟩
  | 1 => ⟨S4x2048x3, .f32⟩
  | 2 => ⟨S4x2048x3, .f32⟩
  | _ => ⟨S4x2048x192, .f32⟩

abbrev hbmTy (i : Nat) : BufTy := match i / 128 with
  | 0 => hbmTy0_0 i
  | 1 => hbmTy0_1 i
  | _ => ⟨S4x2048x192, .f32⟩

abbrev bufTy : (tb : Table) → Fin (tcTables nBuf tb) → BufTy
  | .hbm, ⟨i, _⟩ => hbmTy i
  | _, _ => ⟨S4x2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_c_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_c_18 : Ref sig .tc := ⟨.hbm, 93, rfl⟩
abbrev main_v69 : Ref sig .tc := ⟨.hbm, 94, rfl⟩
abbrev main_v70 : Ref sig .tc := ⟨.hbm, 95, rfl⟩
abbrev main_c_19 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_20 : Ref sig .tc := ⟨.hbm, 105, rfl⟩
abbrev main_v79 : Ref sig .tc := ⟨.hbm, 106, rfl⟩
abbrev main_cst_21 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_22 : Ref sig .tc := ⟨.hbm, 111, rfl⟩
abbrev main_v83 : Ref sig .tc := ⟨.hbm, 112, rfl⟩
abbrev main_cst_23 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_25 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]
-- ==== Edge.lean ====
abbrev S4x2048x3 : Shape := ⟨3, ![4, 2048, 3]⟩
abbrev S4x2048x10 : Shape := ⟨3, ![4, 2048, 10]⟩
abbrev S6x64 : Shape := ⟨2, ![6, 64]⟩
abbrev S1x64 : Shape := ⟨2, ![1, 64]⟩
abbrev S4x2048x64 : Shape := ⟨3, ![4, 2048, 64]⟩
abbrev S1x2048x3 : Shape := ⟨3, ![1, 2048, 3]⟩
abbrev S1x256x10 : Shape := ⟨3, ![1, 256, 10]⟩
abbrev S1x256x64 : Shape := ⟨3, ![1, 256, 64]⟩
abbrev S2048x3 : Shape := ⟨2, ![2048, 3]⟩
abbrev S3x64 : Shape := ⟨2, ![3, 64]⟩
abbrev S2048x64 : Shape := ⟨2, ![2048, 64]⟩
abbrev S1x256x3 : Shape := ⟨3, ![1, 256, 3]⟩
abbrev S256x3 : Shape := ⟨2, ![256, 3]⟩
abbrev S256x64 : Shape := ⟨2, ![256, 64]⟩
abbrev S256x2048 : Shape := ⟨2, ![256, 2048]⟩
abbrev S1x256x1 : Shape := ⟨3, ![1, 256, 1]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x3, .f32⟩
  | .hbm, ⟨1, _⟩ => ⟨S4x2048x10, .i32⟩
  | .hbm, ⟨2, _⟩ => ⟨S6x64, .f32⟩
  | .hbm, ⟨3, _⟩ => ⟨S1x64, .f32⟩
  | .hbm, ⟨4, _⟩ => ⟨S4x2048x64, .f32⟩
  | .local _ .vmem, ⟨0, _⟩ => ⟨S1x2048x3, .f32⟩
  | .local _ .vmem, ⟨1, _⟩ => ⟨S1x2048x3, .f32⟩
  | .local _ .vmem, ⟨2, _⟩ => ⟨S1x256x10, .i32⟩
  | .local _ .vmem, ⟨3, _⟩ => ⟨S1x256x10, .i32⟩
  | .local _ .vmem, ⟨4, _⟩ => ⟨S6x64, .f32⟩
  | .local _ .vmem, ⟨5, _⟩ => ⟨S1x64, .f32⟩
  | .local _ .vmem, ⟨6, _⟩ => ⟨S1x256x64, .f32⟩
  | .local _ .vmem, ⟨7, _⟩ => ⟨S1x256x64, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_off1 (i : grid0.Coords) : Fin 3 → Nat :=
  let c0_4 : Index := 0#32
  let arg1 : BitVec 32 := BitVec.ofNat 32 (i 1).val
  let c256_i32 : BitVec 32 := 256#32
  let v0 : BitVec 32 := Scalar.muli arg1 c256_i32
  let v6 : Index := Scalar.indexCast v0
  let c0_5 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EdgeReferenceIdeal.lean ====
abbrev S4x2048x3 : Shape := ⟨3, ![4, 2048, 3]⟩
abbrev S4x2048x10 : Shape := ⟨3, ![4, 2048, 10]⟩
abbrev S6x64 : Shape := ⟨2, ![6, 64]⟩
abbrev S1x64 : Shape := ⟨2, ![1, 64]⟩
abbrev S_ : Shape := ⟨0, ![]⟩
abbrev S4x2048x10x1 : Shape := ⟨4, ![4, 2048, 10, 1]⟩
abbrev S4x2048x10x3 : Shape := ⟨4, ![4, 2048, 10, 3]⟩
abbrev S4x2048x1x3 : Shape := ⟨4, ![4, 2048, 1, 3]⟩
abbrev S4x2048x10x6 : Shape := ⟨4, ![4, 2048, 10, 6]⟩
abbrev S4x2048x10x64 : Shape := ⟨4, ![4, 2048, 10, 64]⟩
abbrev S64 : Shape := ⟨1, ![64]⟩
abbrev S1x1x1x64 : Shape := ⟨4, ![1, 1, 1, 64]⟩
abbrev S4x2048x64 : Shape := ⟨3, ![4, 2048, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x10, .i32⟩
  | .hbm, ⟨2, _⟩ => ⟨S6x64, .f32⟩
  | .hbm, ⟨3, _⟩ => ⟨S1x64, .f32⟩
  | .hbm, ⟨4, _⟩ => ⟨S_, .i32⟩
  | .hbm, ⟨5, _⟩ => ⟨S4x2048x10, .i32⟩
  | .hbm, ⟨6, _⟩ => ⟨S4x2048x10, .i1⟩
  | .hbm, ⟨7, _⟩ => ⟨S_, .i32⟩
  | .hbm, ⟨8, _⟩ => ⟨S4x2048x10, .i32⟩
  | .hbm, ⟨9, _⟩ => ⟨S4x2048x10, .i32⟩
  | .hbm, ⟨10, _⟩ => ⟨S4x2048x10, .i32⟩
  | .hbm, ⟨11, _⟩ => ⟨S4x2048x10x1, .i32⟩
  | .hbm, ⟨12, _⟩ => ⟨S4x2048x10x3, .f32⟩
  | .hbm, ⟨13, _⟩ => ⟨S4x2048x1x3, .f32⟩
  | .hbm, ⟨14, _⟩ => ⟨S4x2048x10x3, .f32⟩
  | .hbm, ⟨15, _⟩ => ⟨S4x2048x10x3, .f32⟩
  | .hbm, ⟨16, _⟩ => ⟨S4x2048x10x6, .f32⟩
  | .hbm, ⟨17, _⟩ => ⟨S4x2048x10x64, .f32⟩
  | .hbm, ⟨18, _⟩ => ⟨S64, .f32⟩
  | .hbm, ⟨19, _⟩ => ⟨S1x1x1x64, .f32⟩
  | .hbm, ⟨20, _⟩ => ⟨S4x2048x10x64, .f32⟩
  | .hbm, ⟨21, _⟩ => ⟨S4x2048x10x64, .f32⟩
  | .hbm, ⟨22, _⟩ => ⟨S_, .f32⟩
  | .hbm, ⟨23, _⟩ => ⟨S4x2048x10x64, .f32⟩
  | .hbm, ⟨24, _⟩ => ⟨S4x2048x10x64, .f32⟩
  | .hbm, ⟨25, _⟩ => ⟨S_, .f32⟩
  | .hbm, ⟨26, _⟩ => ⟨S4x2048x64, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Knn.lean ====
abbrev S4x2048x3 : Shape := ⟨3, ![4, 2048, 3]⟩
abbrev S4x3x2048 : Shape := ⟨3, ![4, 3, 2048]⟩
abbrev S4x2048x10 : Shape := ⟨3, ![4, 2048, 10]⟩
abbrev S1x256x3 : Shape := ⟨3, ![1, 256, 3]⟩
abbrev S1x3x2048 : Shape := ⟨3, ![1, 3, 2048]⟩
abbrev S1x256x10 : Shape := ⟨3, ![1, 256, 10]⟩
abbrev S256x3 : Shape := ⟨2, ![256, 3]⟩
abbrev S256x2048 : Shape := ⟨2, ![256, 2048]⟩
abbrev S256x1 : Shape := ⟨2, ![256, 1]⟩
abbrev S1x1x2048 : Shape := ⟨3, ![1, 1, 2048]⟩
abbrev S1x2048 : Shape := ⟨2, ![1, 2048]⟩
abbrev S1x10 : Shape := ⟨2, ![1, 10]⟩
abbrev S256x10 : Shape := ⟨2, ![256, 10]⟩
abbrev S256 : Shape := ⟨1, ![256]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x3, .f32⟩
  | .hbm, ⟨1, _⟩ => ⟨S4x3x2048, .f32⟩
  | .hbm, ⟨2, _⟩ => ⟨S4x2048x10, .i32⟩
  | .local _ .vmem, ⟨0, _⟩ => ⟨S1x256x3, .f32⟩
  | .local _ .vmem, ⟨1, _⟩ => ⟨S1x256x3, .f32⟩
  | .local _ .vmem, ⟨2, _⟩ => ⟨S1x3x2048, .f32⟩
  | .local _ .vmem, ⟨3, _⟩ => ⟨S1x3x2048, .f32⟩
  | .local _ .vmem, ⟨4, _⟩ => ⟨S1x256x10, .i32⟩
  | .local _ .vmem, ⟨5, _⟩ => ⟨S1x256x10, .i32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c10_i32 : BitVec 32 := 10#32
  let v41 : BitVec 32 := Scalar.addi c0_i32 c10_i32
  let c1_i32 : BitVec 32 := 1#32
  ⟨c0_i32, v41, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x10 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KnnReferenceIdeal.lean ====
abbrev S4x2048x3 : Shape := ⟨3, ![4, 2048, 3]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩
abbrev S4x2048x11 : Shape := ⟨3, ![4, 2048, 11]⟩
abbrev S4x2048x10 : Shape := ⟨3, ![4, 2048, 10]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x1x3, .f32⟩
  | .hbm, ⟨2, _⟩ => ⟨S4x1x2048x3, .f32⟩
  | .hbm, ⟨3, _⟩ => ⟨S4x2048x2048x3, .f32⟩
  | .hbm, ⟨4, _⟩ => ⟨S4x2048x2048x3, .f32⟩
  | .hbm, ⟨5, _⟩ => ⟨S4x2048x2048x3, .f32⟩
  | .hbm, ⟨6, _⟩ => ⟨S4x2048x2048x3, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x11, .f32⟩
  | .hbm, ⟨11, _⟩ => ⟨S4x2048x11, .i32⟩
  | .hbm, ⟨12, _⟩ => ⟨S4x2048x10, .i32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_values : Ref sig .tc := ⟨.hbm, 10, rfl⟩
abbrev main_indices : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Cand.lean ====
abbrev S4x2048x3 : Shape := ⟨3, ![4, 2048, 3]⟩
abbrev S4x2048x64 : Shape := ⟨3, ![4, 2048, 64]⟩
abbrev S4x3x2048 : Shape := ⟨3, ![4, 3, 2048]⟩
abbrev S4x64x2048 : Shape := ⟨3, ![4, 64, 2048]⟩
abbrev S4x2048x192 : Shape := ⟨3, ![4, 2048, 192]⟩
abbrev S1x256x3 : Shape := ⟨3, ![1, 256, 3]⟩
abbrev S1x2048x3 : Shape := ⟨3, ![1, 2048, 3]⟩
abbrev S1x3x2048 : Shape := ⟨3, ![1, 3, 2048]⟩
abbrev S1x256x64 : Shape := ⟨3, ![1, 256, 64]⟩
abbrev S1x64x2048 : Shape := ⟨3, ![1, 64, 2048]⟩
abbrev S1x256x192 : Shape := ⟨3, ![1, 256, 192]⟩
abbrev S256x3 : Shape := ⟨2, ![256, 3]⟩
abbrev S256x2048 : Shape := ⟨2, ![256, 2048]⟩
abbrev S256x1 : Shape := ⟨2, ![256, 1]⟩
abbrev S1x1x2048 : Shape := ⟨3, ![1, 1, 2048]⟩
abbrev S1x2048 : Shape := ⟨2, ![1, 2048]⟩
abbrev S256x64 : Shape := ⟨2, ![256, 64]⟩
abbrev S64x2048 : Shape := ⟨2, ![64, 2048]⟩
abbrev S256 : Shape := ⟨1, ![256]⟩
abbrev S2048 : Shape := ⟨1, ![2048]⟩
abbrev S1x64 : Shape := ⟨2, ![1, 64]⟩
abbrev S2048x3 : Shape := ⟨2, ![2048, 3]⟩

abbrev nBuf : Space → Nat
  | .hbm => 8
  | .vmem => 14
  | .smem => 0
  | _ => 0

abbrev bufTy : (tb : Table) → Fin (tcTables nBuf tb) → BufTy
  | .hbm, ⟨0, _⟩ => ⟨S4x2048x3, .f32⟩
  | .hbm, ⟨1, _⟩ => ⟨S4x2048x3, .f32⟩
  | .hbm, ⟨2, _⟩ => ⟨S4x2048x64, .f32⟩
  | .hbm, ⟨3, _⟩ => ⟨S4x2048x64, .f32⟩
  | .hbm, ⟨4, _⟩ => ⟨S4x3x2048, .f32⟩
  | .hbm, ⟨5, _⟩ => ⟨S4x64x2048, .f32⟩
  | .hbm, ⟨6, _⟩ => ⟨S4x2048x192, .f32⟩
  | .hbm, ⟨7, _⟩ => ⟨S4x2048x64, .f32⟩
  | .local _ .vmem, ⟨0, _⟩ => ⟨S1x256x3, .f32⟩
  | .local _ .vmem, ⟨1, _⟩ => ⟨S1x256x3, .f32⟩
  | .local _ .vmem, ⟨2, _⟩ => ⟨S1x2048x3, .f32⟩
  | .local _ .vmem, ⟨3, _⟩ => ⟨S1x2048x3, .f32⟩
  | .local _ .vmem, ⟨4, _⟩ => ⟨S1x3x2048, .f32⟩
  | .local _ .vmem, ⟨5, _⟩ => ⟨S1x3x2048, .f32⟩
  | .local _ .vmem, ⟨6, _⟩ => ⟨S1x256x64, .f32⟩
  | .local _ .vmem, ⟨7, _⟩ => ⟨S1x256x64, .f32⟩
  | .local _ .vmem, ⟨8, _⟩ => ⟨S1x64x2048, .f32⟩
  | .local _ .vmem, ⟨9, _⟩ => ⟨S1x64x2048, .f32⟩
  | .local _ .vmem, ⟨10, _⟩ => ⟨S1x256x192, .f32⟩
  | .local _ .vmem, ⟨11, _⟩ => ⟨S1x256x192, .f32⟩
  | .local _ .vmem, ⟨12, _⟩ => ⟨S1x256x64, .f32⟩
  | .local _ .vmem, ⟨13, _⟩ => ⟨S1x256x64, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c64_i32 : BitVec 32 := 64#32
  let v53 : BitVec 32 := Scalar.addi c0_i32 c64_i32
  let c1_i32 : BitVec 32 := 1#32
  ⟨c0_i32, v53, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CandReferenceIdeal.lean ====
abbrev S4x2048x3 : Shape := ⟨3, ![4, 2048, 3]⟩
abbrev S4x2048x64 : Shape := ⟨3, ![4, 2048, 64]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩
abbrev S4x2048x64x1 : Shape := ⟨4, ![4, 2048, 64, 1]⟩
abbrev S4x2048x64x3 : Shape := ⟨4, ![4, 2048, 64, 3]⟩
abbrev S4x2048x1x64 : Shape := ⟨4, ![4, 2048, 1, 64]⟩
abbrev S4x2048x64x64 : Shape := ⟨4, ![4, 2048, 64, 64]⟩
abbrev S4x2048x3x64 : Shape := ⟨4, ![4, 2048, 3, 64]⟩
abbrev S4x2048x192 : Shape := ⟨3, ![4, 2048, 192]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x3, .f32⟩
  | .hbm, ⟨2, _⟩ => ⟨S4x2048x64, .f32⟩
  | .hbm, ⟨3, _⟩ => ⟨S4x2048x64, .f32⟩
  | .hbm, ⟨4, _⟩ => ⟨S4x2048x1x3, .f32⟩
  | .hbm, ⟨5, _⟩ => ⟨S4x1x2048x3, .f32⟩
  | .hbm, ⟨6, _⟩ => ⟨S4x2048x2048x3, .f32⟩
  | .hbm, ⟨7, _⟩ => ⟨S4x2048x2048x3, .f32⟩
  | .hbm, ⟨8, _⟩ => ⟨S4x2048x2048x3, .f32⟩
  | .hbm, ⟨9, _⟩ => ⟨S4x2048x2048x3, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x2048x64, .f32⟩
  | .hbm, ⟨14, _⟩ => ⟨S4x2048x64, .i32⟩
  | .hbm, ⟨15, _⟩ => ⟨S_, .i32⟩
  | .hbm, ⟨16, _⟩ => ⟨S4x2048x64, .i32⟩
  | .hbm, ⟨17, _⟩ => ⟨S4x2048x64, .i1⟩
  | .hbm, ⟨18, _⟩ => ⟨S_, .i32⟩
  | .hbm, ⟨19, _⟩ => ⟨S4x2048x64, .i32⟩
  | .hbm, ⟨20, _⟩ => ⟨S4x2048x64, .i32⟩
  | .hbm, ⟨21, _⟩ => ⟨S4x2048x64, .i32⟩
  | .hbm, ⟨22, _⟩ => ⟨S4x2048x64x1, .i32⟩
  | .hbm, ⟨23, _⟩ => ⟨S4x2048x64x3, .f32⟩
  | .hbm, ⟨24, _⟩ => ⟨S4x2048x1x3, .f32⟩
  | .hbm, ⟨25, _⟩ => ⟨S4x2048x64x3, .f32⟩
  | .hbm, ⟨26, _⟩ => ⟨S4x2048x64x3, .f32⟩
  | .hbm, ⟨27, _⟩ => ⟨S4x2048x1x64, .f32⟩
  | .hbm, ⟨28, _⟩ => ⟨S_, .i32⟩
  | .hbm, ⟨29, _⟩ => ⟨S4x2048x64, .i32⟩
  | .hbm, ⟨30, _⟩ => ⟨S4x2048x64, .i1⟩
  | .hbm, ⟨31, _⟩ => ⟨S_, .i32⟩
  | .hbm, ⟨32, _⟩ => ⟨S4x2048x64, .i32⟩
  | .hbm, ⟨33, _⟩ => ⟨S4x2048x64, .i32⟩
  | .hbm, ⟨34, _⟩ => ⟨S4x2048x64, .i32⟩
  | .hbm, ⟨35, _⟩ => ⟨S4x2048x64x1, .i32⟩
  | .hbm, ⟨36, _⟩ => ⟨S4x2048x64x64, .f32⟩
  | .hbm, ⟨37, _⟩ => ⟨S4x2048x64x64, .f32⟩
  | .hbm, ⟨38, _⟩ => ⟨S4x2048x64x64, .f32⟩
  | .hbm, ⟨39, _⟩ => ⟨S4x2048x64x64, .f32⟩
  | .hbm, ⟨40, _⟩ => ⟨S_, .f32⟩
  | .hbm, ⟨41, _⟩ => ⟨S4x2048x64, .f32⟩
  | .hbm, ⟨42, _⟩ => ⟨S4x2048x3x64, .f32⟩
  | .hbm, ⟨43, _⟩ => ⟨S4x2048x192, .f32⟩
  | .hbm, ⟨44, _⟩ => ⟨S_, .f32⟩
  | .hbm, ⟨45, _⟩ => ⟨S4x2048x64, .f32⟩
  | .hbm, ⟨46, _⟩ => ⟨S4x2048x64, .f32⟩
  | .hbm, ⟨47, _⟩ => ⟨S_, .f32⟩
  | .hbm, ⟨48, _⟩ => ⟨S4x2048x64, .f32⟩
  | .hbm, ⟨49, _⟩ => ⟨S4x2048x64, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Cross.Stages.lean ====
/- The stages of one block of the cross-attention body, as functions of whole vectors: what one head computes, the
   layer normalisation, the feed-forward part, and the block's result, of which every store of the body is an instance. -/
module

public import proofs.«01_k».proof.Proof.Gen.KernelIdeal.Frame

@[expose] public section

set_option maxRecDepth 16384

noncomputable section

namespace Cert.KernelIdeal.Cross

open Cert.KernelIdeal Cert.KernelIdeal.Gen Idealize.ShloMosaic Idealize.ShloMosaic.TcCoe

variable {F : FTy → Type} [FloatOps F]

/-- A block of 256 rows less its rows' means. -/
def centre (x : FVec F S256x64 .f32) : FVec F S256x64 .f32 :=
  subf x (broadcastTo S256x64 (divf (shapeCast S256x1 (multiReduction .add [1] S256 x 0x00000000#32 reduces_S256x64_S256 (.inl rfl) rfl) shapeCasts_S256_S256x1)
    (broadcast S256x1 (Scalar.ofBits .f32 0x42800000#32))) broadcasts_S256x1_S256x64)

/-- The square root of the mean square of a block's rows, `1e-5` added under the root. -/
def spread (x : FVec F S256x64 .f32) : FVec F S256x1 .f32 :=
  sqrt (addf (divf (shapeCast S256x1 (multiReduction .add [1] S256 (mulf x x) 0x00000000#32 reduces_S256x64_S256 (.inl rfl) rfl) shapeCasts_S256_S256x1)
    (broadcast S256x1 (Scalar.ofBits .f32 0x42800000#32))) (broadcast S256x1 (Scalar.ofBits .f32 0x3727C5AC#32)))

/-- The layer normalisation of a block's rows. -/
def ln (x : FVec F S256x64 .f32) : FVec F S256x64 .f32 :=
  divf (centre x) (broadcastTo S256x64 (spread (centre x)) broadcasts_S256x1_S256x64)

/-- The scaled products of one head's queries with its keys. -/
def logits (q : FVec F S256x16 .f32) (k : FVec F S2048x16 .f32) : FVec F S256x2048 .f32 :=
  mulf (matmul dot_S256x16_S2048x16_S256x2048_1_1_0_0_n_n (some .fp32) q k (constant S256x2048 .f32 0x00000000#32))
    (broadcast S256x2048 (Scalar.ofBits .f32 0x3E800000#32))

/-- The exponentials of a block's rows, each row less its maximum. -/
def expo (l : FVec F S256x2048 .f32) : FVec F S256x2048 .f32 :=
  exp (subf l (broadcastTo S256x2048 (shapeCast S256x1 (multiReduction .maximumf [1] S256 l 0xFF800000#32 reduces_S256x2048_S256 (.inl rfl) rfl)
    shapeCasts_S256_S256x1) broadcasts_S256x1_S256x2048))

/-- The rows of a block divided by their sums. -/
def normed (e : FVec F S256x2048 .f32) : FVec F S256x2048 .f32 :=
  divf e (broadcastTo S256x2048 (shapeCast S256x1 (multiReduction .add [1] S256 e 0x00000000#32 reduces_S256x2048_S256 (.inl rfl) rfl)
    shapeCasts_S256_S256x1) broadcasts_S256x1_S256x2048)

/-- One head of the attention: the softmax of its logits applied to its values. -/
def head (q : FVec F S256x16 .f32) (k v : FVec F S2048x16 .f32) : FVec F S256x16 .f32 :=
  matmul dot_S256x2048_S2048x16_S256x16_1_0_0_1_n_n (some .fp32) (normed (expo (logits q k))) v (constant S256x16 .f32 0x00000000#32)

/-- The four heads side by side. -/
def heads (q : FVec F S256x64 .f32) (k v : FVec F S2048x64 .f32) : FVec F S256x64 .f32 :=
  concatenate S256x64 1 [
    ⟨S256x16, head (extractStridedSlice S256x16 ![0, 0] q slices_S256x64_o0_0_S256x16) (extractStridedSlice S2048x16 ![0, 0] k slices_S2048x64_o0_0_S2048x16) (extractStridedSlice S2048x16 ![0, 0] v slices_S2048x64_o0_0_S2048x16)⟩,
    ⟨S256x16, head (extractStridedSlice S256x16 ![0, 16] q slices_S256x64_o0_16_S256x16) (extractStridedSlice S2048x16 ![0, 16] k slices_S2048x64_o0_16_S2048x16) (extractStridedSlice S2048x16 ![0, 16] v slices_S2048x64_o0_16_S2048x16)⟩,
    ⟨S256x16, head (extractStridedSlice S256x16 ![0, 32] q slices_S256x64_o0_32_S256x16) (extractStridedSlice S2048x16 ![0, 32] k slices_S2048x64_o0_32_S2048x16) (extractStridedSlice S2048x16 ![0, 32] v slices_S2048x64_o0_32_S2048x16)⟩,
    ⟨S256x16, head (extractStridedSlice S256x16 ![0, 48] q slices_S256x64_o0_48_S256x16) (extractStridedSlice S2048x16 ![0, 48] k slices_S2048x64_o0_48_S2048x16) (extractStridedSlice S2048x16 ![0, 48] v slices_S2048x64_o0_48_S2048x16)⟩]
    concatenates_S256x16_S256x16_S256x16_S256x16_S256x64_d1

/-- The product of all 2048 rows of a batch with a weight matrix: the keys or the values. -/
def proj (x : Vec F S1x2048x64 .f32) (w : Vec F S64x64 .f32) : FVec F S2048x64 .f32 :=
  matmul dot_S2048x64_S64x64_S2048x64_1_0_0_1_n_n (some .fp32) (shapeCast S2048x64 x shapeCasts_S1x2048x64_S2048x64 : FVec F S2048x64 .f32) w (constant S2048x64 .f32 0x00000000#32)

/-- A product of 256 rows with a 64 by 64 weight matrix. -/
def lin (x : FVec F S256x64 .f32) (w : FVec F S64x64 .f32) : FVec F S256x64 .f32 :=
  matmul dot_S256x64_S64x64_S256x64_1_0_0_1_n_n (some .fp32) x w (constant S256x64 .f32 0x00000000#32)

/-- The hidden layer of the feed-forward part: the product with the first weights, the bias added, clipped below at zero. -/
def hidden (h : FVec F S256x64 .f32) (w1 : FVec F S64x1024 .f32) (b1 : FVec F S1x1024 .f32) : FVec F S256x1024 .f32 :=
  maximumf (addf (matmul dot_S256x64_S64x1024_S256x1024_1_0_0_1_n_n (some .fp32) h w1 (constant S256x1024 .f32 0x00000000#32))
    (broadcastTo S256x1024 b1 broadcasts_S1x1024_S256x1024)) (broadcast S256x1024 (Scalar.ofBits .f32 0x00000000#32))

/-- The feed-forward part with its residual. -/
def feed (h : FVec F S256x64 .f32) (w1 : FVec F S64x1024 .f32) (b1 : FVec F S1x1024 .f32) (w2 : FVec F S1024x64 .f32) (b2 : FVec F S1x64 .f32) : FVec F S256x64 .f32 :=
  addf h (addf (matmul dot_S256x1024_S1024x64_S256x64_1_0_0_1_n_n (some .fp32) (hidden h w1 b1) w2 (constant S256x64 .f32 0x00000000#32))
    (broadcastTo S256x64 b2 broadcasts_S1x64_S256x64))

/-- The attention part with its residual. -/
def mixed (qb : Vec F S1x256x64 .f32) (kv : Vec F S1x2048x64 .f32) (wq wk wv wo : Vec F S64x64 .f32) : FVec F S256x64 .f32 :=
  addf (shapeCast S256x64 qb shapeCasts_S1x256x64_S256x64)
    (lin (heads (lin (shapeCast S256x64 qb shapeCasts_S1x256x64_S256x64) wq) (proj kv wk) (proj kv wv)) wo)

/-- What the body stores for one block of 256 rows. -/
def block (qb : Vec F S1x256x64 .f32) (kv : Vec F S1x2048x64 .f32) (wq wk wv wo : Vec F S64x64 .f32)
    (w1 : Vec F S64x1024 .f32) (b1 : Vec F S1x1024 .f32) (w2 : Vec F S1024x64 .f32) (b2 : Vec F S1x64 .f32) : FVec F S1x256x64 .f32 :=
  shapeCast S1x256x64 (ln (feed (ln (mixed qb kv wq wk wv wo)) w1 b1 w2 b2)) shapeCasts_S256x64_S1x256x64

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 2000000 in
/-- Every store of the body is `block` of the rows that it loads. -/
theorem out_eq (x0 x1 : Vec F S1x2048x64 .f32) (x2 x3 x4 x5 : Vec F S64x64 .f32) (x6 : Vec F S64x1024 .f32) (x7 : Vec F S1x1024 .f32) (x8 : Vec F S1024x64 .f32) (x9 : Vec F S1x64 .f32) :
    out0_10 x0 x1 x2 x3 x4 x5 x6 x7 x8 x9 = View.canon [
      ⟨r0_13, block (View.ld x0 r0_13) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_12, block (View.ld x0 r0_12) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_11, block (View.ld x0 r0_11) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_10, block (View.ld x0 r0_10) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_9, block (View.ld x0 r0_9) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_8, block (View.ld x0 r0_8) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_7, block (View.ld x0 r0_7) (View.ld x1 r0_0) (View.ld x2 r0_1) (View.ld x3 r0_1) (View.ld x4 r0_1) (View.ld x5 r0_1) (View.ld x6 r0_3) (View.ld x7 r0_4) (View.ld x8 r0_5) (View.ld x9 r0_6)⟩,
      ⟨r0_2, block (View.ld x0 r0_2) (View.ld x1 r0_0) (View.ld x2 r0_1) (View.ld x3 r0_1) (View.ld x4 r0_1) (View.ld x5 r0_1) (View.ld x6 r0_3) (View.ld x7 r0_4) (View.ld x8 r0_5) (View.ld x9 r0_6)⟩] := by
  rfl

end Cert.KernelIdeal.Cross

end
-- ==== Proof.Cross.Row.lean ====
/- The mathematics of one row of the cross-attention, over the extended reals: the layer normalisation, one head of the
   attention, and the row's result as a function of the row, of its batch's rows and of the weights. -/
module

public import Idealize.ShloMosaic.Lib.Pointwise

@[expose] public section

noncomputable section

namespace Cert.CrossRow

open Idealize.ShloMosaic

/-- The row less its mean. -/
def cen (u : Fin 64 → EReal) (c : Fin 64) : EReal := u c - Ideal.div (∑ k, u k) (Ideal.ofBits FTy.f32 0x42800000#32)

/-- The square root of the row's mean square plus `1e-5`. -/
def spr (u : Fin 64 → EReal) : EReal :=
  Ideal.sqrt (Ideal.div (∑ k, u k * u k) (Ideal.ofBits FTy.f32 0x42800000#32) + Ideal.ofBits FTy.f32 0x3727C5AC#32)

/-- The layer normalisation of a row. -/
def lnr (u : Fin 64 → EReal) (c : Fin 64) : EReal := Ideal.div (cen u c) (spr (cen u))

/-- The exponential of a logit less the row's maximum. -/
def ex (l : Fin 2048 → EReal) (m : Fin 2048) : EReal :=
  Ideal.exp (l m - Finset.fold max (Ideal.ofBits FTy.f32 0xFF800000#32) l Finset.univ)

/-- A row's softmax applied to one column of values. -/
def soft (l v : Fin 2048 → EReal) : EReal := ∑ m, Ideal.div (ex l m) (∑ k, ex l k) * v m

/-- The column at place `d` of the head to which column `c` belongs. -/
def col (c : Fin 64) (d : Fin 16) : Fin 64 := ⟨c.val / 16 * 16 + d.val, by omega⟩

/-- The logits of the head to which column `c` belongs. -/
def lgt (q : Fin 64 → EReal) (K : Fin 2048 → Fin 64 → EReal) (c : Fin 64) (m : Fin 2048) : EReal :=
  Ideal.div (∑ d, q (col c d) * K m (col c d)) (Ideal.ofBits FTy.f32 0x40800000#32)

/-- A row times a matrix. -/
def vec {n k : ℕ} (u : Fin n → EReal) (w : Fin n → Fin k → EReal) (c : Fin k) : EReal := ∑ j, u j * w j c

/-- The attention part with its residual: `q` the row, `X` the rows attended to. -/
def mix (q : Fin 64 → EReal) (X : Fin 2048 → Fin 64 → EReal) (wq wk wv wo : Fin 64 → Fin 64 → EReal) (c : Fin 64) : EReal :=
  q c + vec (fun j => soft (lgt (vec q wq) (fun m => vec (X m) wk) j) (fun m => vec (X m) wv j)) wo c

/-- The feed-forward part with its residual. -/
def ffn (h : Fin 64 → EReal) (w1 : Fin 64 → Fin 1024 → EReal) (b1 : Fin 1024 → EReal) (w2 : Fin 1024 → Fin 64 → EReal) (b2 : Fin 64 → EReal) (c : Fin 64) : EReal :=
  h c + (vec (fun j => max (vec h w1 j + b1 j) 0) w2 c + b2 c)

/-- The row's result. -/
def out (q : Fin 64 → EReal) (X : Fin 2048 → Fin 64 → EReal) (wq wk wv wo : Fin 64 → Fin 64 → EReal)
    (w1 : Fin 64 → Fin 1024 → EReal) (b1 : Fin 1024 → EReal) (w2 : Fin 1024 → Fin 64 → EReal) (b2 : Fin 64 → EReal) (c : Fin 64) : EReal :=
  lnr (ffn (lnr (mix q X wq wk wv wo)) w1 b1 w2 b2) c

end Cert.CrossRow

end
-- ==== Proof.Cross.KernelRow.lean ====
/- What one block of the kernel holds, entry by entry: each stage at a row is the row's mathematics. -/
module

public import proofs.«01_k».proof.Proof.Cross.Stages
public import proofs.«01_k».proof.Proof.Cross.Row
public import Idealize.ShloMosaic.Lib.Pipeline.ValueKit

@[expose] public section

set_option maxRecDepth 16384

noncomputable section

namespace Cert.KernelIdeal.Cross

open Cert.KernelIdeal Cert.KernelIdeal.Gen Idealize.ShloMosaic Idealize.ShloMosaic.TcCoe Cert.CrossRow

theorem centre_at (x : FVec Ideal S256x64 .f32) (r : Fin 256) (c : Fin 64) : centre x (ix2 r c) = cen (fun k => x (ix2 r k)) c := by
  pointwise [centre, cen]

theorem spread_at (x : FVec Ideal S256x64 .f32) (r : Fin 256) (z : Fin 1) : spread x (ix2 r z) = spr (fun k => x (ix2 r k)) := by
  pointwise [spread, spr]

/-- The layer normalisation of a block, at an entry. -/
theorem ln_at (x : FVec Ideal S256x64 .f32) (r : Fin 256) (c : Fin 64) : ln x (ix2 r c) = lnr (fun k => x (ix2 r k)) c := by
  pointwise [ln, lnr, centre_at, spread_at]

/-- A product by a quarter is a quotient by four. -/
theorem quarter (x : EReal) : x * Ideal.ofBits FTy.f32 0x3E800000#32 = Ideal.div x (Ideal.ofBits FTy.f32 0x40800000#32) := by
  have h4 : Ideal.ofBits FTy.f32 0x40800000#32 = ((4 : ℝ) : EReal) := by
    simp [Ideal.ofBits, Ideal.ieee, -EReal.coe_mul]; norm_num
  have h14 : Ideal.ofBits FTy.f32 0x3E800000#32 = ((1 / 4 : ℝ) : EReal) := by
    simp [Ideal.ofBits, Ideal.ieee, -EReal.coe_mul]; norm_num
  rw [h4, h14, Ideal.div_coe (by norm_num)]

theorem logits_at (q : FVec Ideal S256x16 .f32) (k : FVec Ideal S2048x16 .f32) (r : Fin 256) (m : Fin 2048) :
    logits q k (ix2 r m) = Ideal.div (∑ d, q (ix2 r d) * k (ix2 m d)) (Ideal.ofBits FTy.f32 0x40800000#32) := by
  rw [← quarter]
  pointwise [logits]

theorem expo_at (l : FVec Ideal S256x2048 .f32) (r : Fin 256) (m : Fin 2048) : expo l (ix2 r m) = ex (fun k => l (ix2 r k)) m := by
  pointwise [expo, ex]

theorem normed_at (e : FVec Ideal S256x2048 .f32) (r : Fin 256) (m : Fin 2048) : normed e (ix2 r m) = Ideal.div (e (ix2 r m)) (∑ k, e (ix2 r k)) := by
  pointwise [normed]

/-- One head of a block, at an entry. -/
theorem head_at (q : FVec Ideal S256x16 .f32) (k v : FVec Ideal S2048x16 .f32) (r : Fin 256) (d : Fin 16) :
    head q k v (ix2 r d) = soft (fun m => Ideal.div (∑ d, q (ix2 r d) * k (ix2 m d)) (Ideal.ofBits FTy.f32 0x40800000#32)) (fun m => v (ix2 m d)) := by
  pointwise [head, soft, normed_at, expo_at, logits_at]

/-- The heads of a block, at an entry. -/
theorem heads_at (q : FVec Ideal S256x64 .f32) (k v : FVec Ideal S2048x64 .f32) (r : Fin 256) (c : Fin 64) :
    heads q k v (ix2 r c) = soft (lgt (fun j => q (ix2 r j)) (fun m j => k (ix2 m j)) c) (fun m => v (ix2 m c)) := by
  pointwise [heads, head_at]
  have key : ∀ (o : ℕ) (ho : o + 16 ≤ 64) (d : Fin 16), c.val = o + d.val → o % 16 = 0 →
    soft (fun m => Ideal.div (∑ e : Fin 16, q (ix2 r ⟨o + e.val, by omega⟩) * k (ix2 m ⟨o + e.val, by omega⟩)) (Ideal.ofBits FTy.f32 0x40800000#32)) (fun m => v (ix2 m ⟨o + d.val, by omega⟩))
     = soft (lgt (fun j => q (ix2 r j)) (fun m j => k (ix2 m j)) c) (fun m => v (ix2 m c)) := by
    intro o ho d hc h0
    have e1 : c = ⟨o + d.val, by omega⟩ := Fin.ext hc
    have e2 : ∀ e : Fin 16, col c e = ⟨o + e.val, by omega⟩ := fun e => Fin.ext (by simp only [col]; omega)
    unfold lgt
    simp only [e2]
    rw [← e1]
  by_cases h0 : c.val < 16
  · rw [dif_pos h0]
    have := key 0 (by omega) ⟨c.val, h0⟩ (Nat.zero_add _).symm (by omega)
    simpa only [Nat.zero_add] using this
  rw [dif_neg h0]
  by_cases h1 : c.val - 16 < 16
  · rw [dif_pos h1]
    exact key 16 (by omega) ⟨c.val - 16, h1⟩ (by simp only; omega) (by omega)
  rw [dif_neg h1]
  by_cases h2 : c.val - 16 - 16 < 16
  · rw [dif_pos h2]
    exact key 32 (by omega) ⟨c.val - 16 - 16, h2⟩ (by simp only; omega) (by omega)
  rw [dif_neg h2]
  exact key 48 (by omega) ⟨c.val - 16 - 16 - 16, by omega⟩ (by simp only; omega) (by omega)

theorem lin_at (x : FVec Ideal S256x64 .f32) (w : FVec Ideal S64x64 .f32) (r : Fin 256) (c : Fin 64) :
    lin x w (ix2 r c) = vec (fun j => x (ix2 r j)) (fun j k => w (ix2 j k)) c := by
  pointwise [lin, vec]

theorem proj_at (x : FVec Ideal S1x2048x64 .f32) (w : FVec Ideal S64x64 .f32) (m : Fin 2048) (c : Fin 64) :
    proj (F := Ideal) x w (ix2 m c) = vec (fun j => x (ix3 0 m j)) (fun j k => w (ix2 j k)) c := by
  pointwise [proj, vec]

theorem feed_at (h : FVec Ideal S256x64 .f32) (w1 : FVec Ideal S64x1024 .f32) (b1 : FVec Ideal S1x1024 .f32) (w2 : FVec Ideal S1024x64 .f32) (b2 : FVec Ideal S1x64 .f32) (r : Fin 256) (c : Fin 64) :
    feed h w1 b1 w2 b2 (ix2 r c) = ffn (fun j => h (ix2 r j)) (fun j k => w1 (ix2 j k)) (fun j => b1 (ix2 0 j)) (fun j k => w2 (ix2 j k)) (fun j => b2 (ix2 0 j)) c := by
  pointwise [feed, hidden, ffn, vec]

theorem mixed_at (qb : FVec Ideal S1x256x64 .f32) (kv : FVec Ideal S1x2048x64 .f32) (wq wk wv wo : FVec Ideal S64x64 .f32) (r : Fin 256) (c : Fin 64) :
    mixed (F := Ideal) qb kv wq wk wv wo (ix2 r c) = mix (fun j => qb (ix3 0 r j)) (fun m j => kv (ix3 0 m j)) (fun j k => wq (ix2 j k)) (fun j k => wk (ix2 j k)) (fun j k => wv (ix2 j k)) (fun j k => wo (ix2 j k)) c := by
  pointwise [mixed, mix, lin_at, heads_at, proj_at]

/-- A block at an entry is the row's result. -/
theorem block_at (qb : FVec Ideal S1x256x64 .f32) (kv : FVec Ideal S1x2048x64 .f32) (wq wk wv wo : FVec Ideal S64x64 .f32)
    (w1 : FVec Ideal S64x1024 .f32) (b1 : FVec Ideal S1x1024 .f32) (w2 : FVec Ideal S1024x64 .f32) (b2 : FVec Ideal S1x64 .f32) (z : Fin 1) (r : Fin 256) (c : Fin 64) :
    block (F := Ideal) qb kv wq wk wv wo w1 b1 w2 b2 (ix3 z r c) = out (fun j => qb (ix3 0 r j)) (fun m j => kv (ix3 0 m j)) (fun j k => wq (ix2 j k)) (fun j k => wk (ix2 j k)) (fun j k => wv (ix2 j k)) (fun j k => wo (ix2 j k))
      (fun j k => w1 (ix2 j k)) (fun j => b1 (ix2 0 j)) (fun j k => w2 (ix2 j k)) (fun j => b2 (ix2 0 j)) c := by
  pointwise [block, out, ln_at, feed_at, mixed_at]

end Cert.KernelIdeal.Cross

end
-- ==== Proof.Cross.RefRow.lean ====
/- What the cross-attention's reference computes, entry by entry: each of its named terms at a row is the row's mathematics. -/
module

public import proofs.«01_k».proof.Proof.Gen.ReferenceIdeal.Run
public import proofs.«01_k».proof.Proof.Cross.Row
public import Idealize.ShloMosaic.Lib.Pointwise

@[expose] public section

set_option maxRecDepth 16384

noncomputable section

namespace Cert.ReferenceIdeal.Cross

open Cert.ReferenceIdeal Cert.ReferenceIdeal.Gen Cert.ReferenceIdeal.Value Idealize.ShloMosaic Idealize.ShloMosaic.TcCoe Idealize.SL.Sem Idealize.ShloMosaic.StableHlo Cert.CrossRow

variable {F : FTy → Type} [FloatOps F]

/-- The reference's rows less their means. -/
def rcen (x : FVec F S4x2048x64 .f32) : FVec F S4x2048x64 .f32 :=
  subf x (broadcastInDim S4x2048x64 ![0, 1, 2] bcast_S4x2048x1_S4x2048x64_0_1_2 (Host.divf (broadcastInDim S4x2048x1 ![0, 1] bcast_S4x2048_S4x2048x1_0_1 (Host.reduceAdd x (constant S_ .f32 0x00000000#32) reducesTo_S4x2048x64_S4x2048_d2 h_S_)) (broadcastInDim S4x2048x1 ![] bcast_S_S4x2048x1 (constant S_ .f32 0x42800000#32))))

/-- The count by which the reference's variance divides. -/
def rcount : FVec F S_ .f32 := subf (constant S_ .f32 0x42800000#32) (sitofp .f32 (constantI S_ 32 0#32))

/-- The reference's layer normalisation. -/
def rln (x : FVec F S4x2048x64 .f32) : FVec F S4x2048x64 .f32 :=
  Host.divf (subf x (broadcastInDim S4x2048x64 ![0, 1, 2] bcast_S4x2048x1_S4x2048x64_0_1_2 (Host.divf (broadcastInDim S4x2048x1 ![0, 1] bcast_S4x2048_S4x2048x1_0_1 (Host.reduceAdd x (constant S_ .f32 0x00000000#32) reducesTo_S4x2048x64_S4x2048_d2 h_S_)) (broadcastInDim S4x2048x1 ![] bcast_S_S4x2048x1 (constant S_ .f32 0x42800000#32))))) (broadcastInDim S4x2048x64 ![0, 1, 2] bcast_S4x2048x1_S4x2048x64_0_1_2 (Host.sqrt (addf (select (broadcastInDim S4x2048x1 ![] bcast_S_S4x2048x1 (cmpf .ogt (rcount (F := F)) (constant S_ .f32 0x00000000#32))) (Host.divf (broadcastInDim S4x2048x1 ![0, 1] bcast_S4x2048_S4x2048x1_0_1 (Host.reduceAdd (mulf (rcen x) (rcen x)) (constant S_ .f32 0x00000000#32) reducesTo_S4x2048x64_S4x2048_d2 h_S_)) (broadcastInDim S4x2048x1 ![] bcast_S_S4x2048x1 (rcount (F := F)))) (broadcastInDim S4x2048x1 ![] bcast_S_S4x2048x1 (id (constant S_ .f32 0x7FC00000#32)))) (broadcastInDim S4x2048x1 ![] bcast_S_S4x2048x1 (constant S_ .f32 0x3727C5AC#32)))))

/-- The maxima that the reference's softmax subtracts. -/
def rmaxs (l : FVec F S4x4x2048x2048 .f32) : FVec F S4x4x2048 .f32 :=
  maximumf (broadcastInDim S4x4x2048 ![] bcast_S_S4x4x2048 (constant S_ .f32 0xFF800000#32)) (Host.reduce FloatOps.maximumf l (constant S_ .f32 0xFF800000#32) reducesTo_S4x4x2048x2048_S4x4x2048_d3 h_S_)

/-- The reference's exponentials of the logits. -/
def rexp (l : FVec F S4x4x2048x2048 .f32) : FVec F S4x4x2048x2048 .f32 :=
  Host.exp (subf l (broadcastInDim S4x4x2048x2048 ![0, 1, 2, 3] bcast_S4x4x2048x1_S4x4x2048x2048_0_1_2_3 (broadcastInDim S4x4x2048x1 ![0, 1, 2] bcast_S4x4x2048_S4x4x2048x1_0_1_2 (rmaxs l))))

/-- The reference's logits. -/
def rlog (x0 x1 : FVec F S4x2048x64 .f32) (x2 x3 : FVec F S64x64 .f32) : FVec F S4x4x2048x2048 .f32 :=
  Host.divf (Host.dotGeneral dot_S4x2048x4x16_S4x2048x4x16_S4x4x2048x2048_3_3_1_1_02_02 none (shapeCast _ (Host.dotGeneral dot_S4x2048x64_S64x64_S4x2048x64_2_0_01_1_n_n none x0 x2) shapeCasts_S4x2048x64_S4x2048x4x16) (shapeCast _ (Host.dotGeneral dot_S4x2048x64_S64x64_S4x2048x64_2_0_01_1_n_n none x1 x3) shapeCasts_S4x2048x64_S4x2048x4x16)) (broadcastInDim S4x4x2048x2048 ![] bcast_S_S4x4x2048x2048 (constant S_ .f32 0x40800000#32))

/-- The reference's attention part with its residual, from the exponentials of the logits. -/
def rmix (x0 x1 : FVec F S4x2048x64 .f32) (e : FVec F S4x4x2048x2048 .f32) (x4 x5 : FVec F S64x64 .f32) : FVec F S4x2048x64 .f32 :=
  addf x0 (Host.dotGeneral dot_S4x2048x64_S64x64_S4x2048x64_2_0_01_1_n_n none (shapeCast _ (transpose S4x2048x4x16 [0, 3, 1, 2] (Host.dotGeneral dot_S4x2048x4x16_S4x4x2048x2048_S4x4x16x2048_1_3_3_2_02_01 none (shapeCast _ (Host.dotGeneral dot_S4x2048x64_S64x64_S4x2048x64_2_0_01_1_n_n none x1 x4) shapeCasts_S4x2048x64_S4x2048x4x16) (Host.divf e (broadcastInDim S4x4x2048x2048 ![0, 1, 2, 3] bcast_S4x4x2048x1_S4x4x2048x2048_0_1_2_3 (broadcastInDim S4x4x2048x1 ![0, 1, 2] bcast_S4x4x2048_S4x4x2048x1_0_1_2 (Host.reduceAdd e (constant S_ .f32 0x00000000#32) reducesTo_S4x4x2048x2048_S4x4x2048_d3 h_S_))))) transposes_S4x4x16x2048_S4x2048x4x16_0_3_1_2) shapeCasts_S4x2048x4x16_S4x2048x64) x5)

/-- The reference's feed-forward part with its residual. -/
def rffn (h : FVec F S4x2048x64 .f32) (x6 : FVec F S64x1024 .f32) (x7 : FVec F S1x1024 .f32) (x8 : FVec F S1024x64 .f32) (x9 : FVec F S1x64 .f32) : FVec F S4x2048x64 .f32 :=
  addf h (addf (Host.dotGeneral dot_S4x2048x1024_S1024x64_S4x2048x64_2_0_01_1_n_n none (maximumf (addf (Host.dotGeneral dot_S4x2048x64_S64x1024_S4x2048x1024_2_0_01_1_n_n none h x6) (broadcastInDim S4x2048x1024 ![0, 1, 2] bcast_S1x1x1024_S4x2048x1024_0_1_2 (broadcastInDim S1x1x1024 ![2] bcast_S1024_S1x1x1024_2 (shapeCast _ x7 shapeCasts_S1x1024_S1024)))) (broadcastInDim S4x2048x1024 ![] bcast_S_S4x2048x1024 (constant S_ .f32 0x00000000#32))) x8) (broadcastInDim S4x2048x64 ![0, 1, 2] bcast_S1x1x64_S4x2048x64_0_1_2 (broadcastInDim S1x1x64 ![2] bcast_S64_S1x1x64_2 (shapeCast _ x9 shapeCasts_S1x64_S64))))

/-- The reference's result, of its arguments. -/
def rout (x0 x1 : FVec F S4x2048x64 .f32) (x2 x3 x4 x5 : FVec F S64x64 .f32) (x6 : FVec F S64x1024 .f32) (x7 : FVec F S1x1024 .f32) (x8 : FVec F S1024x64 .f32) (x9 : FVec F S1x64 .f32) : FVec F S4x2048x64 .f32 :=
  rln (rffn (rln (rmix x0 x1 (rexp (rlog x0 x1 x2 x3)) x4 x5)) x6 x7 x8 x9)

theorem v8_eq (V : Valuation τ sig (Elt F)) : res_main_v8 V = rlog (V (Proc.devRef .tc main_arg0)) (V (Proc.devRef .tc main_arg1)) (V (Proc.devRef .tc main_arg2)) (V (Proc.devRef .tc main_arg3)) := rfl
theorem v15_eq (V : Valuation τ sig (Elt F)) : res_main_v15 V = rexp (res_main_v8 V) := rfl
theorem v24_eq (V : Valuation τ sig (Elt F)) : res_main_v24 V = rmix (V (Proc.devRef .tc main_arg0)) (V (Proc.devRef .tc main_arg1)) (res_main_v15 V) (V (Proc.devRef .tc main_arg4)) (V (Proc.devRef .tc main_arg5)) := rfl
theorem v36_eq (V : Valuation τ sig (Elt F)) : res_main_v36 V = rln (res_main_v24 V) := rfl
theorem v48_eq (V : Valuation τ sig (Elt F)) : res_main_v48 V = rffn (res_main_v36 V) (V (Proc.devRef .tc main_arg6)) (V (Proc.devRef .tc main_arg7)) (V (Proc.devRef .tc main_arg8)) (V (Proc.devRef .tc main_arg9)) := rfl

/-- The count is 64, which is positive. -/
theorem count_pos : (0 : EReal) < Ideal.ofBits FTy.f32 0x42800000#32 - (FloatOps.sitofp FTy.f32 (0#32 : BitVec 32) : Ideal FTy.f32) := by
  have h : Ideal.ofBits FTy.f32 0x42800000#32 = ((64 : ℝ) : EReal) := by
    simp [Ideal.ofBits, Ideal.ieee, -EReal.coe_mul]; norm_num
  rw [h]
  show (0 : EReal) < ((64 : ℝ) : EReal) - (((0#32 : BitVec 32).toInt : ℝ) : EReal)
  simp

theorem count_eq : Ideal.ofBits FTy.f32 0x42800000#32 - (FloatOps.sitofp FTy.f32 (0#32 : BitVec 32) : Ideal FTy.f32) = Ideal.ofBits FTy.f32 0x42800000#32 := by
  show Ideal.ofBits FTy.f32 0x42800000#32 - (((0#32 : BitVec 32).toInt : ℝ) : EReal) = _
  simp

theorem rcen_at (x : FVec Ideal S4x2048x64 .f32) (b : Fin 4) (n : Fin 2048) (c : Fin 64) : rcen x (ix3 b n c) = cen (fun k => x (ix3 b n k)) c := by
  pointwise [rcen, cen]

/-- The reference's layer normalisation at an entry. -/
theorem rln_at (x : FVec Ideal S4x2048x64 .f32) (b : Fin 4) (n : Fin 2048) (c : Fin 64) : rln x (ix3 b n c) = lnr (fun k => x (ix3 b n k)) c := by
  pointwise [rln, rcount, rcen_at, lnr, spr]
  rw [if_pos count_pos, count_eq]
  simp only [cen]

/-- The host's maximum along the last of four axes, at an entry. -/
theorem hmax_at {n0 n1 n2 n3 : ℕ} {u : Shape} (x : FVec Ideal (⟨4, ![n0, n1, n2, n3]⟩ : Shape) .f32) (init : u.Idx → Ideal .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = Finset.fold max (init (Shape.Idx.first hu)) (fun k => x (ix4 a b c k)) Finset.univ := by
  pointwise

/-- A maximum of two vectors with the second at most the reduced one's value, at an entry. -/
theorem vmax_at {s : Shape} (x y : FVec Ideal s .f32) (i : s.Idx) (hx : x i = ⊥) : maximumf x y i = y i := by
  show max (x i) (y i) = y i
  rw [hx, max_eq_right bot_le]

theorem neg_inf : Ideal.ofBits FTy.f32 0xFF800000#32 = ⊥ := by simp [Ideal.ofBits, Ideal.ieee]

theorem rmaxs_at (l : FVec Ideal S4x4x2048x2048 .f32) (b h : Fin 4) (n : Fin 2048) :
    rmaxs l (ix3 b h n) = Finset.fold max (Ideal.ofBits FTy.f32 0xFF800000#32) (fun k => l (ix4 b h n k)) Finset.univ := by
  unfold rmaxs
  exact (vmax_at _ _ _ neg_inf).trans (hmax_at l (constant S_ .f32 0xFF800000#32) reducesTo_S4x4x2048x2048_S4x4x2048_d3 h_S_ b h n)

theorem rexp_at (l : FVec Ideal S4x4x2048x2048 .f32) (b h : Fin 4) (n m : Fin 2048) : rexp l (ix4 b h n m) = ex (fun k => l (ix4 b h n k)) m := by
  pointwise [rexp, ex, rmaxs_at]

theorem rlog_at (x0 x1 : FVec Ideal S4x2048x64 .f32) (x2 x3 : FVec Ideal S64x64 .f32) (b h : Fin 4) (n m : Fin 2048) : rlog x0 x1 x2 x3 (ix4 b h n m) =
    Ideal.div (∑ d : Fin 16, (∑ k, x0 (ix3 b n k) * x2 (ix2 k ⟨h.val * 16 + d.val, by omega⟩)) * (∑ k, x1 (ix3 b m k) * x3 (ix2 k ⟨h.val * 16 + d.val, by omega⟩))) (Ideal.ofBits FTy.f32 0x40800000#32) := by
  pointwise [rlog]

theorem rmix_at (x0 x1 : FVec Ideal S4x2048x64 .f32) (e : FVec Ideal S4x4x2048x2048 .f32) (x4 x5 : FVec Ideal S64x64 .f32) (b : Fin 4) (n : Fin 2048) (c : Fin 64) : rmix x0 x1 e x4 x5 (ix3 b n c) =
    x0 (ix3 b n c) + ∑ j : Fin 64, (∑ m, (∑ k, x1 (ix3 b m k) * x4 (ix2 k j)) * Ideal.div (e (ix4 b ⟨j.val / 16, by omega⟩ n m)) (∑ k, e (ix4 b ⟨j.val / 16, by omega⟩ n k))) * x5 (ix2 j c) := by
  pointwise [rmix]

theorem rffn_at (h : FVec Ideal S4x2048x64 .f32) (x6 : FVec Ideal S64x1024 .f32) (x7 : FVec Ideal S1x1024 .f32) (x8 : FVec Ideal S1024x64 .f32) (x9 : FVec Ideal S1x64 .f32) (b : Fin 4) (n : Fin 2048) (c : Fin 64) : rffn h x6 x7 x8 x9 (ix3 b n c) =
    ffn (fun j => h (ix3 b n j)) (fun j k => x6 (ix2 j k)) (fun j => x7 (ix2 0 j)) (fun j k => x8 (ix2 j k)) (fun j => x9 (ix2 0 j)) c := by
  pointwise [rffn, ffn, vec]

/-- The attention part at an entry is the row's. -/
theorem mix_at (x0 x1 : FVec Ideal S4x2048x64 .f32) (x2 x3 x4 x5 : FVec Ideal S64x64 .f32) (b : Fin 4) (n : Fin 2048) (c : Fin 64) : rmix x0 x1 (rexp (rlog x0 x1 x2 x3)) x4 x5 (ix3 b n c) =
    mix (fun j => x0 (ix3 b n j)) (fun m j => x1 (ix3 b m j)) (fun j k => x2 (ix2 j k)) (fun j k => x3 (ix2 j k)) (fun j k => x4 (ix2 j k)) (fun j k => x5 (ix2 j k)) c := by
  rw [rmix_at]
  simp only [rexp_at, rlog_at]
  unfold mix soft
  congr 1
  unfold vec lgt
  refine Finset.sum_congr rfl fun j _ => ?_
  congr 1
  refine Finset.sum_congr rfl fun m _ => ?_
  exact mul_comm _ _

/-- The reference's result at an entry is the row's. -/
theorem rout_at (x0 x1 : FVec Ideal S4x2048x64 .f32) (x2 x3 x4 x5 : FVec Ideal S64x64 .f32) (x6 : FVec Ideal S64x1024 .f32) (x7 : FVec Ideal S1x1024 .f32) (x8 : FVec Ideal S1024x64 .f32) (x9 : FVec Ideal S1x64 .f32) (b : Fin 4) (n : Fin 2048) (c : Fin 64) : rout x0 x1 x2 x3 x4 x5 x6 x7 x8 x9 (ix3 b n c) =
    out (fun j => x0 (ix3 b n j)) (fun m j => x1 (ix3 b m j)) (fun j k => x2 (ix2 j k)) (fun j k => x3 (ix2 j k)) (fun j k => x4 (ix2 j k)) (fun j k => x5 (ix2 j k))
      (fun j k => x6 (ix2 j k)) (fun j => x7 (ix2 0 j)) (fun j k => x8 (ix2 j k)) (fun j => x9 (ix2 0 j)) c := by
  unfold rout out
  simp only [rln_at, rffn_at, mix_at]

end Cert.ReferenceIdeal.Cross

end
-- ==== Proof.Cross.Final.lean ====
/- The cross-attention kernel's result array is the reference's term of the arguments: block by block, entry by entry. -/
module

public import proofs.«01_k».proof.Proof.Gen.KernelIdeal.Value
public import proofs.«01_k».proof.Proof.Cross.KernelRow
public import proofs.«01_k».proof.Proof.Cross.RefRow
public import Idealize.ShloMosaic.Lib.Pipeline.ValueKit

@[expose] public section

set_option maxRecDepth 16384

noncomputable section

namespace Cert.KernelIdeal.Cross

open Cert.KernelIdeal Cert.KernelIdeal.Gen Cert.KernelIdeal.Value Idealize.ShloMosaic Idealize.ShloMosaic.TcCoe Idealize.SL.Sem Cert.CrossRow

variable (m : (ℓ : Loc nD τ sig) → Buf (Elt Ideal) ℓ)

/-- The reference's result of this program's arguments. -/
def REF (c : Dev nD) : FVec Ideal S4x2048x64 .f32 :=
  Cert.ReferenceIdeal.Cross.rout (F := Ideal)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The block's array at an entry is the row's result, of the row of the first window and the rows of the second. -/
theorem out_at (x0 x1 : FVec Ideal S1x2048x64 .f32) (x2 x3 x4 x5 : FVec Ideal S64x64 .f32) (x6 : FVec Ideal S64x1024 .f32) (x7 : FVec Ideal S1x1024 .f32) (x8 : FVec Ideal S1024x64 .f32) (x9 : FVec Ideal S1x64 .f32) (y : S1x2048x64.Idx) :
    out0_10 (F := Ideal) x0 x1 x2 x3 x4 x5 x6 x7 x8 x9 y =
      out (fun j => x0 (ix3 0 ⟨(y 1).val, (y 1).isLt⟩ j)) (fun m j => x1 (ix3 0 m j)) (fun j k => x2 (ix2 j k)) (fun j k => x3 (ix2 j k)) (fun j k => x4 (ix2 j k)) (fun j k => x5 (ix2 j k))
      (fun j k => x6 (ix2 j k)) (fun j => x7 (ix2 0 j)) (fun j k => x8 (ix2 j k)) (fun j => x9 (ix2 0 j)) ⟨(y 2).val, (y 2).isLt⟩ := by
  rw [out_eq]
  canon_tiles x h
  all_goals
    obtain ⟨a, r, k, rfl⟩ : ∃ (a : Fin 1) (r : Fin 256) (k : Fin 64), x = ix3 a r k := ⟨⟨(x 0).val, (x 0).isLt⟩, ⟨(x 1).val, (x 1).isLt⟩, ⟨(x 2).val, (x 2).isLt⟩, by funext q; fin_cases q <;> rfl⟩
    refine (block_at _ _ _ _ _ _ _ _ _ _ a r k).trans ?_
    congr 1
    all_goals first | (funext j n) | (funext j) | skip
    all_goals first
      | exact Fin.ext h2.symm
      | (refine View.ld_unit_apply_of _ _ _ _ _ _ fun q => ?_
         fin_cases q <;> first | exact (Nat.zero_add _).symm | exact h1 | exact h1.trans (Nat.zero_add _).symm)

/-- The reference's result at an entry. -/
theorem REF_at (c : Dev nD) (b : Fin 4) (n : Fin 2048) (k : Fin 64) : REF m c (ix3 b n k) =
    out (fun j => m ((c.tc : Thread nD τ).loc main_arg0) (ix3 b n j)) (fun n j => m ((c.tc : Thread nD τ).loc main_arg1) (ix3 b n j)) (fun j k => m ((c.tc : Thread nD τ).loc main_arg2) (ix2 j k)) (fun j k => m ((c.tc : Thread nD τ).loc main_arg3) (ix2 j k)) (fun j k => m ((c.tc : Thread nD τ).loc main_arg4) (ix2 j k)) (fun j k => m ((c.tc : Thread nD τ).loc main_arg5) (ix2 j k))
      (fun j k => m ((c.tc : Thread nD τ).loc main_arg6) (ix2 j k)) (fun j => m ((c.tc : Thread nD τ).loc main_arg7) (ix2 0 j)) (fun j k => m ((c.tc : Thread nD τ).loc main_arg8) (ix2 j k)) (fun j => m ((c.tc : Thread nD τ).loc main_arg9) (ix2 0 j)) k :=
  Cert.ReferenceIdeal.Cross.rout_at _ _ _ _ _ _ _ _ _ _ b n k

/-- The blocks of every grid point: a batch for the first two windows and the last, the whole array for the others. -/
theorem idx : ∀ t : Fin cfg0.N, win0_0.index t = ![t.val, 0, 0] ∧ win0_1.index t = ![t.val, 0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![t.val, 0, 0] := (by decide +kernel : ∀ t : Fin grid0.N, _)

theorem final (c : Dev nD) : (dats m 0 c).arrAt 10 cfg0.N = REF m c := by
  refine (dats m 0 c).arrAt_eq_of_covers 10 _ (by decide +kernel) fun t hf y => ?_
  blk_simp
  rw [after0_10, out_at]
  refine Eq.trans ?_ ((REF_at m c ⟨t.val, t.isLt⟩ ⟨(y 1).val, (y 1).isLt⟩ ⟨(y 2).val, (y 2).isLt⟩).symm.trans (congrArg (REF m c) ?_))
  · congr 1 <;> funext j
    all_goals try funext k
    all_goals blk_ext [iblk, V, idx t]
  · blk_ext [idx t]

end Cert.KernelIdeal.Cross

end
-- ==== Proof.Lbp.Run.lean ====
/- The launch of the belief propagation's seven regions, read at the result: it ends at the last region's array, the
   arguments unchanged. -/
module

public import proofs.«01_k».proof.Proof.Gen.LbpIdeal.Frame

@[expose] public section

set_option maxRecDepth 16384

noncomputable section

namespace Cert.LbpIdeal.Lbp

open Cert.LbpIdeal Cert.LbpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding definitions in the types
set_option backward.isDefEq.respectTransparency.types false in
/-- Every execution ends with the result at the last region's array and the arguments unchanged. -/
theorem run : θ_run defs (onTc (τ := τ) (main (F := F))) ⟨m, fun _ => 0, ρ⟩ (fun r => ∀ c : Dev nD,
      r.2.mem ((c.tc : Thread nD τ).loc main_v6) = (dat6 (V6 m ρ) c).arrAt 3 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v6 (by decide))).trans (W7_arr m ρ c 3),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.LbpIdeal.Lbp

end
-- ==== Proof.Lbp.Math.lean ====
/- The mathematics of the belief propagation, over the extended reals: one message, one step of the beliefs, the softmax
   read-out, and the identity by which a squared distance is written out into its three products. -/
module

public import Idealize.ShloMosaic.Lib.Pointwise

@[expose] public section

noncomputable section

namespace Cert.LbpMath

open Idealize.ShloMosaic

/-- Column `a` of coordinate `k` in a row of three times sixty-four displacements. -/
def cc (k : Fin 3) (a : Fin 64) : Fin 192 := ⟨k.val * 64 + a.val, by omega⟩

/-- The point an index word names. -/
def pt (w : BitVec 32) : Fin 2048 := ⟨min w.toInt.toNat 2047, by omega⟩

/-- The weight of the squared distance. -/
def al : EReal := Ideal.ofBits FTy.f32 0x3DCCCCCD#32

/-- The weight of the cross product. -/
def ga : EReal := Ideal.ofBits FTy.f32 0xBE4CCCCD#32

/-- The weighted squared distance of candidate `a` of one row to candidate `b` of another. -/
def pair (x y : Fin 192 → EReal) (a b : Fin 64) : EReal := al * ∑ k, (x (cc k a) - y (cc k b)) * (x (cc k a) - y (cc k b))

/-- The weighted squared length of a candidate. -/
def sqr (x : Fin 192 → EReal) (a : Fin 64) : EReal :=
  al * ((x (cc 0 a) * x (cc 0 a) + x (cc 1 a) * x (cc 1 a)) + x (cc 2 a) * x (cc 2 a))

/-- The products of two candidates' coordinates, summed. -/
def cross (x y : Fin 192 → EReal) (a b : Fin 64) : EReal :=
  (x (cc 0 a) * y (cc 0 b) + x (cc 1 a) * y (cc 1 b)) + x (cc 2 a) * y (cc 2 b)

/-- The message of a neighbour with beliefs `t` and candidates `x` to candidate `b` of `y`. -/
def msg (t : Fin 64 → EReal) (x y : Fin 192 → EReal) (b : Fin 64) : EReal :=
  Finset.univ.inf fun a => t a + pair x y a b

/-- The message with the squared distance written out, the receiver's own square left outside the minimum. -/
def msgK (t : Fin 64 → EReal) (x y : Fin 192 → EReal) (b : Fin 64) : EReal :=
  (Finset.univ.inf fun a => (t a + sqr x a) + ga * cross x y a b) + sqr y b

theorem al_eq : al = ((13421773 / 134217728 : ℝ) : EReal) := by
  unfold al
  simp [Ideal.ofBits, Ideal.ieee, -EReal.coe_mul]; norm_num

theorem ga_eq : ga = ((-(13421773 / 67108864) : ℝ) : EReal) := by
  unfold ga
  simp [Ideal.ofBits, Ideal.ieee, -EReal.coe_mul]; norm_num

/-- The least of finitely many words' values, from the word of plus infinity. -/
theorem fold_min {n : ℕ} (f : Fin n → EReal) : Finset.fold min (Ideal.ofBits FTy.f32 0x7F800000#32) f Finset.univ = Finset.univ.inf f := by
  have h : Ideal.ofBits FTy.f32 0x7F800000#32 = ⊤ := by
    simp [Ideal.ofBits, Ideal.ieee]
  rw [h]; rfl

/-- The greatest of finitely many words' values, from the word of minus infinity. -/
theorem fold_max {n : ℕ} (f : Fin n → EReal) : Finset.fold max (Ideal.ofBits FTy.f32 0xFF800000#32) f Finset.univ = Finset.univ.sup f := by
  have h : Ideal.ofBits FTy.f32 0xFF800000#32 = ⊥ := by
    simp [Ideal.ofBits, Ideal.ieee]
  rw [h]; rfl

/-- A minimum plus a real is the minimum of the sums. -/
theorem inf_add {ι : Type} (s : Finset ι) (g : ι → EReal) (c : ℝ) : s.inf g + (c : EReal) = s.inf fun a => g a + (c : EReal) := by
  refine Finset.comp_inf_eq_inf_comp_of_is_total (fun x : EReal => x + (c : EReal)) ?_ ?_
  · exact fun x y h => add_le_add_left h _
  · exact EReal.top_add_coe c

/-- The two writings of a message agree where the candidates are real. -/
theorem msgK_eq (t : Fin 64 → EReal) (x y : Fin 192 → EReal) (hx : ∀ j, ∃ r : ℝ, x j = (r : EReal)) (hy : ∀ j, ∃ r : ℝ, y j = (r : EReal)) (b : Fin 64) :
    msgK t x y b = msg t x y b := by
  choose u hu using hx
  choose v hv using hy
  unfold msgK msg sqr cross pair
  simp only [al_eq, ga_eq, hu, hv, Fin.sum_univ_three, ← EReal.coe_mul, ← EReal.coe_add, ← EReal.coe_sub]
  rw [inf_add]
  congr 1
  funext a
  rw [add_assoc, add_assoc, ← EReal.coe_add, ← EReal.coe_add]
  congr 2
  ring

/-- A product with a one-hot row reads the entry named. -/
theorem onehot {n : ℕ} (i : Fin n) (v : Fin n → EReal) : (∑ m, (if m = i then (1 : EReal) else 0) * v m) = v i := by
  simp

/-- One step of the beliefs of a point: its data cost plus the messages of its ten neighbours. -/
def step (dc : Fin 64 → EReal) (t : Fin 10 → Fin 64 → EReal) (x : Fin 10 → Fin 192 → EReal) (y : Fin 192 → EReal) (b : Fin 64) : EReal :=
  dc b + ∑ j, msg (t j) (x j) y b

/-- The softmax of the negated beliefs, at a candidate. -/
def wt (t : Fin 64 → EReal) (a : Fin 64) : EReal :=
  Ideal.div (Ideal.exp (-t a - Finset.univ.sup fun b => -t b)) (∑ d, Ideal.exp (-t d - Finset.univ.sup fun b => -t b))

/-- The displaced coordinate: the source coordinate plus the candidates' mean under the softmax. -/
def moved (t : Fin 64 → EReal) (x : Fin 192 → EReal) (s : EReal) (k : Fin 3) : EReal := s + ∑ a, wt t a * x (cc k a)

/-- One step of all beliefs of a batch. -/
def step1 (disp : Fin 2048 → Fin 192 → EReal) (nb : Fin 2048 → Fin 10 → Fin 2048) (dc bel : Fin 2048 → Fin 64 → EReal) (n : Fin 2048) (b : Fin 64) : EReal :=
  step (dc n) (fun j => bel (nb n j)) (fun j => disp (nb n j)) (disp n) b

/-- The beliefs of a batch after the given number of steps, from the data costs. -/
def steps (disp : Fin 2048 → Fin 192 → EReal) (nb : Fin 2048 → Fin 10 → Fin 2048) (dc : Fin 2048 → Fin 64 → EReal) : ℕ → Fin 2048 → Fin 64 → EReal
  | 0 => dc
  | k + 1 => step1 disp nb dc (steps disp nb dc k)

end Cert.LbpMath

end
-- ==== Proof.Lbp.KernelRow.lean ====
/- The payloads of the belief propagation's kernels at an entry, over the extended reals. -/
module

public import proofs.«01_k».proof.Proof.Gen.LbpIdeal.Frame
public import proofs.«01_k».proof.Proof.Lbp.Math
public import Idealize.ShloMosaic.Lib.Pointwise
public import Idealize.ShloMosaic.Lib.Pipeline.ValueKit

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

theorem cc0 (a : Fin 64) : cc 0 a = ⟨a.val, by omega⟩ := Fin.ext (by simp [cc])
theorem cc1 (a : Fin 64) : cc 1 a = ⟨64 + a.val, by omega⟩ := Fin.ext (by simp [cc])
theorem cc2 (a : Fin 64) : cc 2 a = ⟨128 + a.val, by omega⟩ := Fin.ext (by simp [cc])

/-- The products of the coordinates, at an entry. -/
theorem pay1_at (v4 v6 v8 : FVec Ideal S1x256x64 .f32) (nd : FVec Ideal S1x1x256x192 .f32) (r : Fin 256) (a b : Fin 64) :
    k1_pay1 (F := Ideal) (k1_pay6 v4) (k1_pay7 v6) (k1_pay8 v8) nd (ix3 r a b) =
      (nd (ix4 0 0 r (cc 0 a)) * v4 (ix3 0 r b) + nd (ix4 0 0 r (cc 1 a)) * v6 (ix3 0 r b)) + nd (ix4 0 0 r (cc 2 a)) * v8 (ix3 0 r b) := by
  rw [cc0, cc1, cc2]
  pointwise [k1_pay1, k1_pay6, k1_pay7, k1_pay8]

/-- A column's number equals an index word's exactly at the point the word names. -/
theorem named (m : Fin 2048) (w : BitVec 32) (h : 0 ≤ w.toInt ∧ w.toInt < 2048) :
    ((FloatOps.sitofp (F := Ideal) FTy.f32 (BitVec.ofNat 32 m.val) : EReal) = FloatOps.sitofp (F := Ideal) FTy.f32 w) ↔ m = pt w := by
  have hm : (BitVec.ofNat 32 m.val).toInt = (m.val : ℤ) := by
    rw [BitVec.toInt_ofNat']
    have := m.isLt
    simp only [Int.bmod_def]
    omega
  show ((((BitVec.ofNat 32 m.val).toInt : ℝ) : EReal) = ((w.toInt : ℝ) : EReal)) ↔ _
  rw [EReal.coe_eq_coe_iff, Int.cast_inj, hm, Fin.ext_iff]
  show _ ↔ m.val = min w.toInt.toNat 2047
  omega

/-- The loop's induction word is the trip's number. -/
theorem iv_val : ∀ j : Fin 10, (Scf.iv 0#32 1#32 j.val).toInt = (j.val : ℤ) := by decide

theorem col_val (x : Fin 10) : (BitVec.ofNat 32 x.val).toInt = (x.val : ℤ) := by
  revert x; decide

/-- A neighbour's beliefs read through the one-hot row, plus the stored weighted squares. -/
theorem pay2_at (v17 : IVec S1x256x10 32) (hv : ∀ i, 0 ≤ (v17 i).toInt ∧ (v17 i).toInt < 2048) (k : Fin k1_t1_loop.trips) (j : Fin 10) (hj : k.val = j.val)
    (ns : FVec Ideal S1x1x256x64 .f32) (v2 : FVec Ideal S1x2048x64 .f32) (r : Fin 256) (a : Fin 64) (z : Fin 1) :
    k1_pay2 (F := Ideal) k1_pay4 (k1_pay5 v2) (k1_pay9 v17) k1_pay10 0#32 1#32 k ns (ix3 r a z) = v2 (ix3 0 (pt (v17 (ix3 0 r j))) a) + ns (ix4 0 0 r a) := by
  pointwise [k1_pay2, k1_pay4, k1_pay5, k1_pay9, k1_pay10]
  congr 1
  have hs : (∑ x : Fin 10, if (FloatOps.sitofp (F := Ideal) FTy.f32 (BitVec.ofNat 32 x.val) : EReal) = (((Scf.iv 0#32 1#32 k.val).toInt : ℝ) : EReal) then (FloatOps.sitofp (F := Ideal) FTy.f32 (v17 (ix3 0 r x)) : EReal) else 0)
      = FloatOps.sitofp (F := Ideal) FTy.f32 (v17 (ix3 0 r j)) := by
    have hc : ∀ x : Fin 10, ((FloatOps.sitofp (F := Ideal) FTy.f32 (BitVec.ofNat 32 x.val) : EReal) = (((Scf.iv 0#32 1#32 k.val).toInt : ℝ) : EReal)) ↔ x = j := by
      intro x
      show ((((BitVec.ofNat 32 x.val).toInt : ℝ) : EReal) = _) ↔ _
      rw [hj, iv_val, EReal.coe_eq_coe_iff, Int.cast_inj, col_val, Fin.ext_iff]
      omega
    simp only [hc, Finset.sum_ite_eq', Finset.mem_univ, if_true]
  refine Eq.trans ?_ (onehot (pt (v17 (ix3 0 r j))) fun m => v2 (ix3 0 m a))
  refine Finset.sum_congr rfl fun x _ => ?_
  refine congrArg (· * _) (if_congr ?_ rfl rfl)
  refine Iff.trans (Eq.congr rfl hs) (named x _ (hv _))

/-- A gathered row of candidates, at an entry. -/
theorem pay4_at (X : FVec Ideal S1x2048x192 .f32) (w : IVec S1x256x1 32) (hw : ∀ i, 0 ≤ (w i).toInt ∧ (w i).toInt < 2048) (r : Fin 256) (c : Fin 192) :
    k0_pay4 (F := Ideal) X w (ix2 r c) = X (ix3 0 (pt (w (ix3 0 r 0))) c) := by
  pointwise [k0_pay4, k0_pay2, k0_pay3]
  refine Eq.trans ?_ (onehot (pt (w (ix3 0 r 0))) fun m => X (ix3 0 m c))
  exact Finset.sum_congr rfl fun x _ => congrArg (· * _) (if_congr (named x _ (hw _)) rfl rfl)

theorem pay5_at (X : FVec Ideal S1x2048x192 .f32) (w : IVec S1x256x1 32) (hw : ∀ i, 0 ≤ (w i).toInt ∧ (w i).toInt < 2048) (p q : Fin 1) (r : Fin 256) (c : Fin 192) :
    k0_pay5 (F := Ideal) X w (ix4 p q r c) = X (ix3 0 (pt (w (ix3 0 r 0))) c) := by
  rw [← pay4_at X w hw r c]
  pointwise [k0_pay5]

theorem pay6_at (X : FVec Ideal S1x2048x192 .f32) (w : IVec S1x256x1 32) (hw : ∀ i, 0 ≤ (w i).toInt ∧ (w i).toInt < 2048) (p q : Fin 1) (r : Fin 256) (a : Fin 64) :
    k0_pay6 (F := Ideal) X w (ix4 p q r a) = sqr (fun c => X (ix3 0 (pt (w (ix3 0 r 0))) c)) a := by
  unfold sqr al
  rw [cc0, cc1, cc2]
  simp only [← pay4_at X w hw r]
  pointwise [k0_pay6]

theorem pay6_at' (v : FVec Ideal S1x256x64 .f32) (r : Fin 256) (b : Fin 64) : k1_pay6 (F := Ideal) v (ix2 r b) = v (ix3 0 r b) := by
  pointwise [k1_pay6]

theorem pay7_at' (v : FVec Ideal S1x256x64 .f32) (r : Fin 256) (b : Fin 64) : k1_pay7 (F := Ideal) v (ix2 r b) = v (ix3 0 r b) := by
  pointwise [k1_pay7]

theorem pay8_at' (v : FVec Ideal S1x256x64 .f32) (r : Fin 256) (b : Fin 64) : k1_pay8 (F := Ideal) v (ix2 r b) = v (ix3 0 r b) := by
  pointwise [k1_pay8]

/-- One trip of the belief step's loop, of the blocks read. -/
def trip {F : FTy → Type} [FloatOps F] (v2 : Vec F S1x2048x64 .f32) (v4 v6 v8 : Vec F S1x256x64 .f32) (v17 : Vec F S1x256x10 .i32)
    (nd : Vec F S1x1x256x192 .f32) (ns : Vec F S1x1x256x64 .f32) (k : Fin k1_t1_loop.trips) (acc : FVec F S256x64 .f32) : FVec F S256x64 .f32 :=
  k1_pay12 v4 v6 v8 acc (k1_pay1 (k1_pay6 v4) (k1_pay7 v6) (k1_pay8 v8) nd) (k1_pay2 k1_pay4 (k1_pay5 v2) (k1_pay9 v17) k1_pay10 0#32 1#32 k ns) k1_pay3

/-- A trip adds one message, at an entry. -/
theorem trip_at (v2 : FVec Ideal S1x2048x64 .f32) (v4 v6 v8 : FVec Ideal S1x256x64 .f32) (v17 : IVec S1x256x10 32) (hv : ∀ i, 0 ≤ (v17 i).toInt ∧ (v17 i).toInt < 2048)
    (nd : FVec Ideal S1x1x256x192 .f32) (ns : FVec Ideal S1x1x256x64 .f32) (k : Fin k1_t1_loop.trips) (j : Fin 10) (hj : k.val = j.val) (acc : FVec Ideal S256x64 .f32)
    (r : Fin 256) (b : Fin 64) (x y : Fin 192 → EReal) (h4 : ∀ b, v4 (ix3 0 r b) = y (cc 0 b)) (h6 : ∀ b, v6 (ix3 0 r b) = y (cc 1 b)) (h8 : ∀ b, v8 (ix3 0 r b) = y (cc 2 b))
    (hn : ∀ c, nd (ix4 0 0 r c) = x c) (hs : ∀ a, ns (ix4 0 0 r a) = sqr x a) :
    trip (F := Ideal) v2 v4 v6 v8 v17 nd ns k acc (ix2 r b) = acc (ix2 r b) + msgK (fun a => v2 (ix3 0 (pt (v17 (ix3 0 r j))) a)) x y b := by
  unfold trip msgK
  pointwise [k1_pay12, k1_pay3, pay6_at', pay7_at', pay8_at', pay1_at, pay2_at v17 hv k j hj]
  simp only [h4, h6, h8, hn, hs]
  rw [fold_min, add_assoc]
  rfl

end Cert.LbpIdeal.Lbp

end
-- ==== Proof.Lbp.Block.lean ====
/- The block a belief step writes, of the blocks it reads: the same function in each of the five regions. -/
module

public import proofs.«01_k».proof.Proof.Gen.LbpIdeal.Frame
public import proofs.«01_k».proof.Proof.Lbp.KernelRow
public import Idealize.ShloMosaic.Lib.Pipeline.ValueKit
public import Idealize.ShloMosaic.Lib.WholeRead

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

/-- A load through a whole memref reads its contents at the place of the rectangle. -/
theorem rd {Val : EltTy → Type} {s : Shape} {e : EltTy} {mr : Memref sig .tc .vmem s e} (h : mr.IsWhole) (X : s.Idx → Val e) (off size : Fin s.rank → ℕ) (inb) (x : (Rect.unit off size inb).shape.Idx)
    (i : s.Idx) (hi : ∀ a, (i a : ℕ) = off a + x a) : View.readAt Val mr.view (Rect.unit off size inb).toLoadRect (h.unread X) x = X i :=
  (h.readAt_unread X _ x).trans (congrArg X (funext fun a => Fin.ext ((Rect.idx_unit_val off size inb x a).trans (hi a).symm)))

/-- The block of new beliefs: the data costs plus the ten messages. -/
def newB (x0 : FVec Ideal S1x2048x64 .f32) (x1 : FVec Ideal S1x256x64 .f32) (x2 : FVec Ideal S1x256x192 .f32) (x3 : IVec S1x256x10 32) (x4 : FVec Ideal S1x10x256x192 .f32) (r : Fin 256) (b : Fin 64) : EReal :=
  x1 (ix3 0 r b) + ∑ j, msgK (fun a => x0 (ix3 0 (pt (x3 (ix3 0 r j))) a)) (fun c => x4 (ix4 0 j r c)) (fun c => x2 (ix3 0 r c)) b

/-- Values that start at nothing and grow by one message at each of ten trips end at the ten messages' sum. -/
theorem grow (u : ℕ → EReal) (g : Fin 10 → EReal) (h0 : u 0 = 0) (hs : ∀ j : Fin 10, u (j.val + 1) = u j.val + g j) : u 10 = ∑ j, g j := by
  simp only [Fin.sum_univ_succ, Fin.sum_univ_zero, add_zero]
  have e : ∀ (n : ℕ) (h : n < 10), u (n + 1) = u n + g ⟨n, h⟩ := fun n h => hs ⟨n, h⟩
  rw [e 9 (by omega), e 8 (by omega), e 7 (by omega), e 6 (by omega), e 5 (by omega), e 4 (by omega), e 3 (by omega), e 2 (by omega), e 1 (by omega), e 0 (by omega), h0, zero_add]
  simp only [add_assoc]
  rfl

theorem pay11_at (r : Fin 256) (b : Fin 64) : k1_pay11 (F := Ideal) (ix2 r b) = 0 := by
  pointwise [k1_pay11]

theorem pay13_at (v : FVec Ideal S256x64 .f32) (w : FVec Ideal S1x256x64 .f32) (p : Fin 1) (r : Fin 256) (b : Fin 64) :
    k1_pay13 (F := Ideal) v w (ix3 p r b) = w (ix3 0 r b) + v (ix2 r b) := by
  pointwise [k1_pay13]

section
variable (arg2 : Memref sig .tc .vmem S1x2048x64 .f32) (harg2 : arg2.IsWhole) (arg3 : Memref sig .tc .vmem S1x256x64 .f32) (harg3 : arg3.IsWhole) (arg4 : Memref sig .tc .vmem S1x256x192 .f32) (harg4 : arg4.IsWhole) (arg5 : Memref sig .tc .vmem S1x256x10 .i32) (harg5 : arg5.IsWhole) (arg6 : Memref sig .tc .vmem S1x10x256x192 .f32) (harg6 : arg6.IsWhole) (arg7 : Memref sig .tc .vmem S1x10x256x64 .f32) (harg7 : arg7.IsWhole)
  (x0 : FVec Ideal S1x2048x64 .f32) (x1 : FVec Ideal S1x256x64 .f32) (x2 : FVec Ideal S1x256x192 .f32) (x3 : IVec S1x256x10 32) (x4 : FVec Ideal S1x10x256x192 .f32) (x5 : FVec Ideal S1x10x256x64 .f32)

/-- One trip over the memrefs' contents. -/
def tripM (k : Fin k1_t1_loop.trips) (acc : FVec Ideal S256x64 .f32) : FVec Ideal S256x64 .f32 :=
  trip (F := Ideal)
    (View.readAt (Elt Ideal) arg2.view (Rect.unit ![0, 0, 0] S1x2048x64.size inb_S1x2048x64_S1x2048x64_0_0_0).toLoadRect (harg2.unread x0))
    (View.readAt (Elt Ideal) arg4.view (Rect.unit (s := S1x256x192) ![0, 0, 0] S1x256x64.size inb_S1x256x192_S1x256x64_0_0_0).toLoadRect (harg4.unread x2))
    (View.readAt (Elt Ideal) arg4.view (Rect.unit (s := S1x256x192) ![0, 0, 64] S1x256x64.size inb_S1x256x192_S1x256x64_0_0_64).toLoadRect (harg4.unread x2))
    (View.readAt (Elt Ideal) arg4.view (Rect.unit (s := S1x256x192) ![0, 0, 128] S1x256x64.size inb_S1x256x192_S1x256x64_0_0_128).toLoadRect (harg4.unread x2))
    (View.readAt (Elt Ideal) arg5.view (Rect.unit ![0, 0, 0] S1x256x10.size inb_S1x256x10_S1x256x10_0_0_0).toLoadRect (harg5.unread x3))
    (View.readAt (Elt Ideal) arg6.view (Rect.unit (s := S1x10x256x192) (k1_off2 k) S1x1x256x192.size (k1_off2_inb k)).toLoadRect (harg6.unread x4))
    (View.readAt (Elt Ideal) arg7.view (Rect.unit (s := S1x10x256x64) (k1_off1 k) S1x1x256x64.size (k1_off1_inb k)).toLoadRect (harg7.unread x5))
    k acc

/-- Its value at an entry. -/
theorem tripM_at (hv : ∀ i, 0 ≤ (x3 i).toInt ∧ (x3 i).toInt < 2048) (k : Fin k1_t1_loop.trips) (j : Fin 10) (hj : k.val = j.val) (acc : FVec Ideal S256x64 .f32) (r : Fin 256) (b : Fin 64)
    (h5 : ∀ a, x5 (ix4 0 j r a) = sqr (fun c => x4 (ix4 0 j r c)) a) :
    tripM arg2 harg2 arg4 harg4 arg5 harg5 arg6 harg6 arg7 harg7 x0 x2 x3 x4 x5 k acc (ix2 r b) =
      acc (ix2 r b) + msgK (fun a => x0 (ix3 0 (pt (x3 (ix3 0 r j))) a)) (fun c => x4 (ix4 0 j r c)) (fun c => x2 (ix3 0 r c)) b := by
  have e5 : (View.readAt (Elt Ideal) arg5.view (Rect.unit ![0, 0, 0] S1x256x10.size inb_S1x256x10_S1x256x10_0_0_0).toLoadRect (harg5.unread x3) : IVec S1x256x10 32) = x3 := by
    funext i
    refine rd (Val := Elt Ideal) harg5 x3 _ _ _ i i fun a => ?_
    fin_cases a <;> exact (Nat.zero_add _).symm
  have e2 : (View.readAt (Elt Ideal) arg2.view (Rect.unit ![0, 0, 0] S1x2048x64.size inb_S1x2048x64_S1x2048x64_0_0_0).toLoadRect (harg2.unread x0) : FVec Ideal S1x2048x64 .f32) = x0 := by
    funext i
    refine rd (Val := Elt Ideal) harg2 x0 _ _ _ i i fun a => ?_
    fin_cases a <;> exact (Nat.zero_add _).symm
  unfold tripM
  rw [e5, e2]
  refine trip_at x0 _ _ _ x3 hv _ _ k j hj acc r b (fun c => x4 (ix4 0 j r c)) (fun c => x2 (ix3 0 r c)) ?_ ?_ ?_ ?_ ?_
  · intro b
    rw [cc0]
    refine rd (Val := Elt Ideal) harg4 x2 _ _ _ _ _ fun a => ?_
    fin_cases a <;> exact (Nat.zero_add _).symm
  · intro b
    rw [cc1]
    refine rd (Val := Elt Ideal) harg4 x2 _ _ _ _ _ fun a => ?_
    fin_cases a <;> first | exact (Nat.zero_add _).symm | rfl
  · intro b
    rw [cc2]
    refine rd (Val := Elt Ideal) harg4 x2 _ _ _ _ _ fun a => ?_
    fin_cases a <;> first | exact (Nat.zero_add _).symm | rfl
  · intro c
    refine rd (Val := Elt Ideal) harg6 x4 _ _ _ _ _ fun a => ?_
    refine Eq.trans ?_ (congrArg (· + _) (congrFun (k1_off2_eq k) a).symm)
    fin_cases a <;> first | exact (Nat.zero_add _).symm | exact hj.symm
  · intro a
    rw [← h5]
    refine rd (Val := Elt Ideal) harg7 x5 _ _ _ _ _ fun a => ?_
    refine Eq.trans ?_ (congrArg (· + _) (congrFun (k1_off1_eq k) a).symm)
    fin_cases a <;> first | exact (Nat.zero_add _).symm | exact hj.symm

/-- The block written after ten trips, whatever names the trips' values. -/
theorem block_at (hv : ∀ i, 0 ≤ (x3 i).toInt ∧ (x3 i).toInt < 2048) (h5 : ∀ j r a, x5 (ix4 0 j r a) = sqr (fun c => x4 (ix4 0 j r c)) a)
    (st : ℕ → FVec Ideal S256x64 .f32) (h0 : st 0 = k1_pay11)
    (hs : ∀ k : Fin k1_t1_loop.trips, st (k.val + 1) = tripM arg2 harg2 arg4 harg4 arg5 harg5 arg6 harg6 arg7 harg7 x0 x2 x3 x4 x5 k (st k.val))
    (y : S1x256x64.Idx) :
    View.canon (Val := Elt Ideal) (s := S1x256x64) (e := .f32) [⟨Rect.unit ![0, 0, 0] ![1, 256, 64] inb_S1x256x64_S1x256x64_0_0_0, k1_pay13 (F := Ideal) (st 10)
      (View.readAt (Elt Ideal) arg3.view (Rect.unit ![0, 0, 0] S1x256x64.size inb_S1x256x64_S1x256x64_0_0_0).toLoadRect (harg3.unread x1))⟩] y
      = newB x0 x1 x2 x3 x4 ⟨(y 1).val, (y 1).isLt⟩ ⟨(y 2).val, (y 2).isLt⟩ := by
  obtain ⟨p, r, b, rfl⟩ : ∃ (p : Fin 1) (r : Fin 256) (b : Fin 64), y = ix3 p r b := ⟨⟨(y 0).val, (y 0).isLt⟩, ⟨(y 1).val, (y 1).isLt⟩, ⟨(y 2).val, (y 2).isLt⟩, by funext q; fin_cases q <;> rfl⟩
  have hy : (Rect.unit (s := S1x256x64) ![0, 0, 0] ![1, 256, 64] inb_S1x256x64_S1x256x64_0_0_0).emb (ix3 p r b) = ix3 p r b := by
    funext a; refine Fin.ext ((Rect.idx_unit_val _ _ _ _ a).trans ?_); fin_cases a <;> exact Nat.zero_add _
  refine Eq.trans (congrArg _ hy.symm) ((View.canon_cons_emb _ _ _ _).trans ?_)
  refine (pay13_at _ _ p r b).trans ?_
  unfold newB
  congr 1
  · refine rd (Val := Elt Ideal) harg3 x1 _ _ _ _ _ fun a => ?_
    fin_cases a <;> exact (Nat.zero_add _).symm
  · refine grow (fun n => st n (ix2 r b)) _ ?_ fun j => ?_
    · simp only [h0]; exact pay11_at r b
    · have hk : j.val < k1_t1_loop.trips := lt_of_lt_of_eq j.isLt (by decide)
      show st (j.val + 1) (ix2 r b) = _
      rw [hs ⟨j.val, hk⟩]
      exact tripM_at arg2 harg2 arg4 harg4 arg5 harg5 arg6 harg6 arg7 harg7 x0 x2 x3 x4 x5 hv ⟨j.val, hk⟩ j rfl _ r b (h5 j r)

end

end Cert.LbpIdeal.Lbp

end
-- ==== Proof.Lbp.Region.lean ====
/- The belief step's block at every grid point of each of its five regions. -/
module

public import proofs.«01_k».proof.Proof.Gen.LbpIdeal.Frame
public import proofs.«01_k».proof.Proof.Lbp.Block

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

variable (V : (c : Dev nD) → (b : Ref sig .tc) → Buf (Elt Ideal) ((c : Thread nD τ).loc b))

/-- Region 1: the block it writes is the block of new beliefs. -/
theorem outs1 (c : Dev nD) (t : Fin cfg1.N) (hv : ∀ i, 0 ≤ ((iblk1 V c 3 t : IVec S1x256x10 32) i).toInt ∧ ((iblk1 V c 3 t : IVec S1x256x10 32) i).toInt < 2048)
    (h5 : ∀ j r a, (iblk1 V c 5 t : FVec Ideal S1x10x256x64 .f32) (ix4 0 j r a) = sqr (fun k => (iblk1 V c 4 t : FVec Ideal S1x10x256x192 .f32) (ix4 0 j r k)) a) (y : S1x256x64.Idx) :
    outsAt1 V c t y = newB (iblk1 V c 0 t) (iblk1 V c 1 t) (iblk1 V c 2 t) (iblk1 V c 3 t) (iblk1 V c 4 t) ⟨(y 1).val, (y 1).isLt⟩ ⟨(y 2).val, (y 2).isLt⟩ := by
  unfold outsAt1 out1_A_6
  rw [View.read_writes_junk_eq_canon]
  refine block_at (ms1_0 t) (hs1_0 t) (ms1_1 t) (hs1_1 t) (ms1_2 t) (hs1_2 t) (ms1_3 t) (hs1_3 t) (ms1_4 t) (hs1_4 t) (ms1_5 t) (hs1_5 t) _ _ _ _ _ _ hv h5
    (fun n => st_k1_t1 (F := Ideal) Variants.none c none (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) _ _ _ _ _ _ _ _ n)
    (st_k1_t1_zero ..) (fun k => (st_k1_t1_succ (k := k) ..).trans ?_) y
  unfold tripR_k1_t1 trip_k1_t1
  rfl

/-- Region 2: the block it writes is the block of new beliefs. -/
theorem outs2 (c : Dev nD) (t : Fin cfg2.N) (hv : ∀ i, 0 ≤ ((iblk2 V c 3 t : IVec S1x256x10 32) i).toInt ∧ ((iblk2 V c 3 t : IVec S1x256x10 32) i).toInt < 2048)
    (h5 : ∀ j r a, (iblk2 V c 5 t : FVec Ideal S1x10x256x64 .f32) (ix4 0 j r a) = sqr (fun k => (iblk2 V c 4 t : FVec Ideal S1x10x256x192 .f32) (ix4 0 j r k)) a) (y : S1x256x64.Idx) :
    outsAt2 V c t y = newB (iblk2 V c 0 t) (iblk2 V c 1 t) (iblk2 V c 2 t) (iblk2 V c 3 t) (iblk2 V c 4 t) ⟨(y 1).val, (y 1).isLt⟩ ⟨(y 2).val, (y 2).isLt⟩ := by
  unfold outsAt2 out2_A_6
  rw [View.read_writes_junk_eq_canon]
  refine block_at (ms2_0 t) (hs2_0 t) (ms2_1 t) (hs2_1 t) (ms2_2 t) (hs2_2 t) (ms2_3 t) (hs2_3 t) (ms2_4 t) (hs2_4 t) (ms2_5 t) (hs2_5 t) _ _ _ _ _ _ hv h5
    (fun n => st_k2_t1 (F := Ideal) Variants.none c none (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) _ _ _ _ _ _ _ _ n)
    (st_k2_t1_zero ..) (fun k => (st_k2_t1_succ (k := k) ..).trans ?_) y
  unfold tripR_k2_t1 trip_k2_t1
  rfl

/-- Region 3: the block it writes is the block of new beliefs. -/
theorem outs3 (c : Dev nD) (t : Fin cfg3.N) (hv : ∀ i, 0 ≤ ((iblk3 V c 3 t : IVec S1x256x10 32) i).toInt ∧ ((iblk3 V c 3 t : IVec S1x256x10 32) i).toInt < 2048)
    (h5 : ∀ j r a, (iblk3 V c 5 t : FVec Ideal S1x10x256x64 .f32) (ix4 0 j r a) = sqr (fun k => (iblk3 V c 4 t : FVec Ideal S1x10x256x192 .f32) (ix4 0 j r k)) a) (y : S1x256x64.Idx) :
    outsAt3 V c t y = newB (iblk3 V c 0 t) (iblk3 V c 1 t) (iblk3 V c 2 t) (iblk3 V c 3 t) (iblk3 V c 4 t) ⟨(y 1).val, (y 1).isLt⟩ ⟨(y 2).val, (y 2).isLt⟩ := by
  unfold outsAt3 out3_A_6
  rw [View.read_writes_junk_eq_canon]
  refine block_at (ms3_0 t) (hs3_0 t) (ms3_1 t) (hs3_1 t) (ms3_2 t) (hs3_2 t) (ms3_3 t) (hs3_3 t) (ms3_4 t) (hs3_4 t) (ms3_5 t) (hs3_5 t) _ _ _ _ _ _ hv h5
    (fun n => st_k3_t1 (F := Ideal) Variants.none c none (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) _ _ _ _ _ _ _ _ n)
    (st_k3_t1_zero ..) (fun k => (st_k3_t1_succ (k := k) ..).trans ?_) y
  unfold tripR_k3_t1 trip_k3_t1
  rfl

/-- Region 4: the block it writes is the block of new beliefs. -/
theorem outs4 (c : Dev nD) (t : Fin cfg4.N) (hv : ∀ i, 0 ≤ ((iblk4 V c 3 t : IVec S1x256x10 32) i).toInt ∧ ((iblk4 V c 3 t : IVec S1x256x10 32) i).toInt < 2048)
    (h5 : ∀ j r a, (iblk4 V c 5 t : FVec Ideal S1x10x256x64 .f32) (ix4 0 j r a) = sqr (fun k => (iblk4 V c 4 t : FVec Ideal S1x10x256x192 .f32) (ix4 0 j r k)) a) (y : S1x256x64.Idx) :
    outsAt4 V c t y = newB (iblk4 V c 0 t) (iblk4 V c 1 t) (iblk4 V c 2 t) (iblk4 V c 3 t) (iblk4 V c 4 t) ⟨(y 1).val, (y 1).isLt⟩ ⟨(y 2).val, (y 2).isLt⟩ := by
  unfold outsAt4 out4_A_6
  rw [View.read_writes_junk_eq_canon]
  refine block_at (ms4_0 t) (hs4_0 t) (ms4_1 t) (hs4_1 t) (ms4_2 t) (hs4_2 t) (ms4_3 t) (hs4_3 t) (ms4_4 t) (hs4_4 t) (ms4_5 t) (hs4_5 t) _ _ _ _ _ _ hv h5
    (fun n => st_k4_t1 (F := Ideal) Variants.none c none (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) _ _ _ _ _ _ _ _ n)
    (st_k4_t1_zero ..) (fun k => (st_k4_t1_succ (k := k) ..).trans ?_) y
  unfold tripR_k4_t1 trip_k4_t1
  rfl

/-- Region 5: the block it writes is the block of new beliefs. -/
theorem outs5 (c : Dev nD) (t : Fin cfg5.N) (hv : ∀ i, 0 ≤ ((iblk5 V c 3 t : IVec S1x256x10 32) i).toInt ∧ ((iblk5 V c 3 t : IVec S1x256x10 32) i).toInt < 2048)
    (h5 : ∀ j r a, (iblk5 V c 5 t : FVec Ideal S1x10x256x64 .f32) (ix4 0 j r a) = sqr (fun k => (iblk5 V c 4 t : FVec Ideal S1x10x256x192 .f32) (ix4 0 j r k)) a) (y : S1x256x64.Idx) :
    outsAt5 V c t y = newB (iblk5 V c 0 t) (iblk5 V c 1 t) (iblk5 V c 2 t) (iblk5 V c 3 t) (iblk5 V c 4 t) ⟨(y 1).val, (y 1).isLt⟩ ⟨(y 2).val, (y 2).isLt⟩ := by
  unfold outsAt5 out5_A_6
  rw [View.read_writes_junk_eq_canon]
  refine block_at (ms5_0 t) (hs5_0 t) (ms5_1 t) (hs5_1 t) (ms5_2 t) (hs5_2 t) (ms5_3 t) (hs5_3 t) (ms5_4 t) (hs5_4 t) (ms5_5 t) (hs5_5 t) _ _ _ _ _ _ hv h5
    (fun n => st_k5_t1 (F := Ideal) Variants.none c none (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) _ _ _ _ _ _ _ _ n)
    (st_k5_t1_zero ..) (fun k => (st_k5_t1_succ (k := k) ..).trans ?_) y
  unfold tripR_k5_t1 trip_k5_t1
  rfl

end Cert.LbpIdeal.Lbp

end
-- ==== Proof.Lbp.Prep.lean ====
/- The two blocks the gathering kernel writes, at an entry: the candidates of the ten neighbours, and their weighted
   squared lengths. -/
module

public import proofs.«01_k».proof.Proof.Gen.LbpIdeal.Frame
public import proofs.«01_k».proof.Proof.Lbp.KernelRow
public import Idealize.ShloMosaic.Lib.Pipeline.ValueKit
public import Idealize.ShloMosaic.Lib.Pipeline.CanonAppend

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

/-- Column `j` of the index block lies in it. -/
theorem inW : ∀ (j : Fin 10) (a : Fin 3), (![0, 0, j.val] : Fin 3 → ℕ) a + S1x256x1.size a ≤ S1x256x10.size a := by decide

/-- Slab `j` of the gathered candidates lies in their block. -/
theorem inD : ∀ (j : Fin 10) (a : Fin 4), (![0, j.val, 0, 0] : Fin 4 → ℕ) a + S1x1x256x192.size a ≤ S1x10x256x192.size a := by decide

/-- Slab `j` of the weighted squares lies in their block. -/
theorem inS : ∀ (j : Fin 10) (a : Fin 4), (![0, j.val, 0, 0] : Fin 4 → ℕ) a + S1x1x256x64.size a ≤ S1x10x256x64.size a := by decide

variable {F : FTy → Type} [FloatOps F]

/-- The store of neighbour `j`'s candidates. -/
def pcD (x0 : Vec F S1x2048x192 .f32) (x1 : Vec F S1x256x10 .i32) (j : Fin 10) : View.Piece (Elt F) S1x10x256x192 .f32 :=
  ⟨Rect.unit (s := S1x10x256x192) ![0, j.val, 0, 0] S1x1x256x192.size (inD j), k0_pay5 (F := F) (View.ld x0 r0_0) (View.ld x1 (Rect.unit (s := S1x256x10) ![0, 0, j.val] S1x256x1.size (inW j)))⟩

/-- The store of neighbour `j`'s weighted squares. -/
def pcS (x0 : Vec F S1x2048x192 .f32) (x1 : Vec F S1x256x10 .i32) (j : Fin 10) : View.Piece (Elt F) S1x10x256x64 .f32 :=
  ⟨Rect.unit (s := S1x10x256x64) ![0, j.val, 0, 0] S1x1x256x64.size (inS j), k0_pay6 (F := F) (View.ld x0 r0_0) (View.ld x1 (Rect.unit (s := S1x256x10) ![0, 0, j.val] S1x256x1.size (inW j)))⟩

theorem prep_eq (x0 : Vec F S1x2048x192 .f32) (x1 : Vec F S1x256x10 .i32) :
    out0_2 (F := F) x0 x1 = View.canon [pcD x0 x1 9, pcD x0 x1 8, pcD x0 x1 7, pcD x0 x1 6, pcD x0 x1 5, pcD x0 x1 4, pcD x0 x1 3, pcD x0 x1 2, pcD x0 x1 1, pcD x0 x1 0] := rfl

theorem prepS_eq (x0 : Vec F S1x2048x192 .f32) (x1 : Vec F S1x256x10 .i32) :
    out0_3 (F := F) x0 x1 = View.canon [pcS x0 x1 9, pcS x0 x1 8, pcS x0 x1 7, pcS x0 x1 6, pcS x0 x1 5, pcS x0 x1 4, pcS x0 x1 3, pcS x0 x1 2, pcS x0 x1 1, pcS x0 x1 0] := rfl

theorem at_word (x1 : IVec S1x256x10 32) (j : Fin 10) (r : Fin 256) :
    View.ld (Val := Elt Ideal) (e' := .i32) x1 (Rect.unit (s := S1x256x10) ![0, 0, j.val] S1x256x1.size (inW j)) (ix3 0 r 0) = x1 (ix3 0 r j) := by
  refine View.ld_unit_apply_of _ _ _ _ _ _ fun a => ?_
  fin_cases a <;> first | exact (Nat.zero_add _).symm | rfl

theorem at_row (x0 : FVec Ideal S1x2048x192 .f32) (i : S1x2048x192.Idx) : View.ld (Val := Elt Ideal) (e' := .f32) x0 r0_0 i = x0 i := by
  refine View.ld_unit_apply_of _ _ _ _ _ _ fun a => ?_
  fin_cases a <;> exact (Nat.zero_add _).symm

/-- The gathered candidates, at an entry. -/
theorem prep_at (x0 : FVec Ideal S1x2048x192 .f32) (x1 : IVec S1x256x10 32) (hv : ∀ i, 0 ≤ (x1 i).toInt ∧ (x1 i).toInt < 2048) (y : S1x10x256x192.Idx) :
    out0_2 (F := Ideal) x0 x1 y = x0 (ix3 0 (pt (x1 (ix3 0 ⟨(y 2).val, (y 2).isLt⟩ ⟨(y 1).val, (y 1).isLt⟩))) ⟨(y 3).val, (y 3).isLt⟩) := by
  have key : ∀ (j : Fin 10) (x : (pcD (F := Ideal) x0 x1 j).1.shape.Idx), (pcD (F := Ideal) x0 x1 j).2 x =
      (fun y : S1x10x256x192.Idx => x0 (ix3 0 (pt (x1 (ix3 0 ⟨(y 2).val, (y 2).isLt⟩ ⟨(y 1).val, (y 1).isLt⟩))) ⟨(y 3).val, (y 3).isLt⟩)) ((pcD (F := Ideal) x0 x1 j).1.emb x) := by
    intro j x
    obtain ⟨p, q, r, k, rfl⟩ : ∃ (p q : Fin 1) (r : Fin 256) (k : Fin 192), x = ix4 p q r k := ⟨⟨(x 0).val, (x 0).isLt⟩, ⟨(x 1).val, (x 1).isLt⟩, ⟨(x 2).val, (x 2).isLt⟩, ⟨(x 3).val, (x 3).isLt⟩, by funext q; fin_cases q <;> rfl⟩
    have he : (pcD (F := Ideal) x0 x1 j).1.emb (ix4 p q r k) = ix4 0 j r k := by
      funext a
      refine Fin.ext ((Rect.idx_unit_val _ _ (inD j) _ a).trans ?_)
      fin_cases a <;> first | exact Nat.zero_add _ | (show j.val + q.val = j.val; omega) | (show 0 + p.val = 0; omega)
    rw [he]
    refine (pay5_at _ _ (fun i => hv _) p q r k).trans ?_
    exact (at_row x0 _).trans (congrArg (fun w => x0 (ix3 0 (pt w) k)) (at_word x1 j r))
  rw [prep_eq]
  refine View.canon_append_of_pieces (Val := Elt Ideal) (e := .f32) (fun y : S1x10x256x192.Idx => x0 (ix3 0 (pt (x1 (ix3 0 ⟨(y 2).val, (y 2).isLt⟩ ⟨(y 1).val, (y 1).isLt⟩))) ⟨(y 3).val, (y 3).isLt⟩)) [] _ (fun p hp => ?_) y (cover0_2 _ _ _ _ _ _ _ _ _ _ y)
  simp only [List.mem_cons, List.not_mem_nil, or_false] at hp
  rcases hp with rfl | rfl | rfl | rfl | rfl | rfl | rfl | rfl | rfl | rfl <;> exact key _

/-- The gathered candidates' weighted squares, at an entry. -/
theorem prepS_at (x0 : FVec Ideal S1x2048x192 .f32) (x1 : IVec S1x256x10 32) (hv : ∀ i, 0 ≤ (x1 i).toInt ∧ (x1 i).toInt < 2048) (y : S1x10x256x64.Idx) :
    out0_3 (F := Ideal) x0 x1 y = sqr (fun c => x0 (ix3 0 (pt (x1 (ix3 0 ⟨(y 2).val, (y 2).isLt⟩ ⟨(y 1).val, (y 1).isLt⟩))) c)) ⟨(y 3).val, (y 3).isLt⟩ := by
  have key : ∀ (j : Fin 10) (x : (pcS (F := Ideal) x0 x1 j).1.shape.Idx), (pcS (F := Ideal) x0 x1 j).2 x =
      (fun y : S1x10x256x64.Idx => sqr (fun c => x0 (ix3 0 (pt (x1 (ix3 0 ⟨(y 2).val, (y 2).isLt⟩ ⟨(y 1).val, (y 1).isLt⟩))) c)) ⟨(y 3).val, (y 3).isLt⟩) ((pcS (F := Ideal) x0 x1 j).1.emb x) := by
    intro j x
    obtain ⟨p, q, r, k, rfl⟩ : ∃ (p q : Fin 1) (r : Fin 256) (k : Fin 64), x = ix4 p q r k := ⟨⟨(x 0).val, (x 0).isLt⟩, ⟨(x 1).val, (x 1).isLt⟩, ⟨(x 2).val, (x 2).isLt⟩, ⟨(x 3).val, (x 3).isLt⟩, by funext q; fin_cases q <;> rfl⟩
    have he : (pcS (F := Ideal) x0 x1 j).1.emb (ix4 p q r k) = ix4 0 j r k := by
      funext a
      refine Fin.ext ((Rect.idx_unit_val _ _ (inS j) _ a).trans ?_)
      fin_cases a <;> first | exact Nat.zero_add _ | (show j.val + q.val = j.val; omega) | (show 0 + p.val = 0; omega)
    rw [he]
    refine (pay6_at _ _ (fun i => hv _) p q r k).trans ?_
    exact congrArg (sqr · k) (funext fun c => (at_row x0 _).trans (congrArg (fun w => x0 (ix3 0 (pt w) c)) (at_word x1 j r)))
  rw [prepS_eq]
  refine View.canon_append_of_pieces (Val := Elt Ideal) (e := .f32) (fun y : S1x10x256x64.Idx => sqr (fun c => x0 (ix3 0 (pt (x1 (ix3 0 ⟨(y 2).val, (y 2).isLt⟩ ⟨(y 1).val, (y 1).isLt⟩))) c)) ⟨(y 3).val, (y 3).isLt⟩) [] _ (fun p hp => ?_) y (cover0_3 _ _ _ _ _ _ _ _ _ _ y)
  simp only [List.mem_cons, List.not_mem_nil, or_false] at hp
  rcases hp with rfl | rfl | rfl | rfl | rfl | rfl | rfl | rfl | rfl | rfl <;> exact key _

end Cert.LbpIdeal.Lbp

end
-- ==== Proof.Lbp.Last.lean ====
/- The block the last kernel writes, at an entry: the source coordinate plus the candidates' mean under the softmax of the
   negated beliefs. -/
module

public import proofs.«01_k».proof.Proof.Gen.LbpIdeal.Frame
public import proofs.«01_k».proof.Proof.Lbp.KernelRow
public import Idealize.ShloMosaic.Lib.Pipeline.ValueKit
public import Idealize.ShloMosaic.Lib.Pipeline.CanonAppend

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

/-- The weights, at an entry. -/
theorem soft_at (x0 : FVec Ideal S1x2048x64 .f32) (n : Fin 2048) (a : Fin 64) : k6_pay3 (F := Ideal) x0 (ix2 n a) = wt (fun a => x0 (ix3 0 n a)) a := by
  pointwise [k6_pay3]
  rw [fold_max]
  simp only [zero_sub, Ideal.ofBits_zero]
  rfl

/-- A coordinate's sum with the source, from a slice of the candidates, at an entry. -/
theorem col0_at (x0 x1 : FVec Ideal S1x2048x64 .f32) (x2 : FVec Ideal S1x2048x1 .f32) (p q : Fin 1) (n : Fin 2048) :
    k6_pay4 (F := Ideal) x0 x1 x2 (ix3 p n q) = x2 (ix3 0 n 0) + ∑ a, wt (fun a => x0 (ix3 0 n a)) a * x1 (ix3 0 n a) := by
  pointwise [k6_pay4, soft_at]

theorem col1_at (x0 x1 : FVec Ideal S1x2048x64 .f32) (x2 : FVec Ideal S1x2048x1 .f32) (p q : Fin 1) (n : Fin 2048) :
    k6_pay1 (F := Ideal) (k6_pay5 x0 x1 x2) (ix3 p n q) = x2 (ix3 0 n 0) + ∑ a, wt (fun a => x0 (ix3 0 n a)) a * x1 (ix3 0 n a) := by
  pointwise [k6_pay1, k6_pay5, soft_at]

theorem col2_at (x0 x1 : FVec Ideal S1x2048x64 .f32) (x2 : FVec Ideal S1x2048x1 .f32) (p q : Fin 1) (n : Fin 2048) :
    k6_pay2 (F := Ideal) (k6_pay3 x0) x1 x2 (ix3 p n q) = x2 (ix3 0 n 0) + ∑ a, wt (fun a => x0 (ix3 0 n a)) a * x1 (ix3 0 n a) := by
  pointwise [k6_pay2, soft_at]

/-- The displaced coordinate, from slices that read the beliefs, the coordinate's candidates and the source. -/
theorem sum_of (t t' : Fin 64 → EReal) (u : Fin 64 → EReal) (x : Fin 192 → EReal) (s s' : EReal) (ht : ∀ a, t' a = t a) (hs : s' = s) (k : Fin 3) (hu : ∀ a, u a = x (cc k a)) :
    s' + ∑ a, wt t' a * u a = moved t x s k := by
  obtain rfl : t' = t := funext ht
  obtain rfl : u = fun a => x (cc k a) := funext hu
  rw [hs]
  rfl

/-- The last kernel's block, at an entry. -/
theorem last_at (x0 : FVec Ideal S1x2048x64 .f32) (x1 : FVec Ideal S1x2048x192 .f32) (x2 : FVec Ideal S1x2048x3 .f32) (y : S1x2048x3.Idx) :
    out6_3 (F := Ideal) x0 x1 x2 y = moved (fun a => x0 (ix3 0 ⟨(y 1).val, (y 1).isLt⟩ a)) (fun j => x1 (ix3 0 ⟨(y 1).val, (y 1).isLt⟩ j)) (x2 (ix3 0 ⟨(y 1).val, (y 1).isLt⟩ ⟨(y 2).val, (y 2).isLt⟩)) ⟨(y 2).val, (y 2).isLt⟩ := by
  unfold out6_3
  canon_tiles x h
  all_goals
    obtain ⟨p, n, q, rfl⟩ : ∃ (p : Fin 1) (n : Fin 2048) (q : Fin 1), x = ix3 p n q := ⟨⟨(x 0).val, (x 0).isLt⟩, ⟨(x 1).val, (x 1).isLt⟩, ⟨(x 2).val, (x 2).isLt⟩, by funext q; fin_cases q <;> rfl⟩
    obtain rfl : q = 0 := Subsingleton.elim _ _
    have e1 : (⟨(y 1).val, (y 1).isLt⟩ : Fin 2048) = n := Fin.ext h1
    rw [e1]
  · have e2 : (⟨(y 2).val, (y 2).isLt⟩ : Fin 3) = 2 := Fin.ext h2
    rw [e2]
    refine (col2_at _ _ _ p 0 n).trans (sum_of _ _ _ _ _ _ ?_ ?_ _ ?_)
    all_goals first | intro a | skip
    all_goals
      refine View.ld_unit_apply_of _ _ _ _ _ _ fun q => ?_
      fin_cases q <;> first | exact (Nat.zero_add _).symm | rfl
  · have e2 : (⟨(y 2).val, (y 2).isLt⟩ : Fin 3) = 1 := Fin.ext h2
    rw [e2]
    refine (col1_at _ _ _ p 0 n).trans (sum_of _ _ _ _ _ _ ?_ ?_ _ ?_)
    all_goals first | intro a | skip
    all_goals
      refine View.ld_unit_apply_of _ _ _ _ _ _ fun q => ?_
      fin_cases q <;> first | exact (Nat.zero_add _).symm | rfl
  · have e2 : (⟨(y 2).val, (y 2).isLt⟩ : Fin 3) = 0 := Fin.ext h2
    rw [e2]
    refine (col0_at _ _ _ p 0 n).trans (sum_of _ _ _ _ _ _ ?_ ?_ _ ?_)
    all_goals first | intro a | skip
    all_goals
      refine View.ld_unit_apply_of _ _ _ _ _ _ fun q => ?_
      fin_cases q <;> first | exact (Nat.zero_add _).symm | rfl

end Cert.LbpIdeal.Lbp

end
-- ==== Proof.Lbp.Arrays.lean ====
/- The arrays the seven regions leave, as functions of the arguments, and the belief step's block in terms of them. -/
module

public import proofs.«01_k».proof.Proof.Lbp.Block

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

variable (D : FVec Ideal S4x2048x192 .f32) (I : IVec S4x2048x10 32) (DC : FVec Ideal S4x2048x64 .f32) (S : FVec Ideal S4x2048x3 .f32)

/-- The beliefs after the given number of steps. -/
def BEL (k : ℕ) : FVec Ideal S4x2048x64 .f32 := fun i =>
  steps (fun n c => D (ix3 ⟨(i 0).val, (i 0).isLt⟩ n c)) (fun n j => pt (I (ix3 ⟨(i 0).val, (i 0).isLt⟩ n j))) (fun n a => DC (ix3 ⟨(i 0).val, (i 0).isLt⟩ n a)) k ⟨(i 1).val, (i 1).isLt⟩ ⟨(i 2).val, (i 2).isLt⟩

/-- The neighbours' candidates. -/
def NBD : FVec Ideal S4x10x2048x192 .f32 := fun i => D (ix3 ⟨(i 0).val, (i 0).isLt⟩ (pt (I (ix3 ⟨(i 0).val, (i 0).isLt⟩ ⟨(i 2).val, (i 2).isLt⟩ ⟨(i 1).val, (i 1).isLt⟩))) ⟨(i 3).val, (i 3).isLt⟩)

/-- The neighbours' candidates' weighted squares. -/
def NBS : FVec Ideal S4x10x2048x64 .f32 := fun i => sqr (fun c => D (ix3 ⟨(i 0).val, (i 0).isLt⟩ (pt (I (ix3 ⟨(i 0).val, (i 0).isLt⟩ ⟨(i 2).val, (i 2).isLt⟩ ⟨(i 1).val, (i 1).isLt⟩))) c)) ⟨(i 3).val, (i 3).isLt⟩

/-- The displaced source points. -/
def OUT : FVec Ideal S4x2048x3 .f32 := fun i =>
  moved (fun a => BEL D I DC 5 (ix3 ⟨(i 0).val, (i 0).isLt⟩ ⟨(i 1).val, (i 1).isLt⟩ a)) (fun c => D (ix3 ⟨(i 0).val, (i 0).isLt⟩ ⟨(i 1).val, (i 1).isLt⟩ c)) (S i) ⟨(i 2).val, (i 2).isLt⟩

/-- A block's row among all rows of its batch. -/
def row (q : Fin 8) (r : Fin 256) : Fin 2048 := ⟨q.val * 256 + r.val, by omega⟩

theorem BEL_zero : BEL D I DC 0 = DC := by
  funext i
  refine congrArg DC (funext fun a => ?_)
  fin_cases a <;> rfl

variable {D I DC}

/-- A block of new beliefs is the block of the beliefs one step later, when its inputs are the blocks of the arrays. -/
theorem step_of (hD : ∀ i, ∃ r : ℝ, D i = (r : EReal)) (k : ℕ) (b : Fin 4) (q : Fin 8)
    (x0 : FVec Ideal S1x2048x64 .f32) (x1 : FVec Ideal S1x256x64 .f32) (x2 : FVec Ideal S1x256x192 .f32) (x3 : IVec S1x256x10 32) (x4 : FVec Ideal S1x10x256x192 .f32)
    (h0 : ∀ n a, x0 (ix3 0 n a) = BEL D I DC k (ix3 b n a)) (h1 : ∀ r a, x1 (ix3 0 r a) = DC (ix3 b (row q r) a)) (h2 : ∀ r c, x2 (ix3 0 r c) = D (ix3 b (row q r) c))
    (h3 : ∀ r j, x3 (ix3 0 r j) = I (ix3 b (row q r) j)) (h4 : ∀ j r c, x4 (ix4 0 j r c) = NBD D I (ix4 b j (row q r) c)) (r : Fin 256) (a : Fin 64) :
    newB x0 x1 x2 x3 x4 r a = BEL D I DC (k + 1) (ix3 b (row q r) a) := by
  unfold newB
  simp only [h0, h1, h2, h3, h4]
  refine congrArg (DC (ix3 b (row q r) a) + ·) (Finset.sum_congr rfl fun j _ => ?_)
  exact msgK_eq _ _ _ (fun c => hD _) (fun c => hD _) a

/-- A block of the indices names points, as the indices do. -/
theorem range_of (hI : ∀ i, 0 ≤ (I i).toInt ∧ (I i).toInt < 2048) (x3 : IVec S1x256x10 32) (b : Fin 4) (q : Fin 8) (h3 : ∀ r j, x3 (ix3 0 r j) = I (ix3 b (row q r) j)) (i : S1x256x10.Idx) :
    0 ≤ (x3 i).toInt ∧ (x3 i).toInt < 2048 := by
  obtain ⟨p, r, j, rfl⟩ : ∃ (p : Fin 1) (r : Fin 256) (j : Fin 10), i = ix3 p r j := ⟨⟨(i 0).val, (i 0).isLt⟩, ⟨(i 1).val, (i 1).isLt⟩, ⟨(i 2).val, (i 2).isLt⟩, by funext q; fin_cases q <;> rfl⟩
  obtain rfl : p = 0 := Subsingleton.elim _ _
  rw [h3]
  exact hI _

/-- A block of the weighted squares is the weighted squares of the block of candidates. -/
theorem sqr_of (x4 : FVec Ideal S1x10x256x192 .f32) (x5 : FVec Ideal S1x10x256x64 .f32) (b : Fin 4) (q : Fin 8) (h4 : ∀ j r c, x4 (ix4 0 j r c) = NBD D I (ix4 b j (row q r) c)) (h5 : ∀ j r a, x5 (ix4 0 j r a) = NBS D I (ix4 b j (row q r) a))
    (j : Fin 10) (r : Fin 256) (a : Fin 64) : x5 (ix4 0 j r a) = sqr (fun k => x4 (ix4 0 j r k)) a :=
  (h5 j r a).trans ((congrArg (sqr · a) (funext fun k => h4 j r k)).trans rfl).symm

end Cert.LbpIdeal.Lbp

end
-- ==== Proof.Lbp.Chain.lean ====
/- The arrays after each region of the launch: the neighbours' candidates, the beliefs step by step, the displaced points. -/
module

public import proofs.«01_k».proof.Proof.Lbp.Region
public import proofs.«01_k».proof.Proof.Lbp.Prep
public import proofs.«01_k».proof.Proof.Lbp.Last
public import proofs.«01_k».proof.Proof.Lbp.Arrays
public import Idealize.ShloMosaic.Lib.Pipeline.ValueKit

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

variable {D : FVec Ideal S4x2048x192 .f32} {I : IVec S4x2048x10 32} {DC : FVec Ideal S4x2048x64 .f32} {S : FVec Ideal S4x2048x3 .f32}
variable (V : (c : Dev nD) → (b : Ref sig .tc) → Buf (Elt Ideal) ((c : Thread nD τ).loc b))

/-- A grid point's batch. -/
def bb (t : Fin 32) : Fin 4 := ⟨t.val / 8, by omega⟩
/-- A grid point's block of rows. -/
def qq (t : Fin 32) : Fin 8 := ⟨t.val % 8, by omega⟩

/-- The blocks of the grid points of region 1. -/
theorem idx1 : ∀ t : Fin cfg1.N, win1_0.index t = ![t.val / 8, 0, 0] ∧ win1_1.index t = ![t.val / 8, t.val % 8, 0] ∧ win1_2.index t = ![t.val / 8, t.val % 8, 0] ∧ win1_3.index t = ![t.val / 8, t.val % 8, 0]
    ∧ win1_4.index t = ![t.val / 8, 0, t.val % 8, 0] ∧ win1_5.index t = ![t.val / 8, 0, t.val % 8, 0] ∧ win1_6.index t = ![t.val / 8, t.val % 8, 0] := (by decide +kernel : ∀ t : Fin grid1.N, _)

set_option maxHeartbeats 1600000 in
/-- Region 1 leaves the beliefs one step after those it reads. -/
theorem region1 (c : Dev nD) (k : ℕ) (hD : ∀ i, ∃ r : ℝ, D i = (r : EReal)) (hI : ∀ i, 0 ≤ (I i).toInt ∧ (I i).toInt < 2048)
    (h0 : V c main_arg2 = BEL D I DC k) (h1 : V c main_arg2 = DC) (h2 : V c main_arg0 = D) (h3 : V c main_arg1 = I) (h4 : V c main_v0_0 = NBD D I) (h5 : V c main_v0_1 = NBS D I) :
    (dat1 V c).arrAt 6 cfg1.N = BEL D I DC (k + 1) := by
  refine (dat1 V c).arrAt_eq_of_covers 6 _ (by decide +kernel) fun t hf y => ?_
  have e0 : ∀ n a, (iblk1 V c 0 t : FVec Ideal S1x2048x64 .f32) (ix3 0 n a) = BEL D I DC k (ix3 (bb t) n a) := fun n a => by rw [← h0]; blk_ext [iblk1, idx1 t, bb]
  have e1 : ∀ r a, (iblk1 V c 1 t : FVec Ideal S1x256x64 .f32) (ix3 0 r a) = DC (ix3 (bb t) (row (qq t) r) a) := fun r a => by rw [← h1]; blk_ext [iblk1, idx1 t, bb, qq, row]
  have e2 : ∀ r a, (iblk1 V c 2 t : FVec Ideal S1x256x192 .f32) (ix3 0 r a) = D (ix3 (bb t) (row (qq t) r) a) := fun r a => by rw [← h2]; blk_ext [iblk1, idx1 t, bb, qq, row]
  have e3 : ∀ r a, (iblk1 V c 3 t : IVec S1x256x10 32) (ix3 0 r a) = I (ix3 (bb t) (row (qq t) r) a) := fun r a => by rw [← h3]; blk_ext [iblk1, idx1 t, bb, qq, row]
  have e4 : ∀ j r a, (iblk1 V c 4 t : FVec Ideal S1x10x256x192 .f32) (ix4 0 j r a) = NBD D I (ix4 (bb t) j (row (qq t) r) a) := fun j r a => by rw [← h4]; blk_ext [iblk1, idx1 t, bb, qq, row]
  have e5 : ∀ j r a, (iblk1 V c 5 t : FVec Ideal S1x10x256x64 .f32) (ix4 0 j r a) = NBS D I (ix4 (bb t) j (row (qq t) r) a) := fun j r a => by rw [← h5]; blk_ext [iblk1, idx1 t, bb, qq, row]
  blk_simp
  rw [after1_6]
  refine (outs1 V c t (range_of hI _ _ _ e3) (sqr_of _ _ _ _ e4 e5) y).trans ?_
  refine (step_of hD k (bb t) (qq t) _ _ _ _ _ e0 e1 e2 e3 e4 _ _).trans (congrArg (BEL D I DC (k + 1)) ?_)
  blk_ext [idx1 t, bb, qq, row]

/-- The blocks of the grid points of region 2. -/
theorem idx2 : ∀ t : Fin cfg2.N, win2_0.index t = ![t.val / 8, 0, 0] ∧ win2_1.index t = ![t.val / 8, t.val % 8, 0] ∧ win2_2.index t = ![t.val / 8, t.val % 8, 0] ∧ win2_3.index t = ![t.val / 8, t.val % 8, 0]
    ∧ win2_4.index t = ![t.val / 8, 0, t.val % 8, 0] ∧ win2_5.index t = ![t.val / 8, 0, t.val % 8, 0] ∧ win2_6.index t = ![t.val / 8, t.val % 8, 0] := (by decide +kernel : ∀ t : Fin grid2.N, _)

set_option maxHeartbeats 1600000 in
/-- Region 2 leaves the beliefs one step after those it reads. -/
theorem region2 (c : Dev nD) (k : ℕ) (hD : ∀ i, ∃ r : ℝ, D i = (r : EReal)) (hI : ∀ i, 0 ≤ (I i).toInt ∧ (I i).toInt < 2048)
    (h0 : V c main_v1 = BEL D I DC k) (h1 : V c main_arg2 = DC) (h2 : V c main_arg0 = D) (h3 : V c main_arg1 = I) (h4 : V c main_v0_0 = NBD D I) (h5 : V c main_v0_1 = NBS D I) :
    (dat2 V c).arrAt 6 cfg2.N = BEL D I DC (k + 1) := by
  refine (dat2 V c).arrAt_eq_of_covers 6 _ (by decide +kernel) fun t hf y => ?_
  have e0 : ∀ n a, (iblk2 V c 0 t : FVec Ideal S1x2048x64 .f32) (ix3 0 n a) = BEL D I DC k (ix3 (bb t) n a) := fun n a => by rw [← h0]; blk_ext [iblk2, idx2 t, bb]
  have e1 : ∀ r a, (iblk2 V c 1 t : FVec Ideal S1x256x64 .f32) (ix3 0 r a) = DC (ix3 (bb t) (row (qq t) r) a) := fun r a => by rw [← h1]; blk_ext [iblk2, idx2 t, bb, qq, row]
  have e2 : ∀ r a, (iblk2 V c 2 t : FVec Ideal S1x256x192 .f32) (ix3 0 r a) = D (ix3 (bb t) (row (qq t) r) a) := fun r a => by rw [← h2]; blk_ext [iblk2, idx2 t, bb, qq, row]
  have e3 : ∀ r a, (iblk2 V c 3 t : IVec S1x256x10 32) (ix3 0 r a) = I (ix3 (bb t) (row (qq t) r) a) := fun r a => by rw [← h3]; blk_ext [iblk2, idx2 t, bb, qq, row]
  have e4 : ∀ j r a, (iblk2 V c 4 t : FVec Ideal S1x10x256x192 .f32) (ix4 0 j r a) = NBD D I (ix4 (bb t) j (row (qq t) r) a) := fun j r a => by rw [← h4]; blk_ext [iblk2, idx2 t, bb, qq, row]
  have e5 : ∀ j r a, (iblk2 V c 5 t : FVec Ideal S1x10x256x64 .f32) (ix4 0 j r a) = NBS D I (ix4 (bb t) j (row (qq t) r) a) := fun j r a => by rw [← h5]; blk_ext [iblk2, idx2 t, bb, qq, row]
  blk_simp
  rw [after2_6]
  refine (outs2 V c t (range_of hI _ _ _ e3) (sqr_of _ _ _ _ e4 e5) y).trans ?_
  refine (step_of hD k (bb t) (qq t) _ _ _ _ _ e0 e1 e2 e3 e4 _ _).trans (congrArg (BEL D I DC (k + 1)) ?_)
  blk_ext [idx2 t, bb, qq, row]

/-- The blocks of the grid points of region 3. -/
theorem idx3 : ∀ t : Fin cfg3.N, win3_0.index t = ![t.val / 8, 0, 0] ∧ win3_1.index t = ![t.val / 8, t.val % 8, 0] ∧ win3_2.index t = ![t.val / 8, t.val % 8, 0] ∧ win3_3.index t = ![t.val / 8, t.val % 8, 0]
    ∧ win3_4.index t = ![t.val / 8, 0, t.val % 8, 0] ∧ win3_5.index t = ![t.val / 8, 0, t.val % 8, 0] ∧ win3_6.index t = ![t.val / 8, t.val % 8, 0] := (by decide +kernel : ∀ t : Fin grid3.N, _)

set_option maxHeartbeats 1600000 in
/-- Region 3 leaves the beliefs one step after those it reads. -/
theorem region3 (c : Dev nD) (k : ℕ) (hD : ∀ i, ∃ r : ℝ, D i = (r : EReal)) (hI : ∀ i, 0 ≤ (I i).toInt ∧ (I i).toInt < 2048)
    (h0 : V c main_v2 = BEL D I DC k) (h1 : V c main_arg2 = DC) (h2 : V c main_arg0 = D) (h3 : V c main_arg1 = I) (h4 : V c main_v0_0 = NBD D I) (h5 : V c main_v0_1 = NBS D I) :
    (dat3 V c).arrAt 6 cfg3.N = BEL D I DC (k + 1) := by
  refine (dat3 V c).arrAt_eq_of_covers 6 _ (by decide +kernel) fun t hf y => ?_
  have e0 : ∀ n a, (iblk3 V c 0 t : FVec Ideal S1x2048x64 .f32) (ix3 0 n a) = BEL D I DC k (ix3 (bb t) n a) := fun n a => by rw [← h0]; blk_ext [iblk3, idx3 t, bb]
  have e1 : ∀ r a, (iblk3 V c 1 t : FVec Ideal S1x256x64 .f32) (ix3 0 r a) = DC (ix3 (bb t) (row (qq t) r) a) := fun r a => by rw [← h1]; blk_ext [iblk3, idx3 t, bb, qq, row]
  have e2 : ∀ r a, (iblk3 V c 2 t : FVec Ideal S1x256x192 .f32) (ix3 0 r a) = D (ix3 (bb t) (row (qq t) r) a) := fun r a => by rw [← h2]; blk_ext [iblk3, idx3 t, bb, qq, row]
  have e3 : ∀ r a, (iblk3 V c 3 t : IVec S1x256x10 32) (ix3 0 r a) = I (ix3 (bb t) (row (qq t) r) a) := fun r a => by rw [← h3]; blk_ext [iblk3, idx3 t, bb, qq, row]
  have e4 : ∀ j r a, (iblk3 V c 4 t : FVec Ideal S1x10x256x192 .f32) (ix4 0 j r a) = NBD D I (ix4 (bb t) j (row (qq t) r) a) := fun j r a => by rw [← h4]; blk_ext [iblk3, idx3 t, bb, qq, row]
  have e5 : ∀ j r a, (iblk3 V c 5 t : FVec Ideal S1x10x256x64 .f32) (ix4 0 j r a) = NBS D I (ix4 (bb t) j (row (qq t) r) a) := fun j r a => by rw [← h5]; blk_ext [iblk3, idx3 t, bb, qq, row]
  blk_simp
  rw [after3_6]
  refine (outs3 V c t (range_of hI _ _ _ e3) (sqr_of _ _ _ _ e4 e5) y).trans ?_
  refine (step_of hD k (bb t) (qq t) _ _ _ _ _ e0 e1 e2 e3 e4 _ _).trans (congrArg (BEL D I DC (k + 1)) ?_)
  blk_ext [idx3 t, bb, qq, row]

/-- The blocks of the grid points of region 4. -/
theorem idx4 : ∀ t : Fin cfg4.N, win4_0.index t = ![t.val / 8, 0, 0] ∧ win4_1.index t = ![t.val / 8, t.val % 8, 0] ∧ win4_2.index t = ![t.val / 8, t.val % 8, 0] ∧ win4_3.index t = ![t.val / 8, t.val % 8, 0]
    ∧ win4_4.index t = ![t.val / 8, 0, t.val % 8, 0] ∧ win4_5.index t = ![t.val / 8, 0, t.val % 8, 0] ∧ win4_6.index t = ![t.val / 8, t.val % 8, 0] := (by decide +kernel : ∀ t : Fin grid4.N, _)

set_option maxHeartbeats 1600000 in
/-- Region 4 leaves the beliefs one step after those it reads. -/
theorem region4 (c : Dev nD) (k : ℕ) (hD : ∀ i, ∃ r : ℝ, D i = (r : EReal)) (hI : ∀ i, 0 ≤ (I i).toInt ∧ (I i).toInt < 2048)
    (h0 : V c main_v3 = BEL D I DC k) (h1 : V c main_arg2 = DC) (h2 : V c main_arg0 = D) (h3 : V c main_arg1 = I) (h4 : V c main_v0_0 = NBD D I) (h5 : V c main_v0_1 = NBS D I) :
    (dat4 V c).arrAt 6 cfg4.N = BEL D I DC (k + 1) := by
  refine (dat4 V c).arrAt_eq_of_covers 6 _ (by decide +kernel) fun t hf y => ?_
  have e0 : ∀ n a, (iblk4 V c 0 t : FVec Ideal S1x2048x64 .f32) (ix3 0 n a) = BEL D I DC k (ix3 (bb t) n a) := fun n a => by rw [← h0]; blk_ext [iblk4, idx4 t, bb]
  have e1 : ∀ r a, (iblk4 V c 1 t : FVec Ideal S1x256x64 .f32) (ix3 0 r a) = DC (ix3 (bb t) (row (qq t) r) a) := fun r a => by rw [← h1]; blk_ext [iblk4, idx4 t, bb, qq, row]
  have e2 : ∀ r a, (iblk4 V c 2 t : FVec Ideal S1x256x192 .f32) (ix3 0 r a) = D (ix3 (bb t) (row (qq t) r) a) := fun r a => by rw [← h2]; blk_ext [iblk4, idx4 t, bb, qq, row]
  have e3 : ∀ r a, (iblk4 V c 3 t : IVec S1x256x10 32) (ix3 0 r a) = I (ix3 (bb t) (row (qq t) r) a) := fun r a => by rw [← h3]; blk_ext [iblk4, idx4 t, bb, qq, row]
  have e4 : ∀ j r a, (iblk4 V c 4 t : FVec Ideal S1x10x256x192 .f32) (ix4 0 j r a) = NBD D I (ix4 (bb t) j (row (qq t) r) a) := fun j r a => by rw [← h4]; blk_ext [iblk4, idx4 t, bb, qq, row]
  have e5 : ∀ j r a, (iblk4 V c 5 t : FVec Ideal S1x10x256x64 .f32) (ix4 0 j r a) = NBS D I (ix4 (bb t) j (row (qq t) r) a) := fun j r a => by rw [← h5]; blk_ext [iblk4, idx4 t, bb, qq, row]
  blk_simp
  rw [after4_6]
  refine (outs4 V c t (range_of hI _ _ _ e3) (sqr_of _ _ _ _ e4 e5) y).trans ?_
  refine (step_of hD k (bb t) (qq t) _ _ _ _ _ e0 e1 e2 e3 e4 _ _).trans (congrArg (BEL D I DC (k + 1)) ?_)
  blk_ext [idx4 t, bb, qq, row]

/-- The blocks of the grid points of region 5. -/
theorem idx5 : ∀ t : Fin cfg5.N, win5_0.index t = ![t.val / 8, 0, 0] ∧ win5_1.index t = ![t.val / 8, t.val % 8, 0] ∧ win5_2.index t = ![t.val / 8, t.val % 8, 0] ∧ win5_3.index t = ![t.val / 8, t.val % 8, 0]
    ∧ win5_4.index t = ![t.val / 8, 0, t.val % 8, 0] ∧ win5_5.index t = ![t.val / 8, 0, t.val % 8, 0] ∧ win5_6.index t = ![t.val / 8, t.val % 8, 0] := (by decide +kernel : ∀ t : Fin grid5.N, _)

set_option maxHeartbeats 1600000 in
/-- Region 5 leaves the beliefs one step after those it reads. -/
theorem region5 (c : Dev nD) (k : ℕ) (hD : ∀ i, ∃ r : ℝ, D i = (r : EReal)) (hI : ∀ i, 0 ≤ (I i).toInt ∧ (I i).toInt < 2048)
    (h0 : V c main_v4 = BEL D I DC k) (h1 : V c main_arg2 = DC) (h2 : V c main_arg0 = D) (h3 : V c main_arg1 = I) (h4 : V c main_v0_0 = NBD D I) (h5 : V c main_v0_1 = NBS D I) :
    (dat5 V c).arrAt 6 cfg5.N = BEL D I DC (k + 1) := by
  refine (dat5 V c).arrAt_eq_of_covers 6 _ (by decide +kernel) fun t hf y => ?_
  have e0 : ∀ n a, (iblk5 V c 0 t : FVec Ideal S1x2048x64 .f32) (ix3 0 n a) = BEL D I DC k (ix3 (bb t) n a) := fun n a => by rw [← h0]; blk_ext [iblk5, idx5 t, bb]
  have e1 : ∀ r a, (iblk5 V c 1 t : FVec Ideal S1x256x64 .f32) (ix3 0 r a) = DC (ix3 (bb t) (row (qq t) r) a) := fun r a => by rw [← h1]; blk_ext [iblk5, idx5 t, bb, qq, row]
  have e2 : ∀ r a, (iblk5 V c 2 t : FVec Ideal S1x256x192 .f32) (ix3 0 r a) = D (ix3 (bb t) (row (qq t) r) a) := fun r a => by rw [← h2]; blk_ext [iblk5, idx5 t, bb, qq, row]
  have e3 : ∀ r a, (iblk5 V c 3 t : IVec S1x256x10 32) (ix3 0 r a) = I (ix3 (bb t) (row (qq t) r) a) := fun r a => by rw [← h3]; blk_ext [iblk5, idx5 t, bb, qq, row]
  have e4 : ∀ j r a, (iblk5 V c 4 t : FVec Ideal S1x10x256x192 .f32) (ix4 0 j r a) = NBD D I (ix4 (bb t) j (row (qq t) r) a) := fun j r a => by rw [← h4]; blk_ext [iblk5, idx5 t, bb, qq, row]
  have e5 : ∀ j r a, (iblk5 V c 5 t : FVec Ideal S1x10x256x64 .f32) (ix4 0 j r a) = NBS D I (ix4 (bb t) j (row (qq t) r) a) := fun j r a => by rw [← h5]; blk_ext [iblk5, idx5 t, bb, qq, row]
  blk_simp
  rw [after5_6]
  refine (outs5 V c t (range_of hI _ _ _ e3) (sqr_of _ _ _ _ e4 e5) y).trans ?_
  refine (step_of hD k (bb t) (qq t) _ _ _ _ _ e0 e1 e2 e3 e4 _ _).trans (congrArg (BEL D I DC (k + 1)) ?_)
  blk_ext [idx5 t, bb, qq, row]

/-- The blocks of the grid points of the gathering region. -/
theorem idx0 : ∀ t : Fin cfg0.N, win0_0.index t = ![t.val / 8, 0, 0] ∧ win0_1.index t = ![t.val / 8, t.val % 8, 0] ∧ win0_2.index t = ![t.val / 8, 0, t.val % 8, 0] ∧ win0_3.index t = ![t.val / 8, 0, t.val % 8, 0] := (by decide +kernel : ∀ t : Fin grid0.N, _)

set_option maxHeartbeats 1600000 in
/-- The gathering region leaves the neighbours' candidates. -/
theorem region0 (c : Dev nD) (hI : ∀ i, 0 ≤ (I i).toInt ∧ (I i).toInt < 2048) (h2 : V c main_arg0 = D) (h3 : V c main_arg1 = I) : (dat0 V c).arrAt 2 cfg0.N = NBD D I := by
  refine (dat0 V c).arrAt_eq_of_covers 2 _ (by decide +kernel) fun t hf y => ?_
  have e2 : ∀ n a, (iblk0 V c 0 t : FVec Ideal S1x2048x192 .f32) (ix3 0 n a) = D (ix3 (bb t) n a) := fun n a => by rw [← h2]; blk_ext [iblk0, idx0 t, bb]
  have e3 : ∀ r a, (iblk0 V c 1 t : IVec S1x256x10 32) (ix3 0 r a) = I (ix3 (bb t) (row (qq t) r) a) := fun r a => by rw [← h3]; blk_ext [iblk0, idx0 t, bb, qq, row]
  blk_simp
  rw [after0_2]
  refine (prep_at _ _ (range_of hI _ _ _ e3) y).trans ?_
  rw [e3, e2]
  refine Eq.trans (b := NBD D I (ix4 (bb t) ⟨(y 1).val, (y 1).isLt⟩ (row (qq t) ⟨(y 2).val, (y 2).isLt⟩) ⟨(y 3).val, (y 3).isLt⟩)) rfl (congrArg (NBD D I) ?_)
  blk_ext [idx0 t, bb, qq, row]

set_option maxHeartbeats 1600000 in
/-- The gathering region leaves the neighbours' weighted squares. -/
theorem region0s (c : Dev nD) (hI : ∀ i, 0 ≤ (I i).toInt ∧ (I i).toInt < 2048) (h2 : V c main_arg0 = D) (h3 : V c main_arg1 = I) : (dat0 V c).arrAt 3 cfg0.N = NBS D I := by
  refine (dat0 V c).arrAt_eq_of_covers 3 _ (by decide +kernel) fun t hf y => ?_
  have e2 : ∀ n a, (iblk0 V c 0 t : FVec Ideal S1x2048x192 .f32) (ix3 0 n a) = D (ix3 (bb t) n a) := fun n a => by rw [← h2]; blk_ext [iblk0, idx0 t, bb]
  have e3 : ∀ r a, (iblk0 V c 1 t : IVec S1x256x10 32) (ix3 0 r a) = I (ix3 (bb t) (row (qq t) r) a) := fun r a => by rw [← h3]; blk_ext [iblk0, idx0 t, bb, qq, row]
  blk_simp
  rw [after0_3]
  refine (prepS_at _ _ (range_of hI _ _ _ e3) y).trans ?_
  rw [e3]
  refine (congrArg (sqr · _) (funext fun k => e2 _ k)).trans ?_
  refine Eq.trans (b := NBS D I (ix4 (bb t) ⟨(y 1).val, (y 1).isLt⟩ (row (qq t) ⟨(y 2).val, (y 2).isLt⟩) ⟨(y 3).val, (y 3).isLt⟩)) rfl (congrArg (NBS D I) ?_)
  blk_ext [idx0 t, bb, qq, row]

/-- The blocks of the grid points of the last region. -/
theorem idx6 : ∀ t : Fin cfg6.N, win6_0.index t = ![t.val, 0, 0] ∧ win6_1.index t = ![t.val, 0, 0] ∧ win6_2.index t = ![t.val, 0, 0] ∧ win6_3.index t = ![t.val, 0, 0] := (by decide +kernel : ∀ t : Fin grid6.N, _)

set_option maxHeartbeats 1600000 in
/-- The last region leaves the displaced points. -/
theorem region6 (c : Dev nD) (h0 : V c main_v5 = BEL D I DC 5) (h1 : V c main_arg0 = D) (h2 : V c main_arg3 = S) : (dat6 V c).arrAt 3 cfg6.N = OUT D I DC S := by
  refine (dat6 V c).arrAt_eq_of_covers 3 _ (by decide +kernel) fun t hf y => ?_
  have e0 : ∀ n a, (iblk6 V c 0 t : FVec Ideal S1x2048x64 .f32) (ix3 0 n a) = BEL D I DC 5 (ix3 (⟨t.val, t.isLt⟩ : Fin 4) n a) := fun n a => by rw [← h0]; blk_ext [iblk6, idx6 t]
  have e1 : ∀ n a, (iblk6 V c 1 t : FVec Ideal S1x2048x192 .f32) (ix3 0 n a) = D (ix3 (⟨t.val, t.isLt⟩ : Fin 4) n a) := fun n a => by rw [← h1]; blk_ext [iblk6, idx6 t]
  have e2 : ∀ n a, (iblk6 V c 2 t : FVec Ideal S1x2048x3 .f32) (ix3 0 n a) = S (ix3 (⟨t.val, t.isLt⟩ : Fin 4) n a) := fun n a => by rw [← h2]; blk_ext [iblk6, idx6 t]
  blk_simp
  rw [after6_3]
  refine (last_at _ _ _ y).trans ?_
  simp only [e0, e1, e2]
  refine Eq.trans (b := OUT D I DC S (ix3 (⟨t.val, t.isLt⟩ : Fin 4) ⟨(y 1).val, (y 1).isLt⟩ ⟨(y 2).val, (y 2).isLt⟩)) rfl (congrArg (OUT D I DC S) ?_)
  blk_ext [idx6 t]

end Cert.LbpIdeal.Lbp

end
-- ==== Proof.Lbp.Whole.lean ====
/- The result array of the belief propagation's launch, as a function of the arguments. -/
module

public import proofs.«01_k».proof.Proof.Lbp.Chain

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

variable (m : (ℓ : Loc nD τ sig) → Buf (Elt Ideal) ℓ) (ρ : Dev nD → PrngReg)

/-- The result array, when the candidates are real and the indices name points. -/
theorem final (c : Dev nD) (D : FVec Ideal S4x2048x192 .f32) (I : IVec S4x2048x10 32) (DC : FVec Ideal S4x2048x64 .f32) (S : FVec Ideal S4x2048x3 .f32)
    (a0 : m ((c : Thread nD τ).loc main_arg0) = D) (a1 : m ((c : Thread nD τ).loc main_arg1) = I) (a2 : m ((c : Thread nD τ).loc main_arg2) = DC) (a3 : m ((c : Thread nD τ).loc main_arg3) = S)
    (hD : ∀ i, ∃ r : ℝ, D i = (r : EReal)) (hI : ∀ i, 0 ≤ (I i).toInt ∧ (I i).toInt < 2048) : (dat6 (V6 m ρ) c).arrAt 3 cfg6.N = OUT D I DC S := by
  have d1 : V1 m ρ c main_v0_0 = NBD D I := (W1_arr m ρ c 2).trans (region0 (V0 m ρ) c hI a0 a1)
  have s1 : V1 m ρ c main_v0_1 = NBS D I := (W1_arr m ρ c 3).trans (region0s (V0 m ρ) c hI a0 a1)
  have b2 : V2 m ρ c main_v1 = BEL D I DC 1 := (W2_arr m ρ c 6).trans (region1 (V1 m ρ) c 0 hD hI (((W1_args m ρ c main_arg2 (by decide)).trans a2).trans (BEL_zero D I DC).symm) ((W1_args m ρ c main_arg2 (by decide)).trans a2) ((W1_args m ρ c main_arg0 (by decide)).trans a0) ((W1_args m ρ c main_arg1 (by decide)).trans a1) d1 s1)
  have d2 : V2 m ρ c main_v0_0 = NBD D I := (W2_of m ρ c main_v0_0 (by decide)).trans d1
  have s2 : V2 m ρ c main_v0_1 = NBS D I := (W2_of m ρ c main_v0_1 (by decide)).trans s1
  have b3 : V3 m ρ c main_v2 = BEL D I DC 2 := (W3_arr m ρ c 6).trans (region2 (V2 m ρ) c 1 hD hI b2 ((W2_args m ρ c main_arg2 (by decide)).trans a2) ((W2_args m ρ c main_arg0 (by decide)).trans a0) ((W2_args m ρ c main_arg1 (by decide)).trans a1) d2 s2)
  have d3 : V3 m ρ c main_v0_0 = NBD D I := (W3_of m ρ c main_v0_0 (by decide)).trans d2
  have s3 : V3 m ρ c main_v0_1 = NBS D I := (W3_of m ρ c main_v0_1 (by decide)).trans s2
  have b4 : V4 m ρ c main_v3 = BEL D I DC 3 := (W4_arr m ρ c 6).trans (region3 (V3 m ρ) c 2 hD hI b3 ((W3_args m ρ c main_arg2 (by decide)).trans a2) ((W3_args m ρ c main_arg0 (by decide)).trans a0) ((W3_args m ρ c main_arg1 (by decide)).trans a1) d3 s3)
  have d4 : V4 m ρ c main_v0_0 = NBD D I := (W4_of m ρ c main_v0_0 (by decide)).trans d3
  have s4 : V4 m ρ c main_v0_1 = NBS D I := (W4_of m ρ c main_v0_1 (by decide)).trans s3
  have b5 : V5 m ρ c main_v4 = BEL D I DC 4 := (W5_arr m ρ c 6).trans (region4 (V4 m ρ) c 3 hD hI b4 ((W4_args m ρ c main_arg2 (by decide)).trans a2) ((W4_args m ρ c main_arg0 (by decide)).trans a0) ((W4_args m ρ c main_arg1 (by decide)).trans a1) d4 s4)
  have d5 : V5 m ρ c main_v0_0 = NBD D I := (W5_of m ρ c main_v0_0 (by decide)).trans d4
  have s5 : V5 m ρ c main_v0_1 = NBS D I := (W5_of m ρ c main_v0_1 (by decide)).trans s4
  have b6 : V6 m ρ c main_v5 = BEL D I DC 5 := (W6_arr m ρ c 6).trans (region5 (V5 m ρ) c 4 hD hI b5 ((W5_args m ρ c main_arg2 (by decide)).trans a2) ((W5_args m ρ c main_arg0 (by decide)).trans a0) ((W5_args m ρ c main_arg1 (by decide)).trans a1) d5 s5)
  exact region6 (V6 m ρ) c b6 ((W6_args m ρ c main_arg0 (by decide)).trans a0) ((W6_args m ρ c main_arg3 (by decide)).trans a3)

end Cert.LbpIdeal.Lbp

end
-- ==== Proof.Lbp.RefGather.lean ====
/- The reference's two gathers, at an entry: the row of the batch that the index word names. -/
module

public import proofs.«01_k».proof.Proof.Gen.LbpReferenceIdeal.Run
public import proofs.«01_k».proof.Proof.Lbp.Math
public import Idealize.ShloMosaic.Lib.Pointwise

@[expose] public section

set_option maxRecDepth 16384

noncomputable section

namespace Cert.LbpReferenceIdeal.Lbp

open Cert.LbpReferenceIdeal Cert.LbpReferenceIdeal.Gen Cert.LbpReferenceIdeal.Value Idealize.ShloMosaic Idealize.ShloMosaic.TcCoe Idealize.SL.Sem Idealize.ShloMosaic.StableHlo Cert.LbpMath

/-- The beliefs' gather, at an entry. -/
theorem gatherB_at {α : Type} (x : S4x2048x64.Idx → α) (idx : IVec S4x2048x10x1 32) (b : Fin 4) (n : Fin 2048) (j : Fin 10) (a : Fin 64) :
    Host.gather gather_S4x2048x64_S4x2048x10x1_S4x2048x10x64_3_1_0_0_1_3_1164 x idx (ix4 b n j a) = x (ix3 b (pt (idx (ix4 b n j 0))) a) := by
  unfold Host.gather
  congr 1
  funext q
  refine Fin.ext ?_
  show GatherDims.start _ (ix4 b n j a) idx q + GatherDims.batchCoord _ (ix4 b n j a) q + GatherDims.offCoord _ (ix4 b n j a) q = _
  fin_cases q
  · unfold GatherDims.start GatherDims.batchCoord GatherDims.offCoord
    rw [dif_neg (by decide), dif_pos (by decide), dif_neg (by decide)]
    show 0 + b.val + 0 = b.val
    omega
  · unfold GatherDims.start GatherDims.batchCoord GatherDims.offCoord
    rw [dif_pos (by decide), dif_neg (by decide), dif_neg (by decide)]
    refine congrArg (fun k => min (idx k).toInt.toNat 2047) (?_ : _ = ix4 b n j 0)
    funext q; refine Fin.ext ?_
    fin_cases q <;> rfl
  · unfold GatherDims.start GatherDims.batchCoord GatherDims.offCoord
    rw [dif_neg (by decide), dif_neg (by decide), dif_pos (by decide)]
    show 0 + 0 + a.val = a.val
    omega

/-- The candidates' gather, at an entry. -/
theorem gatherD_at {α : Type} (x : S4x2048x3x64.Idx → α) (idx : IVec S4x2048x10x1 32) (b : Fin 4) (n : Fin 2048) (j : Fin 10) (k : Fin 3) (a : Fin 64) :
    Host.gather gather_S4x2048x3x64_S4x2048x10x1_S4x2048x10x3x64_34_1_0_0_1_3_11364 x idx (ix5 b n j k a) = x (ix4 b (pt (idx (ix4 b n j 0))) k a) := by
  unfold Host.gather
  congr 1
  funext q
  refine Fin.ext ?_
  show GatherDims.start _ (ix5 b n j k a) idx q + GatherDims.batchCoord _ (ix5 b n j k a) q + GatherDims.offCoord _ (ix5 b n j k a) q = _
  fin_cases q
  · unfold GatherDims.start GatherDims.batchCoord GatherDims.offCoord
    rw [dif_neg (by decide), dif_pos (by decide), dif_neg (by decide)]
    show 0 + b.val + 0 = b.val
    omega
  · unfold GatherDims.start GatherDims.batchCoord GatherDims.offCoord
    rw [dif_pos (by decide), dif_neg (by decide), dif_neg (by decide)]
    refine congrArg (fun k => min (idx k).toInt.toNat 2047) (?_ : _ = ix4 b n j 0)
    funext q; refine Fin.ext ?_
    fin_cases q <;> rfl
  · unfold GatherDims.start GatherDims.batchCoord GatherDims.offCoord
    rw [dif_neg (by decide), dif_neg (by decide), dif_pos (by decide)]
    show 0 + 0 + k.val = k.val
    omega
  · unfold GatherDims.start GatherDims.batchCoord GatherDims.offCoord
    rw [dif_neg (by decide), dif_neg (by decide), dif_pos (by decide)]
    show 0 + 0 + a.val = a.val
    omega

end Cert.LbpReferenceIdeal.Lbp

end
-- ==== Proof.Lbp.RefRow.lean ====
/- What the belief propagation's reference computes, entry by entry. -/
module

public import proofs.«01_k».proof.Proof.Lbp.RefGather

@[expose] public section

set_option maxRecDepth 16384

noncomputable section

namespace Cert.LbpReferenceIdeal.Lbp

open Cert.LbpReferenceIdeal Cert.LbpReferenceIdeal.Gen Cert.LbpReferenceIdeal.Value Idealize.ShloMosaic Idealize.ShloMosaic.TcCoe Idealize.SL.Sem Idealize.ShloMosaic.StableHlo Cert.LbpMath

variable {F : FTy → Type} [FloatOps F]

/-- The reference's indices of the neighbours. -/
def ridx (x1 : IVec S4x2048x10 32) : IVec S4x2048x10x1 32 :=
  broadcastInDim S4x2048x10x1 ![0, 1, 2] bcast_S4x2048x10_S4x2048x10x1_0_1_2 (select (cmpi .slt x1 (broadcastInDim S4x2048x10 ![] bcast_S_S4x2048x10 (constantI S_ 32 0#32))) (addi x1 (broadcastInDim S4x2048x10 ![] bcast_S_S4x2048x10 (constantI S_ 32 2048#32))) x1)

/-- The candidates with their coordinates on an axis of their own. -/
def rxs (x0 : FVec F S4x2048x192 .f32) : FVec F S4x2048x3x64 .f32 := shapeCast _ x0 shapeCasts_S4x2048x192_S4x2048x3x64

/-- The differences of the neighbours' candidates from the point's. -/
def rdiff (xs : FVec F S4x2048x3x64 .f32) (ix : IVec S4x2048x10x1 32) : FVec F S4x2048x10x3x64x64 .f32 :=
  subf (broadcastInDim S4x2048x10x3x64x64 ![0, 1, 2, 3, 4, 5] bcast_S4x2048x10x3x64x1_S4x2048x10x3x64x64_0_1_2_3_4_5 (broadcastInDim S4x2048x10x3x64x1 ![0, 1, 2, 3, 4] bcast_S4x2048x10x3x64_S4x2048x10x3x64x1_0_1_2_3_4 (Host.gather gather_S4x2048x3x64_S4x2048x10x1_S4x2048x10x3x64_34_1_0_0_1_3_11364 xs ix))) (broadcastInDim S4x2048x10x3x64x64 ![0, 1, 2, 3, 4, 5] bcast_S4x2048x1x3x1x64_S4x2048x10x3x64x64_0_1_2_3_4_5 (broadcastInDim S4x2048x1x3x1x64 ![0, 1, 3, 5] bcast_S4x2048x3x64_S4x2048x1x3x1x64_0_1_3_5 xs))

/-- The pairwise costs. -/
def rpair (xs : FVec F S4x2048x3x64 .f32) (ix : IVec S4x2048x10x1 32) : FVec F S4x2048x10x64x64 .f32 :=
  mulf (broadcastInDim S4x2048x10x64x64 ![] bcast_S_S4x2048x10x64x64 (constant S_ .f32 0x3DCCCCCD#32)) (Host.reduceAdd (mulf (rdiff xs ix) (rdiff xs ix)) (constant S_ .f32 0x00000000#32) reducesTo_S4x2048x10x3x64x64_S4x2048x10x64x64_d3 h_S_)

/-- The sums whose least values are the messages. -/
def rsums (bel : FVec F S4x2048x64 .f32) (ix : IVec S4x2048x10x1 32) (pr : FVec F S4x2048x10x64x64 .f32) : FVec F S4x2048x10x64x64 .f32 :=
  addf (broadcastInDim S4x2048x10x64x64 ![0, 1, 2, 3, 4] bcast_S4x2048x10x64x1_S4x2048x10x64x64_0_1_2_3_4 (broadcastInDim S4x2048x10x64x1 ![0, 1, 2, 3] bcast_S4x2048x10x64_S4x2048x10x64x1_0_1_2_3 (Host.gather gather_S4x2048x64_S4x2048x10x1_S4x2048x10x64_3_1_0_0_1_3_1164 bel ix))) pr

/-- The messages. -/
def rmsg (sums : FVec F S4x2048x10x64x64 .f32) : FVec F S4x2048x10x64 .f32 :=
  Host.reduce FloatOps.minimumf sums (constant S_ .f32 0x7F800000#32) reducesTo_S4x2048x10x64x64_S4x2048x10x64_d3 h_S_

/-- One step of the beliefs. -/
def rstep (x2 : FVec F S4x2048x64 .f32) (ix : IVec S4x2048x10x1 32) (pr : FVec F S4x2048x10x64x64 .f32) (bel : FVec F S4x2048x64 .f32) : FVec F S4x2048x64 .f32 :=
  addf x2 (Host.reduceAdd (rmsg (rsums bel ix pr)) (constant S_ .f32 0x00000000#32) reducesTo_S4x2048x10x64_S4x2048x64_d2 h_S_)

/-- The maxima that the softmax subtracts. -/
def rmax (l : FVec F S4x2048x64 .f32) : FVec F S4x2048 .f32 :=
  maximumf (broadcastInDim S4x2048 ![] bcast_S_S4x2048 (constant S_ .f32 0xFF800000#32)) (Host.reduce FloatOps.maximumf l (constant S_ .f32 0xFF800000#32) reducesTo_S4x2048x64_S4x2048_d2 h_S_)

/-- The softmax's exponentials. -/
def rexp (l : FVec F S4x2048x64 .f32) : FVec F S4x2048x64 .f32 :=
  Host.exp (subf l (broadcastInDim S4x2048x64 ![0, 1, 2] bcast_S4x2048x1_S4x2048x64_0_1_2 (broadcastInDim S4x2048x1 ![0, 1] bcast_S4x2048_S4x2048x1_0_1 (rmax l))))

/-- The displaced points, of the softmax's exponentials. -/
def rmoved (xs : FVec F S4x2048x3x64 .f32) (x3 : FVec F S4x2048x3 .f32) (e : FVec F S4x2048x64 .f32) : FVec F S4x2048x3 .f32 :=
  addf x3 (Host.reduceAdd (mulf (broadcastInDim S4x2048x3x64 ![0, 1, 2, 3] bcast_S4x2048x1x64_S4x2048x3x64_0_1_2_3 (broadcastInDim S4x2048x1x64 ![0, 1, 3] bcast_S4x2048x64_S4x2048x1x64_0_1_3 (Host.divf e (broadcastInDim S4x2048x64 ![0, 1, 2] bcast_S4x2048x1_S4x2048x64_0_1_2 (broadcastInDim S4x2048x1 ![0, 1] bcast_S4x2048_S4x2048x1_0_1 (Host.reduceAdd e (constant S_ .f32 0x00000000#32) reducesTo_S4x2048x64_S4x2048_d2 h_S_)))))) xs) (constant S_ .f32 0x00000000#32) reducesTo_S4x2048x3x64_S4x2048x3_d3 h_S_)

/-- The beliefs after the given number of steps. -/
def rsteps (x0 : FVec F S4x2048x192 .f32) (x1 : IVec S4x2048x10 32) (x2 : FVec F S4x2048x64 .f32) : ℕ → FVec F S4x2048x64 .f32
  | 0 => x2
  | k + 1 => rstep x2 (ridx x1) (rpair (rxs x0) (ridx x1)) (rsteps x0 x1 x2 k)

/-- The reference's result, of its arguments. -/
def rout (x0 : FVec F S4x2048x192 .f32) (x1 : IVec S4x2048x10 32) (x2 : FVec F S4x2048x64 .f32) (x3 : FVec F S4x2048x3 .f32) : FVec F S4x2048x3 .f32 :=
  rmoved (rxs x0) x3 (rexp (Host.negf (rsteps x0 x1 x2 5)))

theorem v98_eq (m : (ℓ : Loc nD τ sig) → Buf (Elt F) ℓ) (c : Dev nD) :
    res_main_v98 m c = rout (m ((c.tc : Thread nD τ).loc main_arg0)) (m ((c.tc : Thread nD τ).loc main_arg1)) (m ((c.tc : Thread nD τ).loc main_arg2)) (m ((c.tc : Thread nD τ).loc main_arg3)) := rfl

/-- The host's least value along the fourth of five axes, at an entry. -/
theorem hmin_at {n0 n1 n2 n3 n4 : ℕ} {u : Shape} (x : FVec Ideal (⟨5, ![n0, n1, n2, n3, n4]⟩ : Shape) .f32) (init : u.Idx → Ideal .f32)
    (h : (⟨5, ![n0, n1, n2, n3, n4]⟩ : Shape).ReducesTo [3] ⟨4, ![n0, n1, n2, n4]⟩) (hu : 0 < u.numel) (a : Fin n0) (b : Fin n1) (c : Fin n2) (e : Fin n4) :
    Host.reduce FloatOps.minimumf x init h hu (ix4 a b c e) = Finset.fold min (init (Shape.Idx.first hu)) (fun k => x (ix5 a b c k e)) Finset.univ := by
  pointwise

/-- The host's greatest value along the last of three axes, at an entry. -/
theorem hmax_at {n0 n1 n2 : ℕ} {u : Shape} (x : FVec Ideal (⟨3, ![n0, n1, n2]⟩ : Shape) .f32) (init : u.Idx → Ideal .f32)
    (h : (⟨3, ![n0, n1, n2]⟩ : Shape).ReducesTo [2] ⟨2, ![n0, n1]⟩) (hu : 0 < u.numel) (a : Fin n0) (b : Fin n1) :
    Host.reduce FloatOps.maximumf x init h hu (ix2 a b) = Finset.fold max (init (Shape.Idx.first hu)) (fun k => x (ix3 a b k)) Finset.univ := by
  pointwise

theorem vmax_at {s : Shape} (x y : FVec Ideal s .f32) (i : s.Idx) (hx : x i = ⊥) : maximumf x y i = y i := by
  show max (x i) (y i) = y i
  rw [hx, max_eq_right bot_le]

theorem ridx_at (x1 : IVec S4x2048x10 32) (hv : ∀ i, 0 ≤ (x1 i).toInt ∧ (x1 i).toInt < 2048) (b : Fin 4) (n : Fin 2048) (j : Fin 10) (z : Fin 1) : ridx x1 (ix4 b n j z) = x1 (ix3 b n j) := by
  pointwise [ridx]
  have h : IntOp.cmpi .slt (x1 (ix3 b n j)) 0#32 = 0#1 := by
    have h0 : ¬ (x1 (ix3 b n j)).toInt < 0 := not_lt.mpr (hv _).1
    show BitVec.ofBool (decide ((x1 (ix3 b n j)).toInt < (0#32 : BitVec 32).toInt)) = 0#1
    simp [h0]
  rw [h]
  rfl

theorem rxs_at (x0 : FVec Ideal S4x2048x192 .f32) (b : Fin 4) (n : Fin 2048) (k : Fin 3) (a : Fin 64) : rxs x0 (ix4 b n k a) = x0 (ix3 b n (cc k a)) := by
  pointwise [rxs]
  rfl

theorem rdiff_at (xs : FVec Ideal S4x2048x3x64 .f32) (ix : IVec S4x2048x10x1 32) (b : Fin 4) (n : Fin 2048) (j : Fin 10) (k : Fin 3) (a d : Fin 64) :
    rdiff xs ix (ix6 b n j k a d) = xs (ix4 b (pt (ix (ix4 b n j 0))) k a) - xs (ix4 b n k d) := by
  pointwise [rdiff, gatherD_at]

/-- The host's sum along the coordinates of six axes, at an entry. -/
theorem sum6_at (x : FVec Ideal S4x2048x10x3x64x64 .f32) (b : Fin 4) (n : Fin 2048) (j : Fin 10) (a d : Fin 64) :
    Ideal.hostReduceAdd reducesTo_S4x2048x10x3x64x64_S4x2048x10x64x64_d3 x 0 (ix5 b n j a d) = ∑ k : Fin 3, x (ix6 b n j k a d) := by
  rw [Ideal.hostReduceAdd_single reducesTo_S4x2048x10x3x64x64_S4x2048x10x64x64_d3 (by decide), zero_add]
  refine Finset.sum_congr rfl fun k _ => congrArg x ?_
  funext q; refine Fin.ext ?_
  fin_cases q <;> rfl

theorem rpair_at (xs : FVec Ideal S4x2048x3x64 .f32) (ix : IVec S4x2048x10x1 32) (b : Fin 4) (n : Fin 2048) (j : Fin 10) (a d : Fin 64) :
    rpair xs ix (ix5 b n j a d) = al * ∑ k : Fin 3, (xs (ix4 b (pt (ix (ix4 b n j 0))) k a) - xs (ix4 b n k d)) * (xs (ix4 b (pt (ix (ix4 b n j 0))) k a) - xs (ix4 b n k d)) := by
  refine Eq.trans ?_ (congrArg (al * ·) ((sum6_at (mulf (rdiff xs ix) (rdiff xs ix)) b n j a d).trans (Finset.sum_congr rfl fun k _ => ?_)))
  · pointwise [rpair, al]
  · pointwise [rdiff_at]

theorem rsums_at (bel : FVec Ideal S4x2048x64 .f32) (ix : IVec S4x2048x10x1 32) (pr : FVec Ideal S4x2048x10x64x64 .f32) (b : Fin 4) (n : Fin 2048) (j : Fin 10) (a d : Fin 64) :
    rsums bel ix pr (ix5 b n j a d) = bel (ix3 b (pt (ix (ix4 b n j 0))) a) + pr (ix5 b n j a d) := by
  pointwise [rsums, gatherB_at]

theorem rmsg_at (s : FVec Ideal S4x2048x10x64x64 .f32) (b : Fin 4) (n : Fin 2048) (j : Fin 10) (d : Fin 64) :
    rmsg s (ix4 b n j d) = Finset.univ.inf fun a => s (ix5 b n j a d) :=
  (hmin_at s (constant S_ .f32 0x7F800000#32) reducesTo_S4x2048x10x64x64_S4x2048x10x64_d3 h_S_ b n j d).trans (fold_min _)

theorem rstep_at (x2 : FVec Ideal S4x2048x64 .f32) (ix : IVec S4x2048x10x1 32) (pr : FVec Ideal S4x2048x10x64x64 .f32) (bel : FVec Ideal S4x2048x64 .f32) (b : Fin 4) (n : Fin 2048) (d : Fin 64) :
    rstep x2 ix pr bel (ix3 b n d) = x2 (ix3 b n d) + ∑ j, rmsg (rsums bel ix pr) (ix4 b n j d) := by
  pointwise [rstep]

theorem rmax_at (l : FVec Ideal S4x2048x64 .f32) (b : Fin 4) (n : Fin 2048) : rmax l (ix2 b n) = Finset.univ.sup fun a => l (ix3 b n a) := by
  unfold rmax
  exact (vmax_at _ _ _ (by simp [constant, broadcastInDim, Ideal.ofBits, Ideal.ieee])).trans ((hmax_at l (constant S_ .f32 0xFF800000#32) reducesTo_S4x2048x64_S4x2048_d2 h_S_ b n).trans (fold_max _))

theorem rexp_at (l : FVec Ideal S4x2048x64 .f32) (b : Fin 4) (n : Fin 2048) (a : Fin 64) : rexp l (ix3 b n a) = Ideal.exp (l (ix3 b n a) - Finset.univ.sup fun a => l (ix3 b n a)) := by
  pointwise [rexp, rmax_at]

theorem rmoved_at (xs : FVec Ideal S4x2048x3x64 .f32) (x3 : FVec Ideal S4x2048x3 .f32) (e : FVec Ideal S4x2048x64 .f32) (b : Fin 4) (n : Fin 2048) (k : Fin 3) :
    rmoved xs x3 e (ix3 b n k) = x3 (ix3 b n k) + ∑ a, Ideal.div (e (ix3 b n a)) (∑ d, e (ix3 b n d)) * xs (ix4 b n k a) := by
  pointwise [rmoved]

/-- The beliefs after the given number of steps, at an entry. -/
theorem rsteps_at (x0 : FVec Ideal S4x2048x192 .f32) (x1 : IVec S4x2048x10 32) (hv : ∀ i, 0 ≤ (x1 i).toInt ∧ (x1 i).toInt < 2048) (x2 : FVec Ideal S4x2048x64 .f32) (k : ℕ) (b : Fin 4) :
    ∀ (n : Fin 2048) (d : Fin 64), rsteps x0 x1 x2 k (ix3 b n d) = steps (fun n c => x0 (ix3 b n c)) (fun n j => pt (x1 (ix3 b n j))) (fun n a => x2 (ix3 b n a)) k n d := by
  induction k with
  | zero => intro n d; rfl
  | succ k ih =>
    intro n d
    refine (rstep_at x2 _ _ _ b n d).trans (congrArg (x2 (ix3 b n d) + ·) (Finset.sum_congr rfl fun j _ => ?_))
    refine (rmsg_at _ b n j d).trans (congrArg Finset.univ.inf (funext fun a => ?_))
    refine (rsums_at _ _ _ b n j a d).trans ?_
    rw [ih, rpair_at, ridx_at x1 hv]
    simp only [rxs_at]
    rfl

/-- The reference's result, at an entry. -/
theorem rout_at (x0 : FVec Ideal S4x2048x192 .f32) (x1 : IVec S4x2048x10 32) (hv : ∀ i, 0 ≤ (x1 i).toInt ∧ (x1 i).toInt < 2048) (x2 : FVec Ideal S4x2048x64 .f32) (x3 : FVec Ideal S4x2048x3 .f32) (b : Fin 4) (n : Fin 2048) (k : Fin 3) :
    rout x0 x1 x2 x3 (ix3 b n k) =
      moved (steps (fun n c => x0 (ix3 b n c)) (fun n j => pt (x1 (ix3 b n j))) (fun n a => x2 (ix3 b n a)) 5 n) (fun c => x0 (ix3 b n c)) (x3 (ix3 b n k)) k := by
  refine (rmoved_at _ _ _ b n k).trans ?_
  have hn : ∀ a, Host.negf (rsteps x0 x1 x2 5) (ix3 b n a) = -steps (fun n c => x0 (ix3 b n c)) (fun n j => pt (x1 (ix3 b n j))) (fun n a => x2 (ix3 b n a)) 5 n a := fun a => congrArg (- ·) (rsteps_at x0 x1 hv x2 5 b n a)
  simp only [rexp_at, rxs_at, hn]
  rfl

end Cert.LbpReferenceIdeal.Lbp

end
-- ==== Proof.Lbp.Pre.lean ====
/- What the precondition says: every candidate is real and every index names a point. -/
module

public import proofs.«01_k».proof.Pre_finite_disp_and_indices
public import Idealize.ShloMosaic.Lib.ReduceAll
public import Idealize.ShloMosaic.PureOps.Ideal

@[expose] public section

set_option maxRecDepth 16384

noncomputable section

namespace Cert.LbpPre

open Idealize.ShloMosaic Cert.Pre_finite_disp_and_indices

/-- The shape relations of the precondition's operations. -/
instance facts : Cert.Pre_finite_disp_and_indices.Facts where
  bcast_S_S4x2048x192 := by decide
  reducesTo_S4x2048x192_S_d0_1_2 := by decide
  h_S_ := by decide
  bcast_S_S4x2048x10 := by decide
  reducesTo_S4x2048x10_S_d0_1_2 := by decide

/-- Two bits whose conjunction is set are set. -/
theorem both : ∀ a b : BitVec 1, IntOp.andi a b = 1#1 → a = 1#1 ∧ b = 1#1 := by decide

/-- A set bit's decided condition holds. -/
theorem holds (p : Prop) [Decidable p] (h : BitVec.ofBool (decide p) = 1#1) : p := by
  by_contra hn
  rw [decide_eq_false hn] at h
  exact absurd h (by decide)

/-- The word of plus infinity. -/
theorem top_word : Ideal.ofBits FTy.f32 0x7F800000#32 = ⊤ := by simp [Ideal.ofBits, Ideal.ieee]

/-- A value whose absolute value is below plus infinity is real. -/
theorem real_of (x : EReal) (h : max x (-x) < ⊤) : ∃ r : ℝ, x = (r : EReal) := by
  induction x with
  | bot => simp at h
  | top => simp at h
  | coe r => exact ⟨r, rfl⟩

/-- The candidates are real and the indices in range, wherever the precondition's bit is set. -/
theorem all (x0 : FVec Ideal S4x2048x192 .f32) (x1 : IVec S4x2048x10 32) (x2 : FVec Ideal S4x2048x64 .f32) (x3 : FVec Ideal S4x2048x3 .f32) (h : fn (F := Ideal) x0 x1 x2 x3 = fun _ => 1#1) :
    (∀ i, ∃ r : ℝ, x0 i = (r : EReal)) ∧ ∀ i, 0 ≤ (x1 i).toInt ∧ (x1 i).toInt < 2048 := by
  have hs : Subsingleton S_.Idx := ⟨fun a b => funext fun q => q.elim0⟩
  obtain ⟨hd, hi⟩ := both _ _ (congrFun h (fun q => q.elim0))
  refine ⟨fun i => ?_, fun i => ?_⟩
  · have e := Host.reduce_andi_all _ _ _ _ _ hd i
    refine real_of _ ?_
    have e' : BitVec.ofBool (decide (max (x0 i) (-(x0 i)) < Ideal.ofBits FTy.f32 0x7F800000#32)) = 1#1 := e
    rw [top_word] at e'
    exact holds _ e'
  · have e := Host.reduce_andi_all _ _ _ _ _ hi i
    obtain ⟨e0, e1⟩ := both _ _ e
    have f0 : BitVec.ofBool (decide ((0#32 : BitVec 32).toInt ≤ (x1 i).toInt)) = 1#1 := e0
    have f1 : BitVec.ofBool (decide ((x1 i).toInt < (2048#32 : BitVec 32).toInt)) = 1#1 := e1
    exact ⟨holds _ f0, holds _ f1⟩

end Cert.LbpPre

end
-- ==== Proof.Lbp.Final.lean ====
/- The belief propagation's result array is the reference's term of the arguments. -/
module

public import proofs.«01_k».proof.Proof.Lbp.Whole
public import proofs.«01_k».proof.Proof.Lbp.RefRow
public import proofs.«01_k».proof.Proof.Lbp.Pre

@[expose] public section

set_option maxRecDepth 16384

noncomputable section

namespace Cert.LbpIdeal.Lbp

open Cert.LbpIdeal Cert.LbpIdeal.Gen Idealize.ShloMosaic Idealize.ShloMosaic.TcCoe Idealize.SL.Sem Cert.LbpMath

/-- The two writings of the displaced points agree where the indices name points. -/
theorem out_eq (D : FVec Ideal S4x2048x192 .f32) (I : IVec S4x2048x10 32) (hI : ∀ i, 0 ≤ (I i).toInt ∧ (I i).toInt < 2048) (DC : FVec Ideal S4x2048x64 .f32) (S : FVec Ideal S4x2048x3 .f32) :
    OUT D I DC S = Cert.LbpReferenceIdeal.Lbp.rout (F := Ideal) D I DC S := by
  funext i
  obtain ⟨b, n, k, rfl⟩ : ∃ (b : Fin 4) (n : Fin 2048) (k : Fin 3), i = ix3 b n k := ⟨⟨(i 0).val, (i 0).isLt⟩, ⟨(i 1).val, (i 1).isLt⟩, ⟨(i 2).val, (i 2).isLt⟩, by funext q; fin_cases q <;> rfl⟩
  exact (Cert.LbpReferenceIdeal.Lbp.rout_at D I hI DC S b n k).symm

/-- The kernel's result array is the reference's result, under the precondition. -/
theorem result (m : (ℓ : Loc nD τ sig) → Buf (Elt Ideal) ℓ) (ρ : Dev nD → PrngReg) (c : Dev nD)
    (h : Cert.Pre_finite_disp_and_indices.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    (dat6 (V6 m ρ) c).arrAt 3 cfg6.N = Cert.LbpReferenceIdeal.Lbp.rout (F := Ideal) (m ((c.tc : Thread nD τ).loc main_arg0)) (m ((c.tc : Thread nD τ).loc main_arg1)) (m ((c.tc : Thread nD τ).loc main_arg2)) (m ((c.tc : Thread nD τ).loc main_arg3)) :=
  (final m ρ c _ _ _ _ rfl rfl rfl rfl (Cert.LbpPre.all _ _ _ _ h).1 (Cert.LbpPre.all _ _ _ _ h).2).trans (out_eq _ _ (Cert.LbpPre.all _ _ _ _ h).2 _ _)

end Cert.LbpIdeal.Lbp

end
-- ==== Proof.Edge.Math.lean ====
/- The mathematics of the edge features, over the extended reals: a point's feature from its ten neighbours, and the identity by
   which the product with the concatenated row is split into a part of the point and a part of the neighbour. -/
module

public import proofs.«01_k».proof.Proof.Lbp.Math

@[expose] public section

noncomputable section

namespace Cert.EdgeMath

open Idealize.ShloMosaic

/-- Row `c` of the weights' upper half. -/
def up (c : Fin 3) : Fin 6 := ⟨c.val, by omega⟩

/-- Row `c` of the weights' lower half. -/
def lo (c : Fin 3) : Fin 6 := ⟨3 + c.val, by omega⟩

/-- The edge of a point `x` to a neighbour `y` before the rectifier: the concatenated row `x`, `y - x` times the weights,
    plus the bias. -/
def edge (x y : Fin 3 → EReal) (w : Fin 6 → EReal) (b : EReal) : EReal :=
  ((∑ c, x c * w (up c)) + ∑ c, (y c - x c) * w (lo c)) + b

/-- The same with the part of the point and the part of the neighbour apart. -/
def edgeK (x y : Fin 3 → EReal) (w : Fin 6 → EReal) (b : EReal) : EReal :=
  ((∑ c, x c * (w (up c) - w (lo c))) + b) + ∑ c, y c * w (lo c)

/-- The two writings of an edge agree where the points and the weights are real. -/
theorem edgeK_eq (x y : Fin 3 → EReal) (w : Fin 6 → EReal) (b : EReal) (hx : ∀ c, ∃ r : ℝ, x c = (r : EReal)) (hy : ∀ c, ∃ r : ℝ, y c = (r : EReal))
    (hw : ∀ c, ∃ r : ℝ, w c = (r : EReal)) : edgeK x y w b = edge x y w b := by
  choose u hu using hx
  choose v hv using hy
  choose z hz using hw
  unfold edgeK edge
  simp only [hu, hv, hz, Fin.sum_univ_three, ← EReal.coe_mul, ← EReal.coe_add, ← EReal.coe_sub]
  rw [add_right_comm, ← EReal.coe_add]
  congr 2
  ring

/-- The feature of a point: the greatest rectified edge to its ten neighbours. -/
def feature (x : Fin 3 → EReal) (y : Fin 10 → Fin 3 → EReal) (w : Fin 6 → EReal) (b : EReal) : EReal :=
  Finset.univ.sup fun j => max (edge x (y j) w b) 0

/-- Ten maxima taken one after another from nothing are the greatest of the ten. -/
theorem ten (e : Fin 10 → EReal) :
    max (max (max (max (max (max (max (max (max (max 0 (max (e 0) 0)) (max (e 1) 0)) (max (e 2) 0)) (max (e 3) 0)) (max (e 4) 0)) (max (e 5) 0)) (max (e 6) 0)) (max (e 7) 0)) (max (e 8) 0)) (max (e 9) 0)
      = Finset.univ.sup fun j => max (e j) 0 := by
  refine le_antisymm ?_ (Finset.sup_le fun j _ => ?_)
  · have h : ∀ j, max (e j) 0 ≤ Finset.univ.sup fun j => max (e j) 0 := fun j => Finset.le_sup (f := fun j => max (e j) 0) (Finset.mem_univ j)
    have h0 : 0 ≤ Finset.univ.sup fun j => max (e j) 0 := (le_max_right _ _).trans (h 0)
    exact max_le (max_le (max_le (max_le (max_le (max_le (max_le (max_le (max_le (max_le h0 (h 0)) (h 1)) (h 2)) (h 3)) (h 4)) (h 5)) (h 6)) (h 7)) (h 8)) (h 9)
  · fin_cases j <;> simp only [le_max_iff, le_refl, true_or, or_true, Fin.reduceFinMk, Fin.zero_eta, Fin.mk_one, max_le_iff] <;> tauto

end Cert.EdgeMath

end
-- ==== Proof.Edge.Row.lean ====
/- The payloads of the edge features' kernel at an entry, over the extended reals. -/
module

public import proofs.«01_k».proof.Proof.Gen.EdgeIdeal.Frame
public import proofs.«01_k».proof.Proof.Edge.Math
public import proofs.«01_k».proof.Proof.Lbp.KernelRow
public import Idealize.ShloMosaic.Lib.Pointwise

@[expose] public section

set_option maxRecDepth 16384

noncomputable section

namespace Cert.EdgeIdeal.Edge

open Cert.EdgeIdeal Cert.EdgeIdeal.Gen Idealize.ShloMosaic Idealize.ShloMosaic.TcCoe Idealize.SL.Sem Cert.LbpMath Cert.EdgeMath

/-- One neighbour's step: the greater of the features so far and the neighbour's rectified edge. -/
def stepE {F : FTy → Type} [FloatOps F] (g : FVec F S2048x64 .f32) (a : FVec F S256x64 .f32) (acc : FVec F S256x64 .f32) (w : Vec F S1x256x1 .i32) : FVec F S256x64 .f32 :=
  maximumf acc (maximumf (addf a (matmul dot_S256x2048_S2048x64_S256x64_1_0_0_1_n_n (some .fp32)
    (select (cmpf .oeq (k0_pay3 (F := F)) (broadcastTo S256x2048 (k0_pay5 w) broadcasts_S256x1_S256x2048)) (broadcast S256x2048 (Scalar.ofBits .f32 0x3F800000#32)) (broadcast S256x2048 (Scalar.ofBits .f32 0x00000000#32)))
    g (constant S256x64 .f32 0x00000000#32))) (broadcast S256x64 (Scalar.ofBits .f32 0x00000000#32)))

section
variable {F : FTy → Type} [FloatOps F]

/-- The kernel's block, of what it reads: ten steps from nothing. -/
def blockE (w : Vec F S6x64 .f32) (X : Vec F S1x2048x3 .f32) (xb : Vec F S1x256x3 .f32) (b : Vec F S1x64 .f32) (n : Fin 10 → Vec F S1x256x1 .i32) : FVec F S1x256x64 .f32 :=
  k0_pay10 (k0_pay1 w X) (k0_pay2 w xb b) (k0_pay3 (F := F))
    (k0_pay8 (k0_pay1 w X) (k0_pay2 w xb b) (k0_pay3 (F := F))
      (k0_pay6 (k0_pay1 w X) (k0_pay2 w xb b) (k0_pay3 (F := F)) (k0_pay4 w X xb b (n 0)) (k0_pay5 (n 1)) (n 2) (n 3)) (k0_pay7 (n 4)) (n 5) (n 6)) (k0_pay9 (n 7)) (n 8) (n 9)

theorem blockE_eq (w : Vec F S6x64 .f32) (X : Vec F S1x2048x3 .f32) (xb : Vec F S1x256x3 .f32) (b : Vec F S1x64 .f32) (n : Fin 10 → Vec F S1x256x1 .i32) :
    blockE w X xb b n = shapeCast S1x256x64 (stepE (k0_pay1 w X) (k0_pay2 w xb b) (stepE (k0_pay1 w X) (k0_pay2 w xb b) (stepE (k0_pay1 w X) (k0_pay2 w xb b) (stepE (k0_pay1 w X) (k0_pay2 w xb b) (stepE (k0_pay1 w X) (k0_pay2 w xb b)
      (stepE (k0_pay1 w X) (k0_pay2 w xb b) (stepE (k0_pay1 w X) (k0_pay2 w xb b) (stepE (k0_pay1 w X) (k0_pay2 w xb b) (stepE (k0_pay1 w X) (k0_pay2 w xb b) (stepE (k0_pay1 w X) (k0_pay2 w xb b)
        (broadcast S256x64 (Scalar.ofBits .f32 0x00000000#32)) (n 0)) (n 1)) (n 2)) (n 3)) (n 4)) (n 5)) (n 6)) (n 7)) (n 8)) (n 9)) shapeCasts_S256x64_S1x256x64 := rfl

end

/-- The part of a neighbour, at an entry. -/
theorem pay1_at (w : FVec Ideal S6x64 .f32) (X : FVec Ideal S1x2048x3 .f32) (n : Fin 2048) (o : Fin 64) :
    k0_pay1 (F := Ideal) w X (ix2 n o) = ∑ c : Fin 3, X (ix3 0 n c) * w (ix2 (lo c) o) := by
  pointwise [k0_pay1]
  rfl

/-- The part of a point, at an entry. -/
theorem pay2_at (w : FVec Ideal S6x64 .f32) (xb : FVec Ideal S1x256x3 .f32) (b : FVec Ideal S1x64 .f32) (r : Fin 256) (o : Fin 64) :
    k0_pay2 (F := Ideal) w xb b (ix2 r o) = (∑ c : Fin 3, xb (ix3 0 r c) * (w (ix2 (up c) o) - w (ix2 (lo c) o))) + b (ix2 0 o) := by
  pointwise [k0_pay2]
  rfl

/-- A neighbour's step, at an entry. -/
theorem stepE_at (g : FVec Ideal S2048x64 .f32) (a acc : FVec Ideal S256x64 .f32) (w : IVec S1x256x1 32) (hw : ∀ i, 0 ≤ (w i).toInt ∧ (w i).toInt < 2048) (r : Fin 256) (o : Fin 64) :
    stepE (F := Ideal) g a acc w (ix2 r o) = max (acc (ix2 r o)) (max (a (ix2 r o) + g (ix2 (pt (w (ix3 0 r 0))) o)) 0) := by
  pointwise [stepE, k0_pay3, k0_pay5]
  refine congrArg (fun z => max (acc (ix2 r o)) (max (a (ix2 r o) + z) 0)) ?_
  refine Eq.trans ?_ (onehot (pt (w (ix3 0 r 0))) fun m => g (ix2 m o))
  exact Finset.sum_congr rfl fun x _ => congrArg (· * _) (if_congr (Cert.LbpIdeal.Lbp.named x _ (hw _)) rfl rfl)

theorem nothing_at (r : Fin 256) (o : Fin 64) : (broadcast S256x64 (Scalar.ofBits (F := Ideal) .f32 0x00000000#32) : FVec Ideal S256x64 .f32) (ix2 r o) = 0 := by
  pointwise

theorem cast_at (v : FVec Ideal S256x64 .f32) (p : Fin 1) (r : Fin 256) (o : Fin 64) :
    (shapeCast S1x256x64 v shapeCasts_S256x64_S1x256x64 : FVec Ideal S1x256x64 .f32) (ix3 p r o) = v (ix2 r o) := by
  pointwise

/-- Ten steps from nothing, at an entry. -/
theorem steps_at (g : FVec Ideal S2048x64 .f32) (a z : FVec Ideal S256x64 .f32) (n : Fin 10 → IVec S1x256x1 32) (hn : ∀ j i, 0 ≤ (n j i).toInt ∧ (n j i).toInt < 2048) (r : Fin 256) (o : Fin 64) (hz : z (ix2 r o) = 0) :
    (stepE (F := Ideal) g a (stepE g a (stepE g a (stepE g a (stepE g a (stepE g a (stepE g a (stepE g a (stepE g a (stepE g a z (n 0)) (n 1)) (n 2)) (n 3)) (n 4)) (n 5)) (n 6)) (n 7)) (n 8)) (n 9)) (ix2 r o)
      = Finset.univ.sup fun j => max (a (ix2 r o) + g (ix2 (pt (n j (ix3 0 r 0))) o)) 0 := by
  rw [stepE_at _ _ _ _ (hn 9), stepE_at _ _ _ _ (hn 8), stepE_at _ _ _ _ (hn 7), stepE_at _ _ _ _ (hn 6), stepE_at _ _ _ _ (hn 5), stepE_at _ _ _ _ (hn 4), stepE_at _ _ _ _ (hn 3), stepE_at _ _ _ _ (hn 2), stepE_at _ _ _ _ (hn 1), stepE_at _ _ _ _ (hn 0), hz]
  exact ten fun j => a (ix2 r o) + g (ix2 (pt (n j (ix3 0 r 0))) o)

/-- The kernel's block at an entry: the feature, the points and the weights being real. -/
theorem blockE_at (w : FVec Ideal S6x64 .f32) (X : FVec Ideal S1x2048x3 .f32) (xb : FVec Ideal S1x256x3 .f32) (b : FVec Ideal S1x64 .f32) (n : Fin 10 → IVec S1x256x1 32)
    (hw : ∀ i, ∃ r : ℝ, w i = (r : EReal)) (hX : ∀ i, ∃ r : ℝ, X i = (r : EReal)) (hx : ∀ i, ∃ r : ℝ, xb i = (r : EReal)) (hn : ∀ j i, 0 ≤ (n j i).toInt ∧ (n j i).toInt < 2048)
    (p : Fin 1) (r : Fin 256) (o : Fin 64) :
    blockE (F := Ideal) w X xb b n (ix3 p r o) =
      feature (fun c => xb (ix3 0 r c)) (fun j c => X (ix3 0 (pt (n j (ix3 0 r 0))) c)) (fun k => w (ix2 k o)) (b (ix2 0 o)) := by
  have hc := cast_at (stepE (F := Ideal) (k0_pay1 w X) (k0_pay2 w xb b) (stepE (k0_pay1 w X) (k0_pay2 w xb b) (stepE (k0_pay1 w X) (k0_pay2 w xb b) (stepE (k0_pay1 w X) (k0_pay2 w xb b) (stepE (k0_pay1 w X) (k0_pay2 w xb b)
      (stepE (k0_pay1 w X) (k0_pay2 w xb b) (stepE (k0_pay1 w X) (k0_pay2 w xb b) (stepE (k0_pay1 w X) (k0_pay2 w xb b) (stepE (k0_pay1 w X) (k0_pay2 w xb b) (stepE (k0_pay1 w X) (k0_pay2 w xb b)
        (broadcast S256x64 (Scalar.ofBits .f32 0x00000000#32)) (n 0)) (n 1)) (n 2)) (n 3)) (n 4)) (n 5)) (n 6)) (n 7)) (n 8)) (n 9)) p r o
  have hs := steps_at (k0_pay1 (F := Ideal) w X) (k0_pay2 (F := Ideal) w xb b) (broadcast S256x64 (Scalar.ofBits .f32 0x00000000#32)) n hn r o (nothing_at r o)
  rw [blockE_eq, hc, hs]
  unfold feature
  congr 1
  funext j
  have he := edgeK_eq (fun c => xb (ix3 0 r c)) (fun c => X (ix3 0 (pt (n j (ix3 0 r 0))) c)) (fun k => w (ix2 k o)) (b (ix2 0 o)) (fun c => hx _) (fun c => hX _) (fun c => hw _)
  rw [pay1_at, pay2_at, ← he]
  unfold edgeK
  rfl

end Cert.EdgeIdeal.Edge

end
-- ==== Proof.Edge.RefRow.lean ====
/- What the edge features' reference computes, entry by entry. -/
module

public import proofs.«01_k».proof.Proof.Gen.EdgeReferenceIdeal.Run
public import proofs.«01_k».proof.Proof.Edge.Math
public import Idealize.ShloMosaic.Lib.Pointwise

@[expose] public section

set_option maxRecDepth 16384

noncomputable section

namespace Cert.EdgeReferenceIdeal.Edge

open Cert.EdgeReferenceIdeal Cert.EdgeReferenceIdeal.Gen Cert.EdgeReferenceIdeal.Value Idealize.ShloMosaic Idealize.ShloMosaic.TcCoe Idealize.SL.Sem Idealize.ShloMosaic.StableHlo Cert.LbpMath Cert.EdgeMath

variable {F : FTy → Type} [FloatOps F]

/-- The reference's indices of the neighbours. -/
def ridx (x1 : IVec S4x2048x10 32) : IVec S4x2048x10x1 32 :=
  broadcastInDim S4x2048x10x1 ![0, 1, 2] bcast_S4x2048x10_S4x2048x10x1_0_1_2 (select (cmpi .slt x1 (broadcastInDim S4x2048x10 ![] bcast_S_S4x2048x10 (constantI S_ 32 0#32))) (addi x1 (broadcastInDim S4x2048x10 ![] bcast_S_S4x2048x10 (constantI S_ 32 2048#32))) x1)

/-- The points, once for each neighbour. -/
def rctr (x0 : FVec F S4x2048x3 .f32) : FVec F S4x2048x10x3 .f32 :=
  broadcastInDim S4x2048x10x3 ![0, 1, 2, 3] bcast_S4x2048x1x3_S4x2048x10x3_0_1_2_3 (broadcastInDim S4x2048x1x3 ![0, 1, 3] bcast_S4x2048x3_S4x2048x1x3_0_1_3 x0)

/-- The neighbours less the points. -/
def rdiff (x0 : FVec F S4x2048x3 .f32) (ix : IVec S4x2048x10x1 32) : FVec F S4x2048x10x3 .f32 :=
  subf (Host.gather gather_S4x2048x3_S4x2048x10x1_S4x2048x10x3_3_1_0_0_1_3_113 x0 ix) (rctr x0)

/-- The concatenated rows. -/
def rcat (u v : FVec F S4x2048x10x3 .f32) : FVec F S4x2048x10x6 .f32 :=
  concatenate S4x2048x10x6 3 [⟨S4x2048x10x3, u⟩, ⟨S4x2048x10x3, v⟩] concatenates_S4x2048x10x3_S4x2048x10x3_S4x2048x10x6_d3

/-- The rectified edges. -/
def rrelu (f : FVec F S4x2048x10x6 .f32) (x2 : FVec F S6x64 .f32) (x3 : FVec F S1x64 .f32) : FVec F S4x2048x10x64 .f32 :=
  maximumf (addf (Host.dotGeneral dot_S4x2048x10x6_S6x64_S4x2048x10x64_3_0_012_1_n_n none f x2) (broadcastInDim S4x2048x10x64 ![0, 1, 2, 3] bcast_S1x1x1x64_S4x2048x10x64_0_1_2_3 (broadcastInDim S1x1x1x64 ![3] bcast_S64_S1x1x1x64_3 (shapeCast _ x3 shapeCasts_S1x64_S64)))) (broadcastInDim S4x2048x10x64 ![] bcast_S_S4x2048x10x64 (constant S_ .f32 0x00000000#32))

/-- The reference's result, of its arguments. -/
def rout (x0 : FVec F S4x2048x3 .f32) (x1 : IVec S4x2048x10 32) (x2 : FVec F S6x64 .f32) (x3 : FVec F S1x64 .f32) : FVec F S4x2048x64 .f32 :=
  Host.reduce FloatOps.maximumf (rrelu (rcat (rctr x0) (rdiff x0 (ridx x1))) x2 x3) (constant S_ .f32 0xFF800000#32) reducesTo_S4x2048x10x64_S4x2048x64_d2 h_S_

/-- The host's greatest value along the third of four axes, at an entry. -/
theorem hmax_at {n0 n1 n2 n3 : ℕ} {u : Shape} (x : FVec Ideal (⟨4, ![n0, n1, n2, n3]⟩ : Shape) .f32) (init : u.Idx → Ideal .f32)
    (h : (⟨4, ![n0, n1, n2, n3]⟩ : Shape).ReducesTo [2] ⟨3, ![n0, n1, n3]⟩) (hu : 0 < u.numel) (a : Fin n0) (b : Fin n1) (c : Fin n3) :
    Host.reduce FloatOps.maximumf x init h hu (ix3 a b c) = Finset.fold max (init (Shape.Idx.first hu)) (fun k => x (ix4 a b k c)) Finset.univ := by
  pointwise

/-- The points' gather, at an entry: the row of the batch that the index word names. -/
theorem gather_at {α : Type} (x : S4x2048x3.Idx → α) (idx : IVec S4x2048x10x1 32) (b : Fin 4) (n : Fin 2048) (j : Fin 10) (a : Fin 3) :
    Host.gather gather_S4x2048x3_S4x2048x10x1_S4x2048x10x3_3_1_0_0_1_3_113 x idx (ix4 b n j a) = x (ix3 b (pt (idx (ix4 b n j 0))) a) := by
  unfold Host.gather
  congr 1
  funext q
  refine Fin.ext ?_
  show GatherDims.start _ (ix4 b n j a) idx q + GatherDims.batchCoord _ (ix4 b n j a) q + GatherDims.offCoord _ (ix4 b n j a) q = _
  fin_cases q
  · unfold GatherDims.start GatherDims.batchCoord GatherDims.offCoord
    rw [dif_neg (by decide), dif_pos (by decide), dif_neg (by decide)]
    show 0 + b.val + 0 = b.val
    omega
  · unfold GatherDims.start GatherDims.batchCoord GatherDims.offCoord
    rw [dif_pos (by decide), dif_neg (by decide), dif_neg (by decide)]
    refine congrArg (fun k => min (idx k).toInt.toNat 2047) (?_ : _ = ix4 b n j 0)
    funext q; refine Fin.ext ?_
    fin_cases q <;> rfl
  · unfold GatherDims.start GatherDims.batchCoord GatherDims.offCoord
    rw [dif_neg (by decide), dif_neg (by decide), dif_pos (by decide)]
    show 0 + 0 + a.val = a.val
    omega

theorem ridx_at (x1 : IVec S4x2048x10 32) (hv : ∀ i, 0 ≤ (x1 i).toInt ∧ (x1 i).toInt < 2048) (b : Fin 4) (n : Fin 2048) (j : Fin 10) (z : Fin 1) : ridx x1 (ix4 b n j z) = x1 (ix3 b n j) := by
  pointwise [ridx]
  have h : IntOp.cmpi .slt (x1 (ix3 b n j)) 0#32 = 0#1 := by
    have h0 : ¬ (x1 (ix3 b n j)).toInt < 0 := not_lt.mpr (hv _).1
    show BitVec.ofBool (decide ((x1 (ix3 b n j)).toInt < (0#32 : BitVec 32).toInt)) = 0#1
    simp [h0]
  rw [h]
  rfl

theorem rctr_at (x0 : FVec Ideal S4x2048x3 .f32) (b : Fin 4) (n : Fin 2048) (j : Fin 10) (k : Fin 3) : rctr x0 (ix4 b n j k) = x0 (ix3 b n k) := by
  pointwise [rctr]

theorem rdiff_at (x0 : FVec Ideal S4x2048x3 .f32) (ix : IVec S4x2048x10x1 32) (b : Fin 4) (n : Fin 2048) (j : Fin 10) (k : Fin 3) :
    rdiff x0 ix (ix4 b n j k) = x0 (ix3 b (pt (ix (ix4 b n j 0))) k) - x0 (ix3 b n k) := by
  pointwise [rdiff, gather_at, rctr_at]

theorem rcat_up (u v : FVec Ideal S4x2048x10x3 .f32) (b : Fin 4) (n : Fin 2048) (j : Fin 10) (k : Fin 3) : rcat u v (ix4 b n j (up k)) = u (ix4 b n j k) := by
  pointwise [rcat]
  exact dif_pos k.isLt

theorem rcat_lo (u v : FVec Ideal S4x2048x10x3 .f32) (b : Fin 4) (n : Fin 2048) (j : Fin 10) (k : Fin 3) : rcat u v (ix4 b n j (lo k)) = v (ix4 b n j k) := by
  pointwise [rcat]
  refine (dif_neg (by unfold lo; simp)).trans (congrArg v ?_)
  unfold lo
  congr 1
  simp

theorem rrelu_at (f : FVec Ideal S4x2048x10x6 .f32) (x2 : FVec Ideal S6x64 .f32) (x3 : FVec Ideal S1x64 .f32) (b : Fin 4) (n : Fin 2048) (j : Fin 10) (o : Fin 64) :
    rrelu f x2 x3 (ix4 b n j o) = max ((∑ k : Fin 6, f (ix4 b n j k) * x2 (ix2 k o)) + x3 (ix2 0 o)) 0 := by
  pointwise [rrelu]

/-- The reference's result at an entry: the point's feature. -/
theorem rout_at (x0 : FVec Ideal S4x2048x3 .f32) (x1 : IVec S4x2048x10 32) (hv : ∀ i, 0 ≤ (x1 i).toInt ∧ (x1 i).toInt < 2048) (x2 : FVec Ideal S6x64 .f32) (x3 : FVec Ideal S1x64 .f32) (b : Fin 4) (n : Fin 2048) (o : Fin 64) :
    rout x0 x1 x2 x3 (ix3 b n o) = feature (fun c => x0 (ix3 b n c)) (fun j c => x0 (ix3 b (pt (x1 (ix3 b n j))) c)) (fun k => x2 (ix2 k o)) (x3 (ix2 0 o)) := by
  unfold rout
  refine (hmax_at _ _ _ _ b n o).trans ((fold_max _).trans ?_)
  unfold feature edge
  congr 1
  funext j
  rw [rrelu_at]
  have e : (∑ k : Fin 6, rcat (rctr x0) (rdiff x0 (ridx x1)) (ix4 b n j k) * x2 (ix2 k o)) =
      (∑ c, x0 (ix3 b n c) * x2 (ix2 (up c) o)) + ∑ c, (x0 (ix3 b (pt (x1 (ix3 b n j))) c) - x0 (ix3 b n c)) * x2 (ix2 (lo c) o) := by
    refine (Fin.sum_univ_add (a := 3) (b := 3) _).trans ?_
    refine congrArg₂ (· + ·) (Finset.sum_congr rfl fun c _ => ?_) (Finset.sum_congr rfl fun c _ => ?_)
    · exact congrArg (· * x2 (ix2 (up c) o)) ((rcat_up _ _ b n j c).trans (rctr_at x0 b n j c))
    · refine congrArg (· * x2 (ix2 (lo c) o)) ((rcat_lo _ _ b n j c).trans ((rdiff_at x0 _ b n j c).trans ?_))
      rw [ridx_at x1 hv]
  rw [e]

end Cert.EdgeReferenceIdeal.Edge

end
-- ==== Proof.Edge.Pre.lean ====
/- What the precondition says: every coordinate and every weight is real and every index names a point. -/
module

public import proofs.«01_k».proof.Pre_finite_points_and_indices
public import proofs.«01_k».proof.Proof.Lbp.Pre
public import Idealize.ShloMosaic.Lib.ReduceAll
public import Idealize.ShloMosaic.PureOps.Ideal

@[expose] public section

set_option maxRecDepth 16384

noncomputable section

namespace Cert.EdgePre

open Cert.LbpPre (both holds top_word real_of)
open Idealize.ShloMosaic Cert.Pre_finite_points_and_indices

/-- The shape relations of the precondition's operations. -/
instance facts : Cert.Pre_finite_points_and_indices.Facts where
  bcast_S_S4x2048x3 := by decide
  reducesTo_S4x2048x3_S_d0_1_2 := by decide
  h_S_ := by decide
  bcast_S_S6x64 := by decide
  reducesTo_S6x64_S_d0_1 := by decide
  bcast_S_S4x2048x10 := by decide
  reducesTo_S4x2048x10_S_d0_1_2 := by decide

/-- The coordinates and the weights are real and the indices in range, wherever the precondition's bit is set. -/
theorem all (x0 : FVec Ideal S4x2048x3 .f32) (x1 : IVec S4x2048x10 32) (x2 : FVec Ideal S6x64 .f32) (x3 : FVec Ideal S1x64 .f32) (h : fn (F := Ideal) x0 x1 x2 x3 = fun _ => 1#1) :
    (∀ i, ∃ r : ℝ, x0 i = (r : EReal)) ∧ (∀ i, ∃ r : ℝ, x2 i = (r : EReal)) ∧ ∀ i, 0 ≤ (x1 i).toInt ∧ (x1 i).toInt < 2048 := by
  have hs : Subsingleton S_.Idx := ⟨fun a b => funext fun q => q.elim0⟩
  obtain ⟨hd, hi⟩ := both _ _ (congrFun h (fun q => q.elim0))
  obtain ⟨hd, hw⟩ := both _ _ hd
  refine ⟨fun i => ?_, fun i => ?_, fun i => ?_⟩
  · have e := Host.reduce_andi_all _ _ _ _ _ hd i
    refine real_of _ ?_
    have e' : BitVec.ofBool (decide (max (x0 i) (-(x0 i)) < Ideal.ofBits FTy.f32 0x7F800000#32)) = 1#1 := e
    rw [top_word] at e'
    exact holds _ e'
  · have e := Host.reduce_andi_all _ _ _ _ _ hw i
    refine real_of _ ?_
    have e' : BitVec.ofBool (decide (max (x2 i) (-(x2 i)) < Ideal.ofBits FTy.f32 0x7F800000#32)) = 1#1 := e
    rw [top_word] at e'
    exact holds _ e'
  · have e := Host.reduce_andi_all _ _ _ _ _ hi i
    obtain ⟨e0, e1⟩ := both _ _ e
    have f0 : BitVec.ofBool (decide ((0#32 : BitVec 32).toInt ≤ (x1 i).toInt)) = 1#1 := e0
    have f1 : BitVec.ofBool (decide ((x1 i).toInt < (2048#32 : BitVec 32).toInt)) = 1#1 := e1
    exact ⟨holds _ f0, holds _ f1⟩

end Cert.EdgePre

end
-- ==== Proof.Edge.Final.lean ====
/- The edge features' result array is the reference's term of the arguments. -/
module

public import proofs.«01_k».proof.Proof.Gen.EdgeIdeal.Value
public import proofs.«01_k».proof.Proof.Edge.Row
public import proofs.«01_k».proof.Proof.Edge.RefRow
public import proofs.«01_k».proof.Proof.Edge.Pre
public import Idealize.ShloMosaic.Lib.Pipeline.ValueKit
public import Idealize.ShloMosaic.Lib.WholeRead

@[expose] public section

set_option maxRecDepth 16384

noncomputable section

namespace Cert.EdgeIdeal.Edge

open Cert.EdgeIdeal Cert.EdgeIdeal.Gen Idealize.ShloMosaic Idealize.ShloMosaic.TcCoe Idealize.SL.Sem Cert.LbpMath Cert.EdgeMath

/-- A load through a whole memref reads its contents at the place of the rectangle. -/
theorem rd {Val : EltTy → Type} {s : Shape} {e : EltTy} {mr : Memref sig .tc .vmem s e} (h : mr.IsWhole) (X : s.Idx → Val e) (off size : Fin s.rank → ℕ) (inb) (x : (Rect.unit off size inb).shape.Idx)
    (i : s.Idx) (hi : ∀ a, (i a : ℕ) = off a + x a) : View.readAt Val mr.view (Rect.unit off size inb).toLoadRect (h.unread X) x = X i :=
  (h.readAt_unread X _ x).trans (congrArg X (funext fun a => Fin.ext ((Rect.idx_unit_val off size inb x a).trans (hi a).symm)))

/-- Column `j` of the index block lies in it. -/
theorem inW : ∀ (j : Fin 10) (a : Fin 3), (![0, 0, j.val] : Fin 3 → ℕ) a + S1x256x1.size a ≤ S1x256x10.size a := by decide

/-- A grid point's batch. -/
def bb (t : Fin 32) : Fin 4 := ⟨t.val / 8, by omega⟩
/-- A grid point's block of rows. -/
def qq (t : Fin 32) : Fin 8 := ⟨t.val % 8, by omega⟩
/-- A block's row among all rows of its batch. -/
def row (q : Fin 8) (r : Fin 256) : Fin 2048 := ⟨q.val * 256 + r.val, by omega⟩

/-- The offsets of the block of points among the batch's points. -/
theorem off_eq : ∀ t : Fin cfg0.N, k0_off1 (grid0.coords t) = ![0, t.val % 8 * 256, 0] := (by decide +kernel : ∀ t : Fin grid0.N, _)

section
variable (t : Fin cfg0.N) (arg2 : Memref sig .tc .vmem S1x2048x3 .f32) (harg2 : arg2.IsWhole) (arg3 : Memref sig .tc .vmem S1x256x10 .i32) (harg3 : arg3.IsWhole) (arg4 : Memref sig .tc .vmem S6x64 .f32) (harg4 : arg4.IsWhole) (arg5 : Memref sig .tc .vmem S1x64 .f32) (harg5 : arg5.IsWhole)
  (x0 : FVec Ideal S1x2048x3 .f32) (x1 : IVec S1x256x10 32) (x2 : FVec Ideal S6x64 .f32) (x3 : FVec Ideal S1x64 .f32)

/-- The block a grid point stores, at an entry. -/
theorem block_at (h0 : ∀ i, ∃ r : ℝ, x0 i = (r : EReal)) (h1 : ∀ i, 0 ≤ (x1 i).toInt ∧ (x1 i).toInt < 2048) (h2 : ∀ i, ∃ r : ℝ, x2 i = (r : EReal)) (y : S1x256x64.Idx) :
    View.canon (Val := Elt Ideal) (s := S1x256x64) (e := .f32) [⟨Rect.unit ![0, 0, 0] ![1, 256, 64] inb_S1x256x64_S1x256x64_0_0_0, blockE (F := Ideal)
      (View.readAt (Elt Ideal) arg4.view (Rect.unit (s := S6x64) ![0, 0] S6x64.size inb_S6x64_S6x64_0_0).toLoadRect (harg4.unread x2))
      (View.readAt (Elt Ideal) arg2.view (Rect.unit (s := S1x2048x3) ![0, 0, 0] S1x2048x3.size inb_S1x2048x3_S1x2048x3_0_0_0).toLoadRect (harg2.unread x0))
      (View.readAt (Elt Ideal) arg2.view (Rect.unit (s := S1x2048x3) (k0_off1 (grid0.coords t)) S1x256x3.size (k0_off1_inb (grid0.coords t))).toLoadRect (harg2.unread x0))
      (View.readAt (Elt Ideal) arg5.view (Rect.unit (s := S1x64) ![0, 0] S1x64.size inb_S1x64_S1x64_0_0).toLoadRect (harg5.unread x3))
      (fun j => View.readAt (Elt Ideal) arg3.view (Rect.unit (s := S1x256x10) ![0, 0, j.val] S1x256x1.size (inW j)).toLoadRect (harg3.unread x1))⟩] y
      = feature (fun k => x0 (ix3 0 (row (qq t) ⟨(y 1).val, (y 1).isLt⟩) k)) (fun j k => x0 (ix3 0 (pt (x1 (ix3 0 ⟨(y 1).val, (y 1).isLt⟩ j))) k)) (fun k => x2 (ix2 k ⟨(y 2).val, (y 2).isLt⟩)) (x3 (ix2 0 ⟨(y 2).val, (y 2).isLt⟩)) := by
  obtain ⟨p, r, o, rfl⟩ : ∃ (p : Fin 1) (r : Fin 256) (o : Fin 64), y = ix3 p r o := ⟨⟨(y 0).val, (y 0).isLt⟩, ⟨(y 1).val, (y 1).isLt⟩, ⟨(y 2).val, (y 2).isLt⟩, by funext q; fin_cases q <;> rfl⟩
  have hy : (Rect.unit (s := S1x256x64) ![0, 0, 0] ![1, 256, 64] inb_S1x256x64_S1x256x64_0_0_0).emb (ix3 p r o) = ix3 p r o := by
    funext a; refine Fin.ext ((Rect.idx_unit_val _ _ _ _ a).trans ?_); fin_cases a <;> exact Nat.zero_add _
  have e4 : (View.readAt (Elt Ideal) arg4.view (Rect.unit (s := S6x64) ![0, 0] S6x64.size inb_S6x64_S6x64_0_0).toLoadRect (harg4.unread x2) : FVec Ideal S6x64 .f32) = x2 := by
    funext i; refine rd (Val := Elt Ideal) harg4 x2 _ _ _ i i fun a => ?_
    fin_cases a <;> exact (Nat.zero_add _).symm
  have e2 : (View.readAt (Elt Ideal) arg2.view (Rect.unit (s := S1x2048x3) ![0, 0, 0] S1x2048x3.size inb_S1x2048x3_S1x2048x3_0_0_0).toLoadRect (harg2.unread x0) : FVec Ideal S1x2048x3 .f32) = x0 := by
    funext i; refine rd (Val := Elt Ideal) harg2 x0 _ _ _ i i fun a => ?_
    fin_cases a <;> exact (Nat.zero_add _).symm
  have e5 : (View.readAt (Elt Ideal) arg5.view (Rect.unit (s := S1x64) ![0, 0] S1x64.size inb_S1x64_S1x64_0_0).toLoadRect (harg5.unread x3) : FVec Ideal S1x64 .f32) = x3 := by
    funext i; refine rd (Val := Elt Ideal) harg5 x3 _ _ _ i i fun a => ?_
    fin_cases a <;> exact (Nat.zero_add _).symm
  have eb : ∀ (r : Fin 256) (k : Fin 3), (View.readAt (Elt Ideal) arg2.view (Rect.unit (s := S1x2048x3) (k0_off1 (grid0.coords t)) S1x256x3.size (k0_off1_inb (grid0.coords t))).toLoadRect (harg2.unread x0) : FVec Ideal S1x256x3 .f32) (ix3 0 r k) = x0 (ix3 0 (row (qq t) r) k) := by
    intro r k
    refine rd (Val := Elt Ideal) harg2 x0 _ _ _ _ _ fun a => ?_
    refine Eq.trans ?_ (congrArg (· + _) (congrFun (off_eq t) a).symm)
    fin_cases a <;> first | exact (Nat.zero_add _).symm | rfl
  have er : ∀ i, ∃ z : ℝ, (View.readAt (Elt Ideal) arg2.view (Rect.unit (s := S1x2048x3) (k0_off1 (grid0.coords t)) S1x256x3.size (k0_off1_inb (grid0.coords t))).toLoadRect (harg2.unread x0) : FVec Ideal S1x256x3 .f32) i = (z : EReal) := by
    intro i
    obtain ⟨p, r, k, rfl⟩ : ∃ (p : Fin 1) (r : Fin 256) (k : Fin 3), i = ix3 p r k := ⟨⟨(i 0).val, (i 0).isLt⟩, ⟨(i 1).val, (i 1).isLt⟩, ⟨(i 2).val, (i 2).isLt⟩, by funext q; fin_cases q <;> rfl⟩
    obtain rfl : p = 0 := Subsingleton.elim _ _
    rw [eb]
    exact h0 _
  have en : ∀ (j : Fin 10) (r : Fin 256), (View.readAt (Elt Ideal) arg3.view (Rect.unit (s := S1x256x10) ![0, 0, j.val] S1x256x1.size (inW j)).toLoadRect (harg3.unread x1) : IVec S1x256x1 32) (ix3 0 r 0) = x1 (ix3 0 r j) := by
    intro j r
    refine rd (Val := Elt Ideal) harg3 x1 _ _ _ _ _ fun a => ?_
    fin_cases a <;> first | exact (Nat.zero_add _).symm | rfl
  have ev : ∀ (j : Fin 10) i, 0 ≤ ((View.readAt (Elt Ideal) arg3.view (Rect.unit (s := S1x256x10) ![0, 0, j.val] S1x256x1.size (inW j)).toLoadRect (harg3.unread x1) : IVec S1x256x1 32) i).toInt ∧ ((View.readAt (Elt Ideal) arg3.view (Rect.unit (s := S1x256x10) ![0, 0, j.val] S1x256x1.size (inW j)).toLoadRect (harg3.unread x1) : IVec S1x256x1 32) i).toInt < 2048 := by
    intro j i
    obtain ⟨p, r, k, rfl⟩ : ∃ (p : Fin 1) (r : Fin 256) (k : Fin 1), i = ix3 p r k := ⟨⟨(i 0).val, (i 0).isLt⟩, ⟨(i 1).val, (i 1).isLt⟩, ⟨(i 2).val, (i 2).isLt⟩, by funext q; fin_cases q <;> rfl⟩
    obtain rfl : p = 0 := Subsingleton.elim _ _
    obtain rfl : k = 0 := Subsingleton.elim _ _
    rw [en]
    exact h1 _
  refine Eq.trans (congrArg _ hy.symm) ((View.canon_cons_emb _ _ _ _).trans ?_)
  rw [e4, e2, e5]
  refine (blockE_at x2 x0 _ x3 _ h2 h0 er ev p r o).trans ?_
  simp only [eb, en]
  rfl

end

variable (m : (ℓ : Loc nD τ sig) → Buf (Elt Ideal) ℓ)

/-- What the run leaves at a grid point, at an entry. -/
theorem outs (c : Dev nD) (t : Fin cfg0.N) (h0 : ∀ i, ∃ r : ℝ, (iblk m c 0 t : FVec Ideal S1x2048x3 .f32) i = (r : EReal)) (h1 : ∀ i, 0 ≤ ((iblk m c 1 t : IVec S1x256x10 32) i).toInt ∧ ((iblk m c 1 t : IVec S1x256x10 32) i).toInt < 2048)
    (h2 : ∀ i, ∃ r : ℝ, (iblk m c 2 t : FVec Ideal S6x64 .f32) i = (r : EReal)) (y : S1x256x64.Idx) :
    outsAt0 m c t y = feature (fun k => (iblk m c 0 t : FVec Ideal S1x2048x3 .f32) (ix3 0 (row (qq t) ⟨(y 1).val, (y 1).isLt⟩) k)) (fun j k => (iblk m c 0 t : FVec Ideal S1x2048x3 .f32) (ix3 0 (pt ((iblk m c 1 t : IVec S1x256x10 32) (ix3 0 ⟨(y 1).val, (y 1).isLt⟩ j))) k))
      (fun k => (iblk m c 2 t : FVec Ideal S6x64 .f32) (ix2 k ⟨(y 2).val, (y 2).isLt⟩)) ((iblk m c 3 t : FVec Ideal S1x64 .f32) (ix2 0 ⟨(y 2).val, (y 2).isLt⟩)) := by
  unfold outsAt0 out0_A_4
  rw [View.read_writes_junk_eq_canon]
  exact block_at t (ms0_0 t) (hs0_0 t) (ms0_1 t) (hs0_1 t) (ms0_2 t) (hs0_2 t) (ms0_3 t) (hs0_3 t) _ _ _ _ h0 h1 h2 y

/-- The blocks of the grid points. -/
theorem idx0 : ∀ t : Fin cfg0.N, win0_0.index t = ![t.val / 8, 0, 0] ∧ win0_1.index t = ![t.val / 8, t.val % 8, 0] ∧ win0_2.index t = ![0, 0] ∧ win0_3.index t = ![0, 0]
    ∧ win0_4.index t = ![t.val / 8, t.val % 8, 0] := (by decide +kernel : ∀ t : Fin grid0.N, _)

/-- The features, of the arguments. -/
def OUT (X : FVec Ideal S4x2048x3 .f32) (I : IVec S4x2048x10 32) (W : FVec Ideal S6x64 .f32) (B : FVec Ideal S1x64 .f32) : FVec Ideal S4x2048x64 .f32 := fun i =>
  feature (fun k => X (ix3 ⟨(i 0).val, (i 0).isLt⟩ ⟨(i 1).val, (i 1).isLt⟩ k)) (fun j k => X (ix3 ⟨(i 0).val, (i 0).isLt⟩ (pt (I (ix3 ⟨(i 0).val, (i 0).isLt⟩ ⟨(i 1).val, (i 1).isLt⟩ j))) k))
    (fun k => W (ix2 k ⟨(i 2).val, (i 2).isLt⟩)) (B (ix2 0 ⟨(i 2).val, (i 2).isLt⟩))

/-- A grid point's block of the features, from blocks that are the arrays' blocks. -/
theorem of_blocks (X : FVec Ideal S4x2048x3 .f32) (I : IVec S4x2048x10 32) (W : FVec Ideal S6x64 .f32) (B : FVec Ideal S1x64 .f32) (b : Fin 4) (q : Fin 8)
    (x0 : FVec Ideal S1x2048x3 .f32) (x1 : IVec S1x256x10 32) (x2 : FVec Ideal S6x64 .f32) (x3 : FVec Ideal S1x64 .f32)
    (e0 : ∀ n k, x0 (ix3 0 n k) = X (ix3 b n k)) (e1 : ∀ r j, x1 (ix3 0 r j) = I (ix3 b (row q r) j)) (e2 : ∀ k o, x2 (ix2 k o) = W (ix2 k o)) (e3 : ∀ o, x3 (ix2 0 o) = B (ix2 0 o)) (r : Fin 256) (o : Fin 64) :
    feature (fun k => x0 (ix3 0 (row q r) k)) (fun j k => x0 (ix3 0 (pt (x1 (ix3 0 r j))) k)) (fun k => x2 (ix2 k o)) (x3 (ix2 0 o)) = OUT X I W B (ix3 b (row q r) o) := by
  simp only [e0, e1, e2, e3]
  rfl

set_option maxHeartbeats 1600000 in
/-- The result array, when the points and the weights are real and the indices name points. -/
theorem final (c : Dev nD) (X : FVec Ideal S4x2048x3 .f32) (I : IVec S4x2048x10 32) (W : FVec Ideal S6x64 .f32) (B : FVec Ideal S1x64 .f32)
    (a0 : V m c main_arg0 = X) (a1 : V m c main_arg1 = I) (a2 : V m c main_arg2 = W) (a3 : V m c main_arg3 = B)
    (hX : ∀ i, ∃ r : ℝ, X i = (r : EReal)) (hI : ∀ i, 0 ≤ (I i).toInt ∧ (I i).toInt < 2048) (hW : ∀ i, ∃ r : ℝ, W i = (r : EReal)) : (dats m 0 c).arrAt 4 cfg0.N = OUT X I W B := by
  refine (dats m 0 c).arrAt_eq_of_covers 4 _ (by decide +kernel) fun t hf y => ?_
  have e0 : ∀ n k, (iblk m c 0 t : FVec Ideal S1x2048x3 .f32) (ix3 0 n k) = X (ix3 (bb t) n k) := fun n k => by rw [← a0]; blk_ext [iblk, idx0 t, bb]
  have e1 : ∀ r j, (iblk m c 1 t : IVec S1x256x10 32) (ix3 0 r j) = I (ix3 (bb t) (row (qq t) r) j) := fun r j => by rw [← a1]; blk_ext [iblk, idx0 t, bb, qq, row]
  have e2 : ∀ k o, (iblk m c 2 t : FVec Ideal S6x64 .f32) (ix2 k o) = W (ix2 k o) := fun k o => by rw [← a2]; blk_ext [iblk, idx0 t]
  have e3 : ∀ o, (iblk m c 3 t : FVec Ideal S1x64 .f32) (ix2 0 o) = B (ix2 0 o) := fun o => by rw [← a3]; blk_ext [iblk, idx0 t]
  blk_simp
  rw [after0_4]
  refine (outs m c t ?_ ?_ ?_ y).trans ?_
  · intro i
    obtain ⟨p, r, k, rfl⟩ : ∃ (p : Fin 1) (r : Fin 2048) (k : Fin 3), i = ix3 p r k := ⟨⟨(i 0).val, (i 0).isLt⟩, ⟨(i 1).val, (i 1).isLt⟩, ⟨(i 2).val, (i 2).isLt⟩, by funext q; fin_cases q <;> rfl⟩
    obtain rfl : p = 0 := Subsingleton.elim _ _
    rw [e0]; exact hX _
  · intro i
    obtain ⟨p, r, k, rfl⟩ : ∃ (p : Fin 1) (r : Fin 256) (k : Fin 10), i = ix3 p r k := ⟨⟨(i 0).val, (i 0).isLt⟩, ⟨(i 1).val, (i 1).isLt⟩, ⟨(i 2).val, (i 2).isLt⟩, by funext q; fin_cases q <;> rfl⟩
    obtain rfl : p = 0 := Subsingleton.elim _ _
    rw [e1]; exact hI _
  · intro i
    obtain ⟨r, k, rfl⟩ : ∃ (r : Fin 6) (k : Fin 64), i = ix2 r k := ⟨⟨(i 0).val, (i 0).isLt⟩, ⟨(i 1).val, (i 1).isLt⟩, by funext q; fin_cases q <;> rfl⟩
    rw [e2]; exact hW _
  · refine (of_blocks X I W B (bb t) (qq t) _ _ _ _ e0 e1 e2 e3 _ _).trans (congrArg (OUT X I W B) ?_)
    blk_ext [idx0 t, bb, qq, row]

/-- The two writings of the features agree where the indices name points. -/
theorem out_eq (X : FVec Ideal S4x2048x3 .f32) (I : IVec S4x2048x10 32) (hI : ∀ i, 0 ≤ (I i).toInt ∧ (I i).toInt < 2048) (W : FVec Ideal S6x64 .f32) (B : FVec Ideal S1x64 .f32) :
    OUT X I W B = Cert.EdgeReferenceIdeal.Edge.rout (F := Ideal) X I W B := by
  funext i
  obtain ⟨b, n, k, rfl⟩ : ∃ (b : Fin 4) (n : Fin 2048) (k : Fin 64), i = ix3 b n k := ⟨⟨(i 0).val, (i 0).isLt⟩, ⟨(i 1).val, (i 1).isLt⟩, ⟨(i 2).val, (i 2).isLt⟩, by funext q; fin_cases q <;> rfl⟩
  exact (Cert.EdgeReferenceIdeal.Edge.rout_at X I hI W B b n k).symm

/-- The kernel's result array is the reference's result, under the precondition. -/
theorem result (c : Dev nD)
    (h : Cert.Pre_finite_points_and_indices.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    (dats m 0 c).arrAt 4 cfg0.N = Cert.EdgeReferenceIdeal.Edge.rout (F := Ideal) (m ((c.tc : Thread nD τ).loc main_arg0)) (m ((c.tc : Thread nD τ).loc main_arg1)) (m ((c.tc : Thread nD τ).loc main_arg2)) (m ((c.tc : Thread nD τ).loc main_arg3)) :=
  (final m c _ _ _ _ (V_main_arg0 m c) (V_main_arg1 m c) (V_main_arg2 m c) (V_main_arg3 m c) (Cert.EdgePre.all _ _ _ _ h).1 (Cert.EdgePre.all _ _ _ _ h).2.2 (Cert.EdgePre.all _ _ _ _ h).2.1).trans (out_eq _ _ (Cert.EdgePre.all _ _ _ _ h).2.2 _ _)

end Cert.EdgeIdeal.Edge

end
-- ==== Proof.Near.Rank.lean ====
/- The order in which the nearest are taken: keys ascending, equal keys by position. Taking the least again and again, the
   taken ones masked by a bound above every key, meets the positions in that order; so does the stable sort of a top-k. -/
module

public import Idealize.ShloMosaic.Lib.SortPrefix
public import Idealize.ShloMosaic.Lib.Pointwise
public import Idealize.ShloMosaic.PureOps.Ideal

@[expose] public section

noncomputable section

namespace Cert.Rank

open Idealize.ShloMosaic

variable {n : ℕ}

/-- Position `a` comes before position `b`: its key is less, or the keys are equal and it stands first. -/
def lex (d : Fin n → EReal) (a b : Fin n) : Bool := decide (d a < d b) || (decide (d a = d b) && decide (a < b))

theorem lex_iff (d : Fin n → EReal) (a b : Fin n) : lex d a b = true ↔ d a < d b ∨ (d a = d b ∧ a < b) := by
  simp [lex]

theorem lex_total (d : Fin n → EReal) : StrictTotalBefore (lex d) :=
  StrictTotalBefore.of_key_then_position (fun x y : EReal => decide (x < y)) d (by simp) (fun a b c h h' => by
    simp only [decide_eq_true_eq] at h h' ⊢; exact h.trans h') (fun a b => by
    simp only [decide_eq_true_eq]; exact lt_trichotomy a b)

/-- The position that the order puts at place `k`. -/
def nth (d : Fin n → EReal) (k : Fin n) : Fin n := sortedFrom (lex d) k

/-- Sorting positions in their own order by the key alone, stably, sorts them by key and position. -/
theorem sort_list (d : Fin n → EReal) (l : List (Fin n)) (hl : l.Pairwise (· < ·)) :
    stableSort (fun a b => decide (d a < d b)) l = stableSort (lex d) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ l).mem_iff.mp hb)
    simp [lex, not_lt.mpr hab.le]

theorem sorted_eq (d : Fin n → EReal) (k : Fin n) : sortedFrom (fun a b => decide (d a < d b)) k = nth d k := by
  unfold nth sortedFrom
  rw [List.get_of_eq (show sortPositions n (fun a b => decide (d a < d b)) = sortPositions n (lex d) from sort_list d _ (List.pairwise_lt_finRange n))]
  rfl

theorem nth_inj (d : Fin n → EReal) {i j : Fin n} (h : nth d i = nth d j) : i = j := sortedFrom_injective (lex d) h

theorem nth_surj (d : Fin n → EReal) (c : Fin n) : ∃ j, nth d j = c := sortedFrom_surjective (lex d) c

/-- An earlier place holds a position that comes before. -/
theorem nth_lt (d : Fin n → EReal) {i j : Fin n} (h : i < j) : d (nth d i) < d (nth d j) ∨ (d (nth d i) = d (nth d j) ∧ nth d i < nth d j) := by
  have hn := sortedFrom_noInversion (lex d) (lex d) (fun a b => (lex_total d).asymm a b) (fun _ _ h => h) (lex_total d).negTrans i j h
  rcases (lex_total d).total (nth d i) (nth d j) (fun e => h.ne (nth_inj d e)) with h' | h'
  · exact (lex_iff d _ _).mp h'
  · exact absurd (hn.symm.trans h') (by decide)

/-- The keys with those of the first `k` places replaced by the bound. -/
def masked (d : Fin n → EReal) (B : EReal) (k : ℕ) (c : Fin n) : EReal :=
  open Classical in if ∃ j : Fin n, j.val < k ∧ nth d j = c then B else d c

theorem masked_zero (d : Fin n → EReal) (B : EReal) : masked d B 0 = d := by
  funext c; simp [masked]

theorem masked_succ (d : Fin n → EReal) (B : EReal) (k : Fin n) (c : Fin n) :
    (if c = nth d k then B else masked d B k.val c) = masked d B (k.val + 1) c := by
  unfold masked
  by_cases h : c = nth d k
  · rw [if_pos h, if_pos ⟨k, Nat.lt_succ_self _, h.symm⟩]
  · rw [if_neg h]
    refine if_congr ⟨fun ⟨j, hj, e⟩ => ⟨j, by omega, e⟩, fun ⟨j, hj, e⟩ => ⟨j, ?_, e⟩⟩ rfl rfl
    rcases Nat.lt_succ_iff_lt_or_eq.mp hj with h' | h'
    · exact h'
    · exact absurd (e.symm.trans (congrArg (nth d) (Fin.ext h'))) h

/-- Among the masked keys the next place's position comes first. -/
theorem masked_first (d : Fin n → EReal) (B : EReal) (hB : ∀ c, d c < B) (k c : Fin n) (hc : c ≠ nth d k) :
    masked d B k.val (nth d k) < masked d B k.val c ∨ (masked d B k.val (nth d k) = masked d B k.val c ∧ nth d k < c) := by
  have h0 : masked d B k.val (nth d k) = d (nth d k) := if_neg fun ⟨j, hj, e⟩ => hj.ne (congrArg Fin.val (nth_inj d e))
  obtain ⟨j, rfl⟩ := nth_surj d c
  rw [h0]
  by_cases hj : j.val < k.val
  · have h1 : masked d B k.val (nth d j) = B := if_pos ⟨j, hj, rfl⟩
    rw [h1]; exact Or.inl (hB _)
  · have h1 : masked d B k.val (nth d j) = d (nth d j) := if_neg fun ⟨i, hi, e⟩ => hj (nth_inj d e ▸ hi)
    rw [h1]
    refine nth_lt d (lt_of_le_of_ne (not_lt.mp hj) fun e => hc (congrArg (nth d) (Fin.ext ?_)))
    exact congrArg Fin.val e.symm

/-- The least number among the positions that reach the least key is the number of the position that comes first. -/
theorem pick (x v : Fin n → EReal) (big : EReal) (hv : ∀ a b : Fin n, a < b → v a ≤ v b) (hb : ∀ c, v c ≤ big) (p : Fin n)
    (hp : ∀ c, c ≠ p → x p < x c ∨ (x p = x c ∧ p < c)) :
    (Finset.univ.inf fun c => if x c ≤ Finset.univ.inf x then v c else big) = v p := by
  have hi : Finset.univ.inf x = x p := by
    refine le_antisymm (Finset.inf_le (Finset.mem_univ p)) (Finset.le_inf fun c _ => ?_)
    by_cases h : c = p
    · rw [h]
    · rcases hp c h with h' | h'
      · exact h'.le
      · exact h'.1.le
  rw [hi]
  refine le_antisymm ((Finset.inf_le (Finset.mem_univ p)).trans (by rw [if_pos le_rfl])) (Finset.le_inf fun c _ => ?_)
  by_cases h : c = p
  · rw [h, if_pos le_rfl]
  · by_cases h' : x c ≤ x p
    · rw [if_pos h']
      rcases hp c h with h1 | h1
      · exact absurd h1 (not_lt.mpr h')
      · exact hv _ _ h1.2
    · rw [if_neg h']; exact hb p

/-- A position whose key is less than every other stands at the first place. -/
theorem nth_zero (d : Fin n → EReal) (k i : Fin n) (hk : k.val = 0) (h : ∀ c, c ≠ i → d i < d c) : nth d k = i := by
  obtain ⟨j, hj⟩ := nth_surj d i
  by_cases e : j = k
  · rw [← e, hj]
  · have hlt : k < j := by
      have : j.val ≠ k.val := fun e' => e (Fin.ext e')
      show k.val < j.val; omega
    by_contra hne
    have h1 := h _ hne
    rcases nth_lt d hlt with h2 | h2
    · rw [hj] at h2; exact absurd h1 h2.asymm
    · rw [hj] at h2; exact absurd h2.1 h1.ne'

/-- The place a stable sort by the negated keys puts first, second, and so on. -/
theorem at_place {n0 n1 : ℕ} (x : FVec Ideal (⟨3, ![n0, n1, n]⟩ : Shape) .f32) (b : Fin n0) (r : Fin n1) (d : Fin n → EReal) (hd : ∀ c, x (ix3 b r c) = -d c)
    (g : (⟨3, ![n0, n1, n]⟩ : Shape).Idx) (g0 : (g 0).val = b.val) (g1 : (g 1).val = r.val) (j' : Fin n) (g2 : (g 2).val = j'.val) :
    (g.along 2 (sortedFrom (fun u v : Fin n => FloatOps.cmpfTotal (F := Ideal) (φ := .f32) .gt (x (g.along 2 u)) (x (g.along 2 v)) == 1#1) (g 2)) 2).val = (nth d j').val := by
  have hal : ∀ c : Fin n, x (g.along 2 c) = -d c := fun c => by
    rw [← hd c]
    refine congrArg x (funext fun a => ?_)
    fin_cases a
    · exact Fin.ext g0
    · exact Fin.ext g1
    · rfl
  have hP : (fun u v : Fin n => FloatOps.cmpfTotal (F := Ideal) (φ := .f32) .gt (x (g.along 2 u)) (x (g.along 2 v)) == 1#1) = fun u v => decide (d u < d v) := by
    funext u v
    rw [hal, hal, Ideal.cmpfTotal_def]
    show (BitVec.ofBool (decide (-d v < -d u)) == 1#1) = decide (d u < d v)
    by_cases h : d u < d v
    · rw [decide_eq_true h, decide_eq_true (EReal.neg_lt_neg_iff.mpr h)]; rfl
    · rw [decide_eq_false h, decide_eq_false (fun h' => h (EReal.neg_lt_neg_iff.mp h'))]; rfl
  rw [hP, show g 2 = j' from Fin.ext g2]
  exact congrArg Fin.val (sorted_eq d j')

/-- The positions of a top-k of negated keys, at an entry. -/
theorem topK_at {n0 n1 k : ℕ} (x : FVec Ideal (⟨3, ![n0, n1, n]⟩ : Shape) .f32) (h : (⟨3, ![n0, n1, n]⟩ : Shape).Slices (fun _ => 0) ⟨3, ![n0, n1, k]⟩)
    (b : Fin n0) (r : Fin n1) (j : Fin k) (j' : Fin n) (hj : j'.val = j.val) (d : Fin n → EReal) (hd : ∀ c, x (ix3 b r c) = -d c) :
    (Host.topK ⟨3, ![n0, n1, k]⟩ 2 (fun u v => FloatOps.cmpfTotal (F := Ideal) (φ := .f32) .gt u v) x h).2 (ix3 b r j) = BitVec.ofNat 32 (nth d j').val := by
  have hlt : (2 : ℕ) < (⟨3, ![n0, n1, n]⟩ : Shape).rank := Nat.lt_succ_self 2
  unfold Host.topK extractStridedSlice Host.sort2
  simp only [dif_pos hlt]
  unfold iotaInDim
  refine congrArg (BitVec.ofNat 32) ?_
  exact at_place x b r d hd _ (Nat.zero_add _) (Nat.zero_add _) j' ((Nat.zero_add _).trans hj.symm)

end Cert.Rank

end
-- ==== Proof.Near.KnnMath.lean ====
/- The squared distance of two points, the numbers the neighbour search counts with, and a counted loop's invariant. -/
module

public import proofs.«01_k».proof.Proof.Near.Rank
public import Idealize.ShloMosaic.Lib.Exec.Context

@[expose] public section

noncomputable section

namespace Cert.NearMath

open Idealize.ShloMosaic Cert.Rank

/-- The squared distance of two points. -/
def dist (x y : Fin 3 → EReal) : EReal := ∑ k, (x k - y k) * (x k - y k)

/-- The bound that stands for a distance already taken. -/
def BIG : EReal := Ideal.ofBits FTy.f32 0x7149F2CA#32

/-- A natural number as an extended real. -/
def num (n : ℕ) : EReal := ((n : ℝ) : EReal)

theorem num_inj {a b : ℕ} : num a = num b ↔ a = b := by
  unfold num; rw [EReal.coe_eq_coe_iff, Nat.cast_inj]

theorem num_le {a b : ℕ} : num a ≤ num b ↔ a ≤ b := by
  unfold num; rw [EReal.coe_le_coe_iff, Nat.cast_le]

/-- The word of 2048. -/
theorem big_word : Ideal.ofBits FTy.f32 0x45000000#32 = num 2048 := by
  simp [Ideal.ofBits, Ideal.ieee, num]; rw [← EReal.coe_mul]; norm_num

/-- The word of plus infinity. -/
theorem inf_word : Ideal.ofBits FTy.f32 0x7F800000#32 = ⊤ := by simp [Ideal.ofBits, Ideal.ieee]

/-- A small number's word is that number. -/
theorem word_num (n : ℕ) (h : n < 4096) : (FloatOps.sitofp (F := Ideal) FTy.f32 (BitVec.ofNat 32 n) : EReal) = num n := by
  have hm : (BitVec.ofNat 32 n).toInt = (n : ℤ) := by
    rw [BitVec.toInt_ofNat']
    simp only [Int.bmod_def]
    omega
  show (((BitVec.ofNat 32 n).toInt : ℝ) : EReal) = num n
  rw [hm]; unfold num; rw [Int.cast_natCast]

/-- A small number converts to its word. -/
theorem num_word (n : ℕ) (h : n < 4096) : (FloatOps.fptosi (F := Ideal) (φ := .f32) 32 (num n) : BitVec 32) = BitVec.ofNat 32 n := by
  show BitVec.ofInt 32 (max (-(2 ^ (32 - 1) : Nat)) (min (((2 ^ (32 - 1) : Nat) : Int) - 1) (if (0 : ℝ) ≤ (n : ℝ) then ⌊(n : ℝ)⌋ else ⌈(n : ℝ)⌉))) = _
  rw [if_pos (Nat.cast_nonneg n), Int.floor_natCast, min_eq_right (by omega), max_eq_right (by omega), BitVec.ofInt_natCast]

/-- The least of a family, folded from plus infinity. -/
theorem fold_min {n : ℕ} (f : Fin n → EReal) : Finset.fold min ⊤ f Finset.univ = Finset.univ.inf f := rfl

/-- A point whose distance to itself is bounded is at distance nought from itself. -/
theorem self_dist (x : Fin 3 → EReal) (h : dist x x < BIG) : dist x x = 0 := by
  have ht : ∀ a : EReal, (a - a) * (a - a) = 0 ∨ (a - a) * (a - a) = ⊤ := by
    intro a
    induction a with
    | bot => right; rfl
    | top => right; rfl
    | coe r => left; rw [← EReal.coe_sub, sub_self]; simp
  have h' : dist x x ≠ ⊤ := (h.trans_le le_top).ne
  unfold dist at h' ⊢
  rw [Fin.sum_univ_three] at h' ⊢
  rcases ht (x 0) with e0 | e0 <;> rcases ht (x 1) with e1 | e1 <;> rcases ht (x 2) with e2 | e2 <;> rw [e0, e1, e2] at h' ⊢ <;> simp at h' ⊢

/-- What holds at a counted loop's start and is kept by every trip holds at its end. -/
theorem fold_inv {n : ℕ} {σ : Type} (g : Fin n → σ → σ) (init : σ) (P : ℕ → σ → Prop) (h0 : P 0 init) (hs : ∀ (k : Fin n) acc, P k.val acc → P (k.val + 1) (g k acc)) :
    P n (Scf.fold g init) := by
  rw [Scf.fold_eq]
  induction n with
  | zero => exact h0
  | succ n ih =>
    rw [List.finRange_succ_last, List.foldl_append, List.foldl_map]
    exact hs (Fin.last n) _ (ih (fun k acc => g k.castSucc acc) fun k acc h => hs k.castSucc acc h)

end Cert.NearMath

end
-- ==== Proof.Near.KnnRow.lean ====
/- The payloads of the neighbour search at an entry, over the extended reals, and what its counted loop keeps. -/
module

public import proofs.«01_k».proof.Proof.Gen.KnnIdeal.Skeleton
public import proofs.«01_k».proof.Proof.Near.KnnMath
public import Idealize.ShloMosaic.Lib.Pointwise

@[expose] public section

set_option maxRecDepth 16384

noncomputable section

namespace Cert.KnnIdeal.Near

open Cert.KnnIdeal Cert.KnnIdeal.Gen Idealize.ShloMosaic Idealize.ShloMosaic.TcCoe Idealize.SL.Sem Cert.Rank Cert.NearMath

/-- The columns' numbers. -/
theorem pay5_at (r : Fin 256) (c : Fin 2048) : k0_pay5 (F := Ideal) (ix2 r c) = num c.val := by
  pointwise [k0_pay5]
  exact word_num c.val (by omega)

/-- The places' numbers. -/
theorem pay7_at (j : Fin 10) : k0_pay7 (F := Ideal) (ix2 0 j) = num j.val := by
  pointwise [k0_pay7]
  exact word_num j.val (by omega)

theorem pay8_at (r : Fin 256) (j : Fin 10) : k0_pay8 (F := Ideal) (ix2 r j) = 0 := by
  pointwise [k0_pay8]

/-- The least number among the columns that reach the least distance. -/
theorem pay1_at (v d : FVec Ideal S256x2048 .f32) (r : Fin 256) :
    k0_pay1 (F := Ideal) v d (ix2 r 0) = Finset.univ.inf fun c => if d (ix2 r c) ≤ Finset.univ.inf (fun c => d (ix2 r c)) then v (ix2 r c) else num 2048 := by
  pointwise [k0_pay1]
  rw [inf_word, big_word]
  rfl

theorem pay2_at (v d : FVec Ideal S256x2048 .f32) (r : Fin 256) (c : Fin 2048) :
    k0_pay2 (F := Ideal) v d (ix2 r c) = if v (ix2 r c) = k0_pay1 v d (ix2 r 0) then BIG else d (ix2 r c) := by
  pointwise [k0_pay2]
  rfl

theorem pay3_at (v d : FVec Ideal S256x2048 .f32) (w : FVec Ideal S1x10 .f32) (k : Fin k0_t1_loop.trips) (acc : FVec Ideal S256x10 .f32) (r : Fin 256) (j : Fin 10) :
    k0_pay3 (F := Ideal) v w 0#32 k d acc (ix2 r j) = acc (ix2 r j) + if w (ix2 0 j) = (((Scf.iv 0#32 1#32 k.val).toInt : ℝ) : EReal) then k0_pay1 v d (ix2 r 0) else 0 := by
  pointwise [k0_pay3]

theorem pay4_at (v : FVec Ideal S256x10 .f32) (p : Fin 1) (r : Fin 256) (j : Fin 10) : k0_pay4 (F := Ideal) v (ix3 p r j) = FloatOps.fptosi 32 (v (ix2 r j)) := by
  pointwise [k0_pay4]

/-- The offset of a block of rows. -/
theorem off_val : ∀ q : Fin 8, (Scalar.muli (BitVec.ofNat 32 q.val) 256#32).toInt = ((q.val * 256 : ℕ) : ℤ) := by decide

/-- The distances of a block of points to all points of the batch, the point itself put out of reach. -/
theorem pay6_at (i : grid0.Coords) (q : Fin 8) (hq : (i 1).val = q.val) (x : FVec Ideal S1x256x3 .f32) (y0 y1 y2 : FVec Ideal S1x1x2048 .f32) (r : Fin 256) (c : Fin 2048) :
    k0_pay6 (F := Ideal) i x y0 y1 y2 (ix2 r c) = if c.val = q.val * 256 + r.val then BIG else
      dist (fun k => x (ix3 0 r k)) ![y0 (ix3 0 0 c), y1 (ix3 0 0 c), y2 (ix3 0 0 c)] := by
  pointwise [k0_pay6]
  rw [pay5_at, word_num r.val (by omega), hq, off_val]
  have e : ((((q.val * 256 : ℕ) : ℤ) : ℝ) : EReal) + num r.val = num (q.val * 256 + r.val) := by
    unfold num; rw [← EReal.coe_add]; push_cast; rfl
  rw [e]
  refine if_congr num_inj rfl ?_
  unfold Cert.NearMath.dist
  rw [Fin.sum_univ_three]
  rfl

/-- The loop makes ten trips. -/
theorem trips_eq : k0_t1_loop.trips = 10 := by decide

/-- The loop's induction word is the trip's number. -/
theorem iv_val : ∀ j : Fin 10, (Scf.iv 0#32 1#32 j.val).toInt = (j.val : ℤ) := by decide

section
variable {F : FTy → Type} [FloatOps F]

/-- One trip of the loop. -/
def step (v4 : FVec F S256x2048 .f32) (v39 : FVec F S1x10 .f32) (k : Fin k0_t1_loop.trips) (s : FVec F S256x2048 .f32 × FVec F S256x10 .f32) : FVec F S256x2048 .f32 × FVec F S256x10 .f32 :=
  (k0_pay2 v4 s.1, k0_pay3 v4 v39 0#32 k s.1 s.2)

theorem step_fst (v4 : FVec F S256x2048 .f32) (v39 : FVec F S1x10 .f32) (k : Fin k0_t1_loop.trips) (s : FVec F S256x2048 .f32 × FVec F S256x10 .f32) : (step v4 v39 k s).1 = k0_pay2 v4 s.1 := rfl

theorem step_snd (v4 : FVec F S256x2048 .f32) (v39 : FVec F S1x10 .f32) (k : Fin k0_t1_loop.trips) (s : FVec F S256x2048 .f32 × FVec F S256x10 .f32) : (step v4 v39 k s).2 = k0_pay3 v4 v39 0#32 k s.1 s.2 := rfl

/-- The block a grid point stores, of what it reads. -/
def blockN (i : grid0.Coords) (x : FVec F S1x256x3 .f32) (y0 y1 y2 : FVec F S1x1x2048 .f32) : IVec S1x256x10 32 :=
  k0_pay4 (Scf.fold (step (k0_pay5 (F := F)) (k0_pay7 (F := F))) (k0_pay6 i x y0 y1 y2, k0_pay8 (F := F))).2

end

/-- What holds after `k` trips: the nearest `k + 1` are out of reach, and the places before `k` hold the neighbours' numbers. -/
def Kept (D : Fin 256 → Fin 2048 → EReal) (k : ℕ) (s : FVec Ideal S256x2048 .f32 × FVec Ideal S256x10 .f32) : Prop :=
  (∀ r c, s.1 (ix2 r c) = masked (D r) BIG (k + 1) c) ∧ ∀ r (j : Fin 10), s.2 (ix2 r j) = if j.val < k then num (nth (D r) ⟨j.val + 1, by omega⟩).val else 0

/-- The column a trip takes is the next nearest. -/
theorem take_at (D : Fin 256 → Fin 2048 → EReal) (hB : ∀ r c, D r c < BIG) (d : FVec Ideal S256x2048 .f32) (k : ℕ) (hk : k < 10) (hd : ∀ r c, d (ix2 r c) = masked (D r) BIG (k + 1) c) (r : Fin 256) :
    k0_pay1 (F := Ideal) (k0_pay5 (F := Ideal)) d (ix2 r 0) = num (nth (D r) ⟨k + 1, by omega⟩).val := by
  rw [pay1_at]
  simp only [pay5_at, hd]
  exact pick (masked (D r) BIG (k + 1)) (fun c => num c.val) (num 2048) (fun a b h => num_le.mpr (le_of_lt h)) (fun c => num_le.mpr c.isLt.le) (nth (D r) ⟨k + 1, by omega⟩)
    fun c hc => masked_first (D r) BIG (hB r) ⟨k + 1, by omega⟩ c hc

/-- A trip keeps it. -/
theorem step_kept (D : Fin 256 → Fin 2048 → EReal) (hB : ∀ r c, D r c < BIG) (k : Fin k0_t1_loop.trips) (s : FVec Ideal S256x2048 .f32 × FVec Ideal S256x10 .f32) (h : Kept D k.val s) :
    Kept D (k.val + 1) (step (F := Ideal) (k0_pay5 (F := Ideal)) (k0_pay7 (F := Ideal)) k s) := by
  have hk : k.val < 10 := trips_eq ▸ k.isLt
  obtain ⟨hd, ha⟩ := h
  have ht := take_at D hB s.1 k.val hk hd
  refine ⟨fun r c => ?_, fun r j => ?_⟩
  · rw [step_fst, pay2_at, ht, pay5_at, hd]
    refine Eq.trans (if_congr ?_ rfl rfl) (masked_succ (D r) BIG ⟨k.val + 1, by omega⟩ c)
    rw [num_inj, Fin.ext_iff]
  · rw [step_snd, pay3_at, ht, pay7_at, ha, iv_val ⟨k.val, hk⟩]
    have e : ((((⟨k.val, hk⟩ : Fin 10).val : ℤ) : ℝ) : EReal) = num k.val := by unfold num; rw [Int.cast_natCast]
    rw [e]
    by_cases hj : j.val = k.val
    · have hz : j = ⟨k.val, hk⟩ := Fin.ext hj
      subst hz
      rw [if_neg (lt_irrefl _), if_pos rfl, if_pos (Nat.lt_succ_self _), zero_add]
    · rw [if_neg (fun h => hj (num_inj.mp h)), add_zero]
      exact if_congr (by omega) rfl rfl

/-- The block a grid point stores, at an entry: the neighbour's number, the distances being bounded and a point its own nearest. -/
theorem blockN_at (i : grid0.Coords) (q : Fin 8) (hq : (i 1).val = q.val) (x : FVec Ideal S1x256x3 .f32) (y0 y1 y2 : FVec Ideal S1x1x2048 .f32) (D : Fin 256 → Fin 2048 → EReal)
    (hD : ∀ r c, D r c = dist (fun k => x (ix3 0 r k)) ![y0 (ix3 0 0 c), y1 (ix3 0 0 c), y2 (ix3 0 0 c)]) (hB : ∀ r c, D r c < BIG) (h0 : ∀ r, (nth (D r) 0).val = q.val * 256 + r.val)
    (p : Fin 1) (r : Fin 256) (j : Fin 10) :
    blockN (F := Ideal) i x y0 y1 y2 (ix3 p r j) = BitVec.ofNat 32 (nth (D r) ⟨j.val + 1, by omega⟩).val := by
  have hi : Kept D 0 (k0_pay6 (F := Ideal) i x y0 y1 y2, k0_pay8 (F := Ideal)) := by
    refine ⟨fun r c => ?_, fun r j => (pay8_at r j).trans (if_neg (Nat.not_lt_zero _)).symm⟩
    refine (pay6_at i q hq x y0 y1 y2 r c).trans ?_
    refine Eq.trans (if_congr ?_ rfl ?_) (masked_succ (D r) BIG 0 c)
    · rw [Fin.ext_iff, h0]
    · rw [show ((0 : Fin 2048).val) = 0 from rfl, masked_zero, hD]
  have hf := fold_inv (step (F := Ideal) (k0_pay5 (F := Ideal)) (k0_pay7 (F := Ideal))) _ (Kept D) hi (step_kept D hB)
  unfold blockN
  rw [pay4_at, hf.2 r j, if_pos (lt_of_lt_of_eq j.isLt trips_eq.symm)]
  exact num_word _ (by omega)

end Cert.KnnIdeal.Near

end
-- ==== Proof.Near.KnnRef.lean ====
/- What the neighbour search's reference computes, entry by entry. -/
module

public import proofs.«01_k».proof.Proof.Gen.KnnReferenceIdeal.Run
public import proofs.«01_k».proof.Proof.Near.KnnMath
public import Idealize.ShloMosaic.Lib.Pointwise

@[expose] public section

set_option maxRecDepth 16384

noncomputable section

namespace Cert.KnnReferenceIdeal.Near

open Cert.KnnReferenceIdeal Cert.KnnReferenceIdeal.Gen Cert.KnnReferenceIdeal.Value Idealize.ShloMosaic Idealize.ShloMosaic.TcCoe Idealize.SL.Sem Idealize.ShloMosaic.StableHlo Cert.Rank Cert.NearMath

variable {F : FTy → Type} [FloatOps F]

/-- The differences of the points of a batch. -/
def rdiff (x0 : FVec F S4x2048x3 .f32) : FVec F S4x2048x2048x3 .f32 :=
  subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x0))

/-- The squared distances with their signs changed. -/
def rneg (x0 : FVec F S4x2048x3 .f32) : FVec F S4x2048x2048 .f32 :=
  Host.negf (Host.reduceAdd (mulf (rdiff x0) (rdiff x0)) (constant S_ .f32 0x00000000#32) reducesTo_S4x2048x2048x3_S4x2048x2048_d3 h_S_)

/-- The reference's result, of its arguments. -/
def rout (x0 : FVec F S4x2048x3 .f32) : IVec S4x2048x10 32 :=
  extractStridedSlice S4x2048x10 ![0, 0, 1] (Host.topK S4x2048x11 2 (FloatOps.cmpfTotal .gt) (rneg x0) sliceFits_S4x2048x2048_S4x2048x11).2 slices_S4x2048x11_S4x2048x10_0_0_1

theorem rneg_at (x0 : FVec Ideal S4x2048x3 .f32) (b : Fin 4) (n c : Fin 2048) : rneg x0 (ix3 b n c) = -dist (fun k => x0 (ix3 b n k)) (fun k => x0 (ix3 b c k)) := by
  pointwise [rneg, rdiff]
  rfl

theorem slice_at (v : IVec S4x2048x11 32) (b : Fin 4) (n : Fin 2048) (j : Fin 10) :
    extractStridedSlice S4x2048x10 ![0, 0, 1] v slices_S4x2048x11_S4x2048x10_0_0_1 (ix3 b n j) = v (ix3 b n ⟨j.val + 1, by omega⟩) := by
  pointwise
  exact congrArg (fun k => v (ix3 b n k)) (Fin.ext (Nat.add_comm 1 j.val))

/-- The reference's result at an entry: the number of the point that stands next in the order of the distances. -/
theorem rout_at (x0 : FVec Ideal S4x2048x3 .f32) (b : Fin 4) (n : Fin 2048) (j : Fin 10) :
    rout x0 (ix3 b n j) = BitVec.ofNat 32 (nth (fun c : Fin 2048 => dist (fun k => x0 (ix3 b n k)) (fun k => x0 (ix3 b c k))) ⟨j.val + 1, by omega⟩).val := by
  unfold rout
  rw [slice_at (Host.topK S4x2048x11 2 (FloatOps.cmpfTotal .gt) (rneg x0) sliceFits_S4x2048x2048_S4x2048x11).2 b n j]
  have h := topK_at (n := 2048) (n0 := 4) (n1 := 2048) (k := 11) (rneg x0) sliceFits_S4x2048x2048_S4x2048x11 b n ⟨j.val + 1, by omega⟩ ⟨j.val + 1, by omega⟩ rfl
    (fun c : Fin 2048 => dist (fun k => x0 (ix3 b n k)) (fun k => x0 (ix3 b c k))) (fun c => rneg_at x0 b n c)
  exact h

end Cert.KnnReferenceIdeal.Near

end
-- ==== Proof.Near.KnnPre.lean ====
/- What the precondition says: every squared distance is below the bound, and that of two different points is above nought. -/
module

public import proofs.«01_k».proof.Pre_apart_and_near
public import proofs.«01_k».proof.Proof.Lbp.Pre
public import proofs.«01_k».proof.Proof.Near.KnnMath
public import Idealize.ShloMosaic.Lib.ReduceAll
public import Idealize.ShloMosaic.Lib.Pointwise

@[expose] public section

set_option maxRecDepth 16384

noncomputable section

namespace Cert.KnnPre

open Cert.LbpPre (both holds)
open Idealize.ShloMosaic Cert.Pre_apart_and_near Cert.NearMath Cert.Rank

/-- The shape relations of the precondition's operations. -/
instance facts : Cert.Pre_apart_and_near.Facts where
  bcast_S4x2048x3_S4x2048x1x3_0_1_3 := by decide
  bcast_S4x2048x3_S4x1x2048x3_0_2_3 := by decide
  bcast_S4x2048x1x3_S4x2048x2048x3_0_1_2_3 := by decide
  bcast_S4x1x2048x3_S4x2048x2048x3_0_1_2_3 := by decide
  reducesTo_S4x2048x2048x3_S4x2048x2048_d3 := by decide
  h_S_ := by decide
  bcast_S2048_S2048x1_0 := by decide
  bcast_S2048_S1x2048_1 := by decide
  bcast_S2048x1_S2048x2048_0_1 := by decide
  bcast_S1x2048_S2048x2048_0_1 := by decide
  bcast_S_S4x2048x2048 := by decide
  reducesTo_S4x2048x2048_S_d0_1_2 := by decide
  bcast_S2048x2048_S1x2048x2048_1_2 := by decide
  bcast_S1x2048x2048_S4x2048x2048_0_1_2 := by decide

open Facts

/-- The squared distances of the points of a batch, as the precondition takes them. -/
def pd (x0 : FVec Ideal S4x2048x3 .f32) : FVec Ideal S4x2048x2048 .f32 :=
  Host.reduceAdd (mulf
    (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x0)))
    (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x0))))
    (constant S_ .f32 0x00000000#32) reducesTo_S4x2048x2048x3_S4x2048x2048_d3 h_S_

theorem pd_at (x0 : FVec Ideal S4x2048x3 .f32) (b : Fin 4) (n c : Fin 2048) : pd x0 (ix3 b n c) = dist (fun k => x0 (ix3 b n k)) (fun k => x0 (ix3 b c k)) := by
  pointwise [pd]
  rfl

/-- Which pairs of points are the same point. -/
def same : IVec S4x2048x2048 1 :=
  broadcastInDim S4x2048x2048 ![0, 1, 2] bcast_S1x2048x2048_S4x2048x2048_0_1_2 (broadcastInDim S1x2048x2048 ![1, 2] bcast_S2048x2048_S1x2048x2048_1_2
    (cmpi .eq (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))

theorem same_at (b : Fin 4) (n c : Fin 2048) (h : n ≠ c) : same (ix3 b n c) = 0#1 := by
  pointwise [same]
  show BitVec.ofBool (BitVec.ofNat 32 n.val == BitVec.ofNat 32 c.val) = 0#1
  have hne : BitVec.ofNat 32 n.val ≠ BitVec.ofNat 32 c.val := fun e => h (Fin.ext (by
    have := congrArg BitVec.toNat e
    rw [BitVec.toNat_ofNat, BitVec.toNat_ofNat] at this
    omega))
  rw [beq_eq_false_iff_ne.mpr hne]
  rfl

/-- A disjunction of bits whose second is not set. -/
theorem either : ∀ a b : BitVec 1, b = 0#1 → IntOp.ori a b = 1#1 → a = 1#1 := by decide

/-- The distances are bounded, and above nought between different points, wherever the precondition's bit is set. -/
theorem all (x0 : FVec Ideal S4x2048x3 .f32) (h : fn (F := Ideal) x0 = fun _ => 1#1) (b : Fin 4) (n c : Fin 2048) :
    dist (fun k => x0 (ix3 b n k)) (fun k => x0 (ix3 b c k)) < BIG ∧ (n ≠ c → 0 < dist (fun k => x0 (ix3 b n k)) (fun k => x0 (ix3 b c k))) := by
  have hs : Subsingleton S_.Idx := ⟨fun a b => funext fun q => q.elim0⟩
  obtain ⟨hd, hi⟩ := both _ _ (congrFun h (fun q => q.elim0))
  rw [← pd_at]
  refine ⟨?_, fun hn => ?_⟩
  · have e := Host.reduce_andi_all _ _ _ _ _ hd (ix3 b n c)
    have e' : BitVec.ofBool (decide (pd x0 (ix3 b n c) < Ideal.ofBits FTy.f32 0x7149F2CA#32)) = 1#1 := e
    exact holds _ e'
  · have e := Host.reduce_andi_all _ _ _ _ _ hi (ix3 b n c)
    have e2 := either _ _ (same_at b n c hn) e
    have e' : BitVec.ofBool (decide (Ideal.ofBits FTy.f32 0x00000000#32 < pd x0 (ix3 b n c))) = 1#1 := e2
    have e3 := holds _ e'
    rwa [show Ideal.ofBits FTy.f32 0x00000000#32 = 0 by simp [Ideal.ofBits, Ideal.ieee]] at e3

end Cert.KnnPre

end
-- ==== Proof.Near.KnnFinal.lean ====
/- The neighbour search's result array is the reference's term of the arguments. -/
module

public import proofs.«01_k».proof.Proof.Gen.KnnIdeal.Frame
public import proofs.«01_k».proof.Proof.Near.KnnRow
public import proofs.«01_k».proof.Proof.Near.KnnRef
public import proofs.«01_k».proof.Proof.Near.KnnPre
public import Idealize.ShloMosaic.Lib.Pipeline.ValueKit
public import Idealize.ShloMosaic.Lib.WholeRead
public import Idealize.ShloMosaic.Lib.StableHlo.Run

@[expose] public section

set_option maxRecDepth 16384

noncomputable section

namespace Cert.KnnIdeal.Near

open Cert.KnnIdeal Cert.KnnIdeal.Gen Idealize.ShloMosaic Idealize.ShloMosaic.TcCoe Idealize.SL.Sem Cert.Rank Cert.NearMath

/-- A load through a whole memref reads its contents at the place of the rectangle. -/
theorem rd {Val : EltTy → Type} {s : Shape} {e : EltTy} {mr : Memref sig .tc .vmem s e} (h : mr.IsWhole) (X : s.Idx → Val e) (off size : Fin s.rank → ℕ) (inb) (x : (Rect.unit off size inb).shape.Idx)
    (i : s.Idx) (hi : ∀ a, (i a : ℕ) = off a + x a) : View.readAt Val mr.view (Rect.unit off size inb).toLoadRect (h.unread X) x = X i :=
  (h.readAt_unread X _ x).trans (congrArg X (funext fun a => Fin.ext ((Rect.idx_unit_val off size inb x a).trans (hi a).symm)))

/-- A grid point's batch. -/
def bb (t : Fin 32) : Fin 4 := ⟨t.val / 8, by omega⟩
/-- A grid point's block of rows. -/
def qq (t : Fin 32) : Fin 8 := ⟨t.val % 8, by omega⟩
/-- A block's row among all rows of its batch. -/
def row (q : Fin 8) (r : Fin 256) : Fin 2048 := ⟨q.val * 256 + r.val, by omega⟩

/-- The second coordinate of a grid point. -/
theorem coord : ∀ t : Fin cfg0.N, ((grid0.coords t) 1).val = t.val % 8 := (by decide +kernel : ∀ t : Fin grid0.N, _)

section
variable (t : Fin cfg0.N) (arg2 : Memref sig .tc .vmem S1x256x3 .f32) (harg2 : arg2.IsWhole) (arg3 : Memref sig .tc .vmem S1x3x2048 .f32) (harg3 : arg3.IsWhole)
  (x0 : FVec Ideal S1x256x3 .f32) (x1 : FVec Ideal S1x3x2048 .f32)

/-- The block a grid point stores, at an entry. -/
theorem block_at (D : Fin 256 → Fin 2048 → EReal) (hD : ∀ r c, D r c = dist (fun k => x0 (ix3 0 r k)) (fun k => x1 (ix3 0 k c)))
    (hB : ∀ r c, D r c < BIG) (h0 : ∀ r, (nth (D r) 0).val = t.val % 8 * 256 + r.val) (y : S1x256x10.Idx) :
    View.canon (Val := Elt Ideal) (s := S1x256x10) (e := .i32) [⟨Rect.unit ![0, 0, 0] ![1, 256, 10] inb_S1x256x10_S1x256x10_0_0_0, blockN (F := Ideal) (grid0.coords t)
      (View.readAt (Elt Ideal) arg2.view (Rect.unit (s := S1x256x3) ![0, 0, 0] S1x256x3.size inb_S1x256x3_S1x256x3_0_0_0).toLoadRect (harg2.unread x0))
      (View.readAt (Elt Ideal) arg3.view (Rect.unit (s := S1x3x2048) ![0, 0, 0] S1x1x2048.size inb_S1x3x2048_S1x1x2048_0_0_0).toLoadRect (harg3.unread x1))
      (View.readAt (Elt Ideal) arg3.view (Rect.unit (s := S1x3x2048) ![0, 1, 0] S1x1x2048.size inb_S1x3x2048_S1x1x2048_0_1_0).toLoadRect (harg3.unread x1))
      (View.readAt (Elt Ideal) arg3.view (Rect.unit (s := S1x3x2048) ![0, 2, 0] S1x1x2048.size inb_S1x3x2048_S1x1x2048_0_2_0).toLoadRect (harg3.unread x1))⟩] y
      = BitVec.ofNat 32 (nth (D ⟨(y 1).val, (y 1).isLt⟩) ⟨(y 2).val + 1, Nat.lt_of_lt_of_le (Nat.succ_lt_succ (y 2).isLt) (by decide)⟩).val := by
  obtain ⟨p, r, o, rfl⟩ : ∃ (p : Fin 1) (r : Fin 256) (o : Fin 10), y = ix3 p r o := ⟨⟨(y 0).val, (y 0).isLt⟩, ⟨(y 1).val, (y 1).isLt⟩, ⟨(y 2).val, (y 2).isLt⟩, by funext q; fin_cases q <;> rfl⟩
  have hy : (Rect.unit (s := S1x256x10) ![0, 0, 0] ![1, 256, 10] inb_S1x256x10_S1x256x10_0_0_0).emb (ix3 p r o) = ix3 p r o := by
    funext a; refine Fin.ext ((Rect.idx_unit_val _ _ _ _ a).trans ?_); fin_cases a <;> exact Nat.zero_add _
  have e2 : ∀ (r : Fin 256) (k : Fin 3), (View.readAt (Elt Ideal) arg2.view (Rect.unit (s := S1x256x3) ![0, 0, 0] S1x256x3.size inb_S1x256x3_S1x256x3_0_0_0).toLoadRect (harg2.unread x0) : FVec Ideal S1x256x3 .f32) (ix3 0 r k) = x0 (ix3 0 r k) := by
    intro r k; refine rd (Val := Elt Ideal) harg2 x0 _ _ _ _ _ fun a => ?_
    fin_cases a <;> exact (Nat.zero_add _).symm
  have f0 : ∀ (c : Fin 2048), (View.readAt (Elt Ideal) arg3.view (Rect.unit (s := S1x3x2048) ![0, 0, 0] S1x1x2048.size inb_S1x3x2048_S1x1x2048_0_0_0).toLoadRect (harg3.unread x1) : FVec Ideal S1x1x2048 .f32) (ix3 0 0 c) = x1 (ix3 0 0 c) := by
    intro c; refine rd (Val := Elt Ideal) harg3 x1 _ _ _ _ _ fun a => ?_
    fin_cases a <;> first | exact (Nat.zero_add _).symm | rfl
  have f1 : ∀ (c : Fin 2048), (View.readAt (Elt Ideal) arg3.view (Rect.unit (s := S1x3x2048) ![0, 1, 0] S1x1x2048.size inb_S1x3x2048_S1x1x2048_0_1_0).toLoadRect (harg3.unread x1) : FVec Ideal S1x1x2048 .f32) (ix3 0 0 c) = x1 (ix3 0 1 c) := by
    intro c; refine rd (Val := Elt Ideal) harg3 x1 _ _ _ _ _ fun a => ?_
    fin_cases a <;> first | exact (Nat.zero_add _).symm | rfl
  have f2 : ∀ (c : Fin 2048), (View.readAt (Elt Ideal) arg3.view (Rect.unit (s := S1x3x2048) ![0, 2, 0] S1x1x2048.size inb_S1x3x2048_S1x1x2048_0_2_0).toLoadRect (harg3.unread x1) : FVec Ideal S1x1x2048 .f32) (ix3 0 0 c) = x1 (ix3 0 2 c) := by
    intro c; refine rd (Val := Elt Ideal) harg3 x1 _ _ _ _ _ fun a => ?_
    fin_cases a <;> first | exact (Nat.zero_add _).symm | rfl
  refine Eq.trans (congrArg _ hy.symm) ((View.canon_cons_emb _ _ _ _).trans ?_)
  refine blockN_at (grid0.coords t) ⟨t.val % 8, by omega⟩ (coord t) _ _ _ _ D (fun r c => ?_) hB h0 p r o
  rw [hD, f0, f1, f2]
  refine congrArg₂ dist (funext fun k => (e2 r k).symm) (funext fun k => ?_)
  fin_cases k <;> rfl

end

variable (m : (ℓ : Loc nD τ sig) → Buf (Elt Ideal) ℓ)

/-- What the run leaves at a grid point, at an entry. -/
theorem outs (c : Dev nD) (t : Fin cfg0.N) (D : Fin 256 → Fin 2048 → EReal)
    (hD : ∀ r e, D r e = dist (fun k => (iblk m c 0 t : FVec Ideal S1x256x3 .f32) (ix3 0 r k)) (fun k => (iblk m c 1 t : FVec Ideal S1x3x2048 .f32) (ix3 0 k e)))
    (hB : ∀ r e, D r e < BIG) (h0 : ∀ r, (nth (D r) 0).val = t.val % 8 * 256 + r.val) (y : S1x256x10.Idx) :
    outsAt0 m c t y = BitVec.ofNat 32 (nth (D ⟨(y 1).val, (y 1).isLt⟩) ⟨(y 2).val + 1, Nat.lt_of_lt_of_le (Nat.succ_lt_succ (y 2).isLt) (by decide)⟩).val := by
  unfold outsAt0 out0_A_2
  rw [View.read_writes_junk_eq_canon]
  exact block_at t (ms0_0 t) (hs0_0 t) (ms0_1 t) (hs0_1 t) _ _ D hD hB h0 y

/-- The blocks of the grid points. -/
theorem idx0 : ∀ t : Fin cfg0.N, win0_0.index t = ![t.val / 8, t.val % 8, 0] ∧ win0_1.index t = ![t.val / 8, 0, 0] ∧ win0_2.index t = ![t.val / 8, t.val % 8, 0] := (by decide +kernel : ∀ t : Fin grid0.N, _)

/-- The transposed points, as the search finds them. -/
theorem V_main_v0 (c : Dev nD) : (V m c main_v0 : FVec Ideal S4x3x2048 .f32) = transpose S4x3x2048 [0, 2, 1] (m ((c.tc : Thread nD τ).loc main_arg0) : FVec Ideal S4x2048x3 .f32) transposes_S4x2048x3_S4x3x2048_0_2_1 := by
  show StableHlo.after hostOps0 (fun b => m (c, b)) main_v0 = _
  after_results

theorem transpose_at (X : FVec Ideal S4x2048x3 .f32) (b : Fin 4) (k : Fin 3) (e : Fin 2048) :
    (transpose S4x3x2048 [0, 2, 1] X transposes_S4x2048x3_S4x3x2048_0_2_1 : FVec Ideal S4x3x2048 .f32) (ix3 b k e) = X (ix3 b e k) := by
  pointwise

/-- The distances of a point of a batch. -/
def DD (X : FVec Ideal S4x2048x3 .f32) (b : Fin 4) (n : Fin 2048) : Fin 2048 → EReal := fun e => dist (fun k => X (ix3 b n k)) (fun k => X (ix3 b e k))

/-- The neighbours' numbers, of the points. -/
def OUT (X : FVec Ideal S4x2048x3 .f32) : IVec S4x2048x10 32 := fun i =>
  BitVec.ofNat 32 (nth (DD X ⟨(i 0).val, (i 0).isLt⟩ ⟨(i 1).val, (i 1).isLt⟩) ⟨(i 2).val + 1, Nat.lt_of_lt_of_le (Nat.succ_lt_succ (i 2).isLt) (by decide)⟩).val

theorem OUT_at (X : FVec Ideal S4x2048x3 .f32) (b : Fin 4) (n : Fin 2048) (j : Fin 10) : OUT X (ix3 b n j) = BitVec.ofNat 32 (nth (DD X b n) ⟨j.val + 1, by omega⟩).val := rfl

set_option maxHeartbeats 1600000 in
/-- The result array, when the distances are bounded and every point is its own nearest. -/
theorem final (c : Dev nD) (X : FVec Ideal S4x2048x3 .f32) (a0 : V m c main_arg0 = X) (a1 : V m c main_v0 = transpose S4x3x2048 [0, 2, 1] X transposes_S4x2048x3_S4x3x2048_0_2_1)
    (hB : ∀ b n e, DD X b n e < BIG) (h0 : ∀ b n, nth (DD X b n) 0 = n) : (dats m 0 c).arrAt 2 cfg0.N = OUT X := by
  refine (dats m 0 c).arrAt_eq_of_covers 2 _ (by decide +kernel) fun t hf y => ?_
  have e0 : ∀ r k, (iblk m c 0 t : FVec Ideal S1x256x3 .f32) (ix3 0 r k) = X (ix3 (bb t) (row (qq t) r) k) := fun r k => by rw [← a0]; blk_ext [iblk, idx0 t, bb, qq, row]
  have e1 : ∀ k e, (iblk m c 1 t : FVec Ideal S1x3x2048 .f32) (ix3 0 k e) = X (ix3 (bb t) e k) := fun k e => by
    rw [← transpose_at X (bb t) k e, ← a1]; blk_ext [iblk, idx0 t, bb]
  blk_simp
  rw [after0_2]
  refine (outs m c t (fun r => DD X (bb t) (row (qq t) r)) (fun r e => ?_) (fun r e => hB _ _ _) (fun r => ?_) y).trans ?_
  · unfold DD
    exact congrArg₂ dist (funext fun k => (e0 r k).symm) (funext fun k => (e1 k e).symm)
  · rw [h0]; rfl
  · refine (OUT_at X (bb t) (row (qq t) ⟨(y 1).val, (y 1).isLt⟩) ⟨(y 2).val, (y 2).isLt⟩).symm.trans (congrArg (OUT X) ?_)
    blk_ext [idx0 t, bb, qq, row]

/-- The two writings of the neighbours agree. -/
theorem out_eq (X : FVec Ideal S4x2048x3 .f32) : OUT X = Cert.KnnReferenceIdeal.Near.rout (F := Ideal) X := by
  funext i
  obtain ⟨b, n, k, rfl⟩ : ∃ (b : Fin 4) (n : Fin 2048) (k : Fin 10), i = ix3 b n k := ⟨⟨(i 0).val, (i 0).isLt⟩, ⟨(i 1).val, (i 1).isLt⟩, ⟨(i 2).val, (i 2).isLt⟩, by funext q; fin_cases q <;> rfl⟩
  exact (Cert.KnnReferenceIdeal.Near.rout_at X b n k).symm

/-- The kernel's result array is the reference's result, under the precondition. -/
theorem result (c : Dev nD) (h : Cert.Pre_apart_and_near.fn (F := Ideal) (m ((c.tc : Thread nD τ).loc main_arg0)) = fun _ => 1#1) :
    (dats m 0 c).arrAt 2 cfg0.N = Cert.KnnReferenceIdeal.Near.rout (F := Ideal) (m ((c.tc : Thread nD τ).loc main_arg0)) := by
  have ha := Cert.KnnPre.all _ h
  refine (final m c (m ((c.tc : Thread nD τ).loc main_arg0)) (V_main_arg0 m c) (V_main_v0 m c) (fun b n e => (ha b n e).1) (fun b n => ?_)).trans (out_eq _)
  refine nth_zero _ 0 n rfl fun e he => ?_
  have hz : DD (m ((c.tc : Thread nD τ).loc main_arg0)) b n n = 0 := self_dist _ (ha b n n).1
  rw [hz]
  exact (ha b n e).2 (Ne.symm he)

end Cert.KnnIdeal.Near

end
-- ==== Proof.Near.CandIdealBody.lean ====
/- The candidates' launch: the body's run, what it leaves in the two results' blocks, and the frame. The loop over the
   candidates touches no memory, so it is a fold of its trip's function over what the loop carries. -/
module

public import proofs.«01_k».proof.Proof.Gen.CandIdeal.Frame
public import proofs.«01_k».proof.Proof.Gen.CandIdeal.Skeleton
public import Idealize.ShloMosaic.Lib.Claim

@[expose] public section

set_option maxRecDepth 16384

noncomputable section

namespace Cert.CandIdeal.Near

open Cert.CandIdeal Cert.CandIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What the loop carries: the distances not yet taken, the three coordinates' displacements and the data costs. -/
abbrev Carry (F : FTy → Type) : Type := FVec F S256x2048 .f32 × FVec F S256x64 .f32 × FVec F S256x64 .f32 × FVec F S256x64 .f32 × FVec F S256x64 .f32

/-- One trip of the loop. -/
def step (v1 : FVec F S256x3 .f32) (v3 : FVec F S256x2048 .f32) (v47 : FVec F S256x2048 .f32) (v51 : FVec F S2048x3 .f32) (k : Fin k0_t1_loop.trips) (s : Carry F) : Carry F :=
  (k0_pay13 v3 s.1, k0_pay17 v1 v3 (k0_pay2 (F := F)) v51 0#32 1#32 k s.1 s.2.1, k0_pay18 v1 v3 (k0_pay2 (F := F)) v51 0#32 1#32 k s.1 s.2.2.1,
    k0_pay5 s.2.2.2.1 (k0_pay19 v1 v3 (k0_pay2 (F := F)) v51 0#32 1#32 k s.1), k0_pay6 s.2.2.2.2 (k0_pay14 v3 v47 s.1) (k0_pay15 (k0_pay2 (F := F)) 0#32 1#32 k))

/-- The loop's region computes a trip and issues nothing. -/
theorem body_eq (i : grid0.Coords) (arg2 : Memref sig .tc .vmem S1x256x3 .f32) (harg2 : arg2.IsWhole) (arg3 : Memref sig .tc .vmem S1x2048x3 .f32) (harg3 : arg3.IsWhole) (arg4 : Memref sig .tc .vmem S1x3x2048 .f32) (harg4 : arg4.IsWhole) (arg5 : Memref sig .tc .vmem S1x256x64 .f32) (harg5 : arg5.IsWhole) (arg6 : Memref sig .tc .vmem S1x64x2048 .f32) (harg6 : arg6.IsWhole) (arg7 : Memref sig .tc .vmem S1x256x192 .f32) (harg7 : arg7.IsWhole) (arg8 : Memref sig .tc .vmem S1x256x64 .f32) (harg8 : arg8.IsWhole)
    (v1 : FVec F S256x3 .f32) (v3 : FVec F S256x2048 .f32) (v32 : FVec F S64x2048 .f32) (v33 : FVec F S256x2048 .f32) (v36 : FVec F S256x1 .f32) (v50 : Vec F S1x2048x3 .f32) :
    k0_t1_body (F := F) i arg2 harg2 arg3 harg3 arg4 harg4 arg5 harg5 arg6 harg6 arg7 harg7 arg8 harg8 v1 v3 v32 v33 v36 v50
      = fun k s => pure (step v1 v3 (k0_pay1 v32 v33 v36) (k0_pay3 v50) k s) := by
  funext k s
  unfold k0_t1_body
  rw [k0_part1_eq_skeleton]
  rfl

set_option maxHeartbeats 2000000 in
/-- What the body's stores leave in each result's staging memory, with the proof that the body, run on whole staging
    memory, leaves the inputs as they were and the results with those pieces written. -/
noncomputable def bodyRun (c : Dev nD) (i : grid0.Coords) (arg2 : Memref sig .tc .vmem S1x256x3 .f32) (harg2 : arg2.IsWhole) (arg3 : Memref sig .tc .vmem S1x2048x3 .f32) (harg3 : arg3.IsWhole) (arg4 : Memref sig .tc .vmem S1x3x2048 .f32) (harg4 : arg4.IsWhole) (arg5 : Memref sig .tc .vmem S1x256x64 .f32) (harg5 : arg5.IsWhole) (arg6 : Memref sig .tc .vmem S1x64x2048 .f32) (harg6 : arg6.IsWhole) (arg7 : Memref sig .tc .vmem S1x256x192 .f32) (harg7 : arg7.IsWhole) (arg8 : Memref sig .tc .vmem S1x256x64 .f32) (harg8 : arg8.IsWhole)
    (x0 : Vec F S1x256x3 .f32) (x1 : Vec F S1x2048x3 .f32) (x2 : Vec F S1x3x2048 .f32) (x3 : Vec F S1x256x64 .f32) (x4 : Vec F S1x64x2048 .f32) :
    Σ' L5 : List (View.Piece (Elt F) S1x256x192 .f32), { L6 : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f L6)) -∗ K ⟨⟩))
          ⊢ wp frame (wpE (defs₀ (F := F)) Variants.none c none) E (cc0__cand_body i arg2 harg2 arg3 harg3 arg4 harg4 arg5 harg5 arg6 harg6 arg7 harg7 arg8 harg8) K } := by
  refine ⟨?_, ?_, fun E K => ?run⟩
  case run =>
    simp only [cc0__cand_body_eq_skeleton]; unfold cc0__cand_body_skel
    simp only [k0_part2_eq_skeleton, body_eq]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; iexact H6

/-- The stores cover the displacements' block. -/
theorem cover5 (c : Dev nD) (i : grid0.Coords) (arg2 : Memref sig .tc .vmem S1x256x3 .f32) (harg2 : arg2.IsWhole) (arg3 : Memref sig .tc .vmem S1x2048x3 .f32) (harg3 : arg3.IsWhole) (arg4 : Memref sig .tc .vmem S1x3x2048 .f32) (harg4 : arg4.IsWhole) (arg5 : Memref sig .tc .vmem S1x256x64 .f32) (harg5 : arg5.IsWhole) (arg6 : Memref sig .tc .vmem S1x64x2048 .f32) (harg6 : arg6.IsWhole) (arg7 : Memref sig .tc .vmem S1x256x192 .f32) (harg7 : arg7.IsWhole) (arg8 : Memref sig .tc .vmem S1x256x64 .f32) (harg8 : arg8.IsWhole) (x0 : Vec F S1x256x3 .f32) (x1 : Vec F S1x2048x3 .f32) (x2 : Vec F S1x3x2048 .f32) (x3 : Vec F S1x256x64 .f32) (x4 : Vec F S1x64x2048 .f32) (y : S1x256x192.Idx) :
    ∃ pc ∈ (bodyRun c i arg2 harg2 arg3 harg3 arg4 harg4 arg5 harg5 arg6 harg6 arg7 harg7 arg8 harg8 x0 x1 x2 x3 x4).1, y ∈ pc.1.set :=
  View.cover_of_tiledL (bodyRun c i arg2 harg2 arg3 harg3 arg4 harg4 arg5 harg5 arg6 harg6 arg7 harg7 arg8 harg8 x0 x1 x2 x3 x4).1 S1x256x64.size (by sl_kernel_rfl) y

/-- The store covers the data costs' block. -/
theorem cover6 (c : Dev nD) (i : grid0.Coords) (arg2 : Memref sig .tc .vmem S1x256x3 .f32) (harg2 : arg2.IsWhole) (arg3 : Memref sig .tc .vmem S1x2048x3 .f32) (harg3 : arg3.IsWhole) (arg4 : Memref sig .tc .vmem S1x3x2048 .f32) (harg4 : arg4.IsWhole) (arg5 : Memref sig .tc .vmem S1x256x64 .f32) (harg5 : arg5.IsWhole) (arg6 : Memref sig .tc .vmem S1x64x2048 .f32) (harg6 : arg6.IsWhole) (arg7 : Memref sig .tc .vmem S1x256x192 .f32) (harg7 : arg7.IsWhole) (arg8 : Memref sig .tc .vmem S1x256x64 .f32) (harg8 : arg8.IsWhole) (x0 : Vec F S1x256x3 .f32) (x1 : Vec F S1x2048x3 .f32) (x2 : Vec F S1x3x2048 .f32) (x3 : Vec F S1x256x64 .f32) (x4 : Vec F S1x64x2048 .f32) (y : S1x256x64.Idx) :
    ∃ pc ∈ (bodyRun c i arg2 harg2 arg3 harg3 arg4 harg4 arg5 harg5 arg6 harg6 arg7 harg7 arg8 harg8 x0 x1 x2 x3 x4).2.1, y ∈ pc.1.set :=
  View.cover_of_tiledL (bodyRun c i arg2 harg2 arg3 harg3 arg4 harg4 arg5 harg5 arg6 harg6 arg7 harg7 arg8 harg8 x0 x1 x2 x3 x4).2.1 S1x256x64.size (by sl_kernel_rfl) y

variable (m : (ℓ : Loc nD τ sig) → Buf (Elt F) ℓ) (ρ : Dev nD → PrngReg)

/-- A staging view of each result, through which its contents are stated. -/
abbrev view5 : View sig .tc .vmem S1x256x192 .f32 := (Memref.whole cc0_stg5_0 : Memref sig .tc .vmem S1x256x192 .f32).view
abbrev view6 : View sig .tc .vmem S1x256x64 .f32 := (Memref.whole cc0_stg6_0 : Memref sig .tc .vmem S1x256x64 .f32).view

abbrev ms0 (t : Fin cfg0.N) : Memref sig .tc .vmem S1x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x64 .f32 := win0_6.stage (cfg0.slots t 6)
abbrev hs6 (t : Fin cfg0.N) : (ms6 t).IsWhole := hstage0_6 ((cfg0.slots t 6).cast nbuf0_6)

/-- What the displacements' staging buffer holds after a grid point. -/
def out5 (c : Dev nD) (t : Fin cfg0.N) : Vec F S1x256x192 .f32 :=
  view5.read (Elt F) (view5.writes (Elt F) view5.junk (bodyRun c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (iblk m c 4 t)).1)

/-- What the data costs' staging buffer holds after a grid point. -/
def out6 (c : Dev nD) (t : Fin cfg0.N) : Vec F S1x256x64 .f32 :=
  view6.read (Elt F) (view6.writes (Elt F) view6.junk (bodyRun c (grid0.coords t) (ms0 t) (hs0 t) (ms1 t) (hs1 t) (ms2 t) (hs2 t) (ms3 t) (hs3 t) (ms4 t) (hs4 t) (ms5 t) (hs5 t) (ms6 t) (hs6 t) (iblk m c 0 t) (iblk m c 1 t) (iblk m c 2 t) (iblk m c 3 t) (iblk m c 4 t)).2.1)

/-- The launch's proof data: the arrays as the launch finds them, the inputs' blocks in place, the results' as left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c t := by dsimp only [dats]
theorem after6 (c : Dev nD) (t : Fin cfg0.N) : (dats m 0 c).after 6 t = out6 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6]
  unfold out5 out6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _ _ _ _ _ _ _ _ _ _)
  unfold owns; iexists _; isplitr
  swap; · iexact H6
  ipureintro; exact View.read_writes_of_cover _ _ _ _ _ (cover6 c _ _ _ _ _ _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch's run: the arrays end as the proof data say, and every counter at zero. -/
theorem run_zero : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_zero m ρ)

/-- The frame: the launch runs to its end, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_zero m ρ))

end Cert.CandIdeal.Near

end
-- ==== Proof.Near.CandMath.lean ====
/- The data cost of a candidate: the squared distance of two features, as it stands and as the kernel expands it. -/
module

public import proofs.«01_k».proof.Proof.Near.KnnMath

@[expose] public section

noncomputable section

namespace Cert.NearMath

open Idealize.ShloMosaic

/-- The squared distance of two features. -/
def feat (e t : Fin 64 → EReal) : EReal := ∑ k, (e k - t k) * (e k - t k)

/-- The data cost: fifty times the squared distance, over sixty-four. -/
def cost (e t : Fin 64 → EReal) : EReal := Ideal.div (Ideal.ofBits FTy.f32 0x42480000#32 * feat e t) (Ideal.ofBits FTy.f32 0x42800000#32)

/-- The data cost with the square expanded. -/
def costK (e t : Fin 64 → EReal) : EReal :=
  Ideal.ofBits FTy.f32 0x3F480000#32 * ((∑ k, e k * e k) + ((∑ k, t k * t k) - Ideal.ofBits FTy.f32 0x40000000#32 * ∑ k, e k * t k))

theorem w50 : Ideal.ofBits FTy.f32 0x42480000#32 = ((50 : ℝ) : EReal) := by
  simp [Ideal.ofBits, Ideal.ieee, -EReal.coe_mul]; norm_num

theorem w64 : Ideal.ofBits FTy.f32 0x42800000#32 = ((64 : ℝ) : EReal) := by
  simp [Ideal.ofBits, Ideal.ieee, -EReal.coe_mul]; norm_num

theorem w2 : Ideal.ofBits FTy.f32 0x40000000#32 = ((2 : ℝ) : EReal) := by
  simp [Ideal.ofBits, Ideal.ieee, -EReal.coe_mul]; norm_num

theorem wK : Ideal.ofBits FTy.f32 0x3F480000#32 = ((25 / 32 : ℝ) : EReal) := by
  simp [Ideal.ofBits, Ideal.ieee, -EReal.coe_mul]; norm_num

/-- The two writings agree where the features are real. -/
theorem costK_eq (e t : Fin 64 → EReal) (he : ∀ k, ∃ r : ℝ, e k = (r : EReal)) (ht : ∀ k, ∃ r : ℝ, t k = (r : EReal)) : costK e t = cost e t := by
  choose u hu using he
  choose v hv using ht
  have cs : ∀ f : Fin 64 → ℝ, (∑ k, ((f k : ℝ) : EReal)) = ((∑ k, f k : ℝ) : EReal) := fun f =>
    (map_sum (⟨⟨fun x : ℝ => (x : EReal), EReal.coe_zero⟩, EReal.coe_add⟩ : ℝ →+ EReal) f Finset.univ).symm
  unfold costK cost feat
  simp only [hu, hv, w50, w64, w2, wK, ← EReal.coe_mul, ← EReal.coe_sub, cs, ← EReal.coe_add]
  have e1 : (∑ k, (u k - v k) * (u k - v k)) = (∑ k, u k * u k) + ((∑ k, v k * v k) - 2 * ∑ k, u k * v k) := by
    rw [Finset.mul_sum, ← Finset.sum_sub_distrib, ← Finset.sum_add_distrib]
    exact Finset.sum_congr rfl fun k _ => by ring
  rw [e1]
  have e2 : ∀ x : ℝ, Ideal.div ((x : ℝ) : EReal) ((64 : ℝ) : EReal) = ((x / 64 : ℝ) : EReal) := fun x => by
    rw [EReal.coe_div, EReal.div_eq_inv_mul, mul_comm]
    simp [Ideal.div]
  rw [e2]
  congr 1
  ring

end Cert.NearMath

end
-- ==== Proof.Near.CandRow.lean ====
/- The payloads of the candidates' kernel at an entry, over the extended reals, and what its counted loop keeps. -/
module

public import proofs.«01_k».proof.Proof.Near.CandIdealBody
public import proofs.«01_k».proof.Proof.Near.CandMath
public import Idealize.ShloMosaic.Lib.Pointwise

@[expose] public section

set_option maxRecDepth 16384

noncomputable section

namespace Cert.CandIdeal.Near

open Cert.CandIdeal Cert.CandIdeal.Gen Idealize.ShloMosaic Idealize.ShloMosaic.TcCoe Idealize.SL.Sem Cert.Rank Cert.NearMath

/-- The columns' numbers. -/
theorem pay21_at (r : Fin 256) (c : Fin 2048) : k0_pay21 (F := Ideal) (ix2 r c) = num c.val := by
  pointwise [k0_pay21]
  exact word_num c.val (by omega)

/-- The places' numbers. -/
theorem pay2_at (j : Fin 64) : k0_pay2 (F := Ideal) (ix2 0 j) = num j.val := by
  pointwise [k0_pay2]
  exact word_num j.val (by omega)

theorem pay4_at (r : Fin 256) (j : Fin 64) : k0_pay4 (F := Ideal) (ix2 r j) = 0 := by
  pointwise [k0_pay4]

/-- The least number among the columns that reach the least distance. -/
theorem pay11_at (v d : FVec Ideal S256x2048 .f32) (r : Fin 256) :
    k0_pay11 (F := Ideal) v d (ix2 r 0) = Finset.univ.inf fun c => if d (ix2 r c) ≤ Finset.univ.inf (fun c => d (ix2 r c)) then v (ix2 r c) else num 2048 := by
  pointwise [k0_pay11]
  rw [inf_word, big_word]
  rfl

theorem pay12_at (v d : FVec Ideal S256x2048 .f32) (r : Fin 256) (c : Fin 2048) :
    k0_pay12 (F := Ideal) v d (ix2 r c) = if v (ix2 r c) = k0_pay11 v d (ix2 r 0) then 1 else 0 := by
  pointwise [k0_pay12]

theorem pay13_at (v d : FVec Ideal S256x2048 .f32) (r : Fin 256) (c : Fin 2048) :
    k0_pay13 (F := Ideal) v d (ix2 r c) = if v (ix2 r c) = k0_pay11 v d (ix2 r 0) then BIG else d (ix2 r c) := by
  pointwise [k0_pay13]
  rfl

theorem pay14_at (v w d : FVec Ideal S256x2048 .f32) (r : Fin 256) :
    k0_pay14 (F := Ideal) v w d (ix2 r 0) = ∑ c, k0_pay12 (F := Ideal) v d (ix2 r c) * w (ix2 r c) := by
  pointwise [k0_pay14]

theorem pay16_at (x : FVec Ideal S256x3 .f32) (v : FVec Ideal S256x2048 .f32) (y : FVec Ideal S2048x3 .f32) (d : FVec Ideal S256x2048 .f32) (r : Fin 256) (a : Fin 3) :
    k0_pay16 (F := Ideal) x v y d (ix2 r a) = (∑ c, k0_pay12 (F := Ideal) v d (ix2 r c) * y (ix2 c a)) - x (ix2 r a) := by
  pointwise [k0_pay16]

theorem pay17_at (x : FVec Ideal S256x3 .f32) (v : FVec Ideal S256x2048 .f32) (w : FVec Ideal S1x64 .f32) (y : FVec Ideal S2048x3 .f32) (k : Fin k0_t1_loop.trips) (d : FVec Ideal S256x2048 .f32) (acc : FVec Ideal S256x64 .f32) (r : Fin 256) (j : Fin 64) :
    k0_pay17 (F := Ideal) x v w y 0#32 1#32 k d acc (ix2 r j) = acc (ix2 r j) + if w (ix2 0 j) = (((Scf.iv 0#32 1#32 k.val).toInt : ℝ) : EReal) then k0_pay16 x v y d (ix2 r 0) else 0 := by
  pointwise [k0_pay17, k0_pay15]

theorem pay18_at (x : FVec Ideal S256x3 .f32) (v : FVec Ideal S256x2048 .f32) (w : FVec Ideal S1x64 .f32) (y : FVec Ideal S2048x3 .f32) (k : Fin k0_t1_loop.trips) (d : FVec Ideal S256x2048 .f32) (acc : FVec Ideal S256x64 .f32) (r : Fin 256) (j : Fin 64) :
    k0_pay18 (F := Ideal) x v w y 0#32 1#32 k d acc (ix2 r j) = acc (ix2 r j) + if w (ix2 0 j) = (((Scf.iv 0#32 1#32 k.val).toInt : ℝ) : EReal) then k0_pay16 x v y d (ix2 r 1) else 0 := by
  pointwise [k0_pay18, k0_pay15]

theorem pay19_at (x : FVec Ideal S256x3 .f32) (v : FVec Ideal S256x2048 .f32) (w : FVec Ideal S1x64 .f32) (y : FVec Ideal S2048x3 .f32) (k : Fin k0_t1_loop.trips) (d : FVec Ideal S256x2048 .f32) (acc : FVec Ideal S256x64 .f32) (r : Fin 256) (j : Fin 64) :
    k0_pay5 (F := Ideal) acc (k0_pay19 x v w y 0#32 1#32 k d) (ix2 r j) = acc (ix2 r j) + if w (ix2 0 j) = (((Scf.iv 0#32 1#32 k.val).toInt : ℝ) : EReal) then k0_pay16 x v y d (ix2 r 2) else 0 := by
  pointwise [k0_pay5, k0_pay19, k0_pay15]

theorem pay6_at (w : FVec Ideal S1x64 .f32) (k : Fin k0_t1_loop.trips) (acc : FVec Ideal S256x64 .f32) (u : FVec Ideal S256x1 .f32) (r : Fin 256) (j : Fin 64) :
    k0_pay6 (F := Ideal) acc u (k0_pay15 w 0#32 1#32 k) (ix2 r j) = acc (ix2 r j) + if w (ix2 0 j) = (((Scf.iv 0#32 1#32 k.val).toInt : ℝ) : EReal) then u (ix2 r 0) else 0 := by
  pointwise [k0_pay6, k0_pay15]

theorem pay7_at (v : FVec Ideal S256x64 .f32) (p : Fin 1) (r : Fin 256) (j : Fin 64) : k0_pay7 (F := Ideal) v (ix3 p r j) = v (ix2 r j) := by
  pointwise [k0_pay7]
theorem pay8_at (v : FVec Ideal S256x64 .f32) (p : Fin 1) (r : Fin 256) (j : Fin 64) : k0_pay8 (F := Ideal) v (ix3 p r j) = v (ix2 r j) := by
  pointwise [k0_pay8]
theorem pay9_at (v : FVec Ideal S256x64 .f32) (p : Fin 1) (r : Fin 256) (j : Fin 64) : k0_pay9 (F := Ideal) v (ix3 p r j) = v (ix2 r j) := by
  pointwise [k0_pay9]
theorem pay10_at (v : FVec Ideal S256x64 .f32) (p : Fin 1) (r : Fin 256) (j : Fin 64) : k0_pay10 (F := Ideal) v (ix3 p r j) = v (ix2 r j) := by
  pointwise [k0_pay10]

theorem pay3_at (v : FVec Ideal S1x2048x3 .f32) (c : Fin 2048) (a : Fin 3) : k0_pay3 (F := Ideal) v (ix2 c a) = v (ix3 0 c a) := by
  pointwise [k0_pay3]

theorem pay20_at (v : FVec Ideal S1x256x3 .f32) (r : Fin 256) (a : Fin 3) : k0_pay20 (F := Ideal) v (ix2 r a) = v (ix3 0 r a) := by
  pointwise [k0_pay20]

/-- The distances of a block of points to all target points of the batch. -/
theorem pay22_at (x : FVec Ideal S1x256x3 .f32) (y0 y1 y2 : FVec Ideal S1x1x2048 .f32) (r : Fin 256) (c : Fin 2048) :
    k0_pay22 (F := Ideal) x y0 y1 y2 (ix2 r c) = dist (fun k => x (ix3 0 r k)) ![y0 (ix3 0 0 c), y1 (ix3 0 0 c), y2 (ix3 0 0 c)] := by
  pointwise [k0_pay22, k0_pay20]
  unfold Cert.NearMath.dist
  rw [Fin.sum_univ_three]
  rfl

/-- The data costs of a block of points and all target points of the batch. -/
theorem pay1_at (e : FVec Ideal S1x256x64 .f32) (t : FVec Ideal S1x64x2048 .f32) (r : Fin 256) (c : Fin 2048) :
    k0_pay1 (F := Ideal) (k0_pay24 t) (k0_pay25 e t) (k0_pay26 e) (ix2 r c) = costK (fun k => e (ix3 0 r k)) (fun k => t (ix3 0 k c)) := by
  pointwise [k0_pay1, k0_pay24, k0_pay25, k0_pay26, k0_pay23]
  rfl

end Cert.CandIdeal.Near

end
-- ==== Proof.Near.CandLoop.lean ====
/- What the candidates' counted loop keeps: the nearest so far are out of reach, their displacements and costs in place. -/
module

public import proofs.«01_k».proof.Proof.Near.CandRow

@[expose] public section

set_option maxRecDepth 16384

noncomputable section

namespace Cert.CandIdeal.Near

open Cert.CandIdeal Cert.CandIdeal.Gen Idealize.ShloMosaic Idealize.ShloMosaic.TcCoe Idealize.SL.Sem Cert.Rank Cert.NearMath

/-- The loop makes sixty-four trips. -/
theorem trips_eq : k0_t1_loop.trips = 64 := by decide

/-- The loop's induction word is the trip's number. -/
theorem iv_val : ∀ j : Fin 64, (Scf.iv 0#32 1#32 j.val).toInt = (j.val : ℤ) := by decide

/-- A sum weighted by the choice of one column is the value there. -/
theorem chosen (p : Fin 2048) (f : Fin 2048 → EReal) : (∑ c : Fin 2048, (if num c.val = num p.val then (1 : EReal) else 0) * f c) = f p := by
  simp [num_inj, ← Fin.ext_iff]

/-- What an accumulator holds after `k` trips, at a place. -/
def cell (d : Fin 2048 → EReal) (g : Fin 2048 → EReal) (k : ℕ) (j : Fin 64) : EReal := if j.val < k then g (nth d ⟨j.val, by omega⟩) else 0

/-- A trip puts the value of the next nearest in its place. -/
theorem cell_succ (d g : Fin 2048 → EReal) (k : ℕ) (hk : k < 64) (j : Fin 64) :
    cell d g k j + (if num j.val = (((Scf.iv 0#32 1#32 k).toInt : ℝ) : EReal) then g (nth d ⟨k, by omega⟩) else 0) = cell d g (k + 1) j := by
  rw [iv_val ⟨k, hk⟩]
  have e : ((((⟨k, hk⟩ : Fin 64).val : ℤ) : ℝ) : EReal) = num k := by unfold num; rw [Int.cast_natCast]
  rw [e]
  unfold cell
  by_cases hj : j.val = k
  · have hz : j = ⟨k, hk⟩ := Fin.ext hj
    subst hz
    rw [if_neg (lt_irrefl _), if_pos rfl, if_pos (Nat.lt_succ_self _), zero_add]
  · rw [if_neg (fun h => hj (num_inj.mp h)), add_zero]
    exact if_congr (by omega) rfl rfl

section
variable {F : FTy → Type} [FloatOps F]
variable (v1 : FVec F S256x3 .f32) (v3 v47 : FVec F S256x2048 .f32) (v51 : FVec F S2048x3 .f32) (k : Fin k0_t1_loop.trips) (s : Carry F)

theorem step_1 : (step v1 v3 v47 v51 k s).1 = k0_pay13 v3 s.1 := rfl
theorem step_2 : (step v1 v3 v47 v51 k s).2.1 = k0_pay17 v1 v3 (k0_pay2 (F := F)) v51 0#32 1#32 k s.1 s.2.1 := rfl
theorem step_3 : (step v1 v3 v47 v51 k s).2.2.1 = k0_pay18 v1 v3 (k0_pay2 (F := F)) v51 0#32 1#32 k s.1 s.2.2.1 := rfl
theorem step_4 : (step v1 v3 v47 v51 k s).2.2.2.1 = k0_pay5 s.2.2.2.1 (k0_pay19 v1 v3 (k0_pay2 (F := F)) v51 0#32 1#32 k s.1) := rfl
theorem step_5 : (step v1 v3 v47 v51 k s).2.2.2.2 = k0_pay6 s.2.2.2.2 (k0_pay14 v3 v47 s.1) (k0_pay15 (k0_pay2 (F := F)) 0#32 1#32 k) := rfl

end

/-- What holds after `k` trips. -/
structure Kept (D : Fin 256 → Fin 2048 → EReal) (x : FVec Ideal S256x3 .f32) (y : FVec Ideal S2048x3 .f32) (w : FVec Ideal S256x2048 .f32) (k : ℕ) (s : Carry Ideal) : Prop where
  keys : ∀ r c, s.1 (ix2 r c) = masked (D r) BIG k c
  one : ∀ r j, s.2.1 (ix2 r j) = cell (D r) (fun c => y (ix2 c 0) - x (ix2 r 0)) k j
  two : ∀ r j, s.2.2.1 (ix2 r j) = cell (D r) (fun c => y (ix2 c 1) - x (ix2 r 1)) k j
  three : ∀ r j, s.2.2.2.1 (ix2 r j) = cell (D r) (fun c => y (ix2 c 2) - x (ix2 r 2)) k j
  costs : ∀ r j, s.2.2.2.2 (ix2 r j) = cell (D r) (fun c => w (ix2 r c)) k j

/-- The column a trip takes is the next nearest. -/
theorem take_at (D : Fin 256 → Fin 2048 → EReal) (hB : ∀ r c, D r c < BIG) (d : FVec Ideal S256x2048 .f32) (k : ℕ) (hk : k < 64) (hd : ∀ r c, d (ix2 r c) = masked (D r) BIG k c) (r : Fin 256) :
    k0_pay11 (F := Ideal) (k0_pay21 (F := Ideal)) d (ix2 r 0) = num (nth (D r) ⟨k, by omega⟩).val := by
  rw [pay11_at]
  simp only [pay21_at, hd]
  exact pick (masked (D r) BIG k) (fun c => num c.val) (num 2048) (fun a b h => num_le.mpr (le_of_lt h)) (fun c => num_le.mpr c.isLt.le) (nth (D r) ⟨k, by omega⟩)
    fun c hc => masked_first (D r) BIG (hB r) ⟨k, by omega⟩ c hc

/-- A sum weighted by the choice of the trip is the value at the next nearest. -/
theorem sum_at (D : Fin 256 → Fin 2048 → EReal) (hB : ∀ r c, D r c < BIG) (d : FVec Ideal S256x2048 .f32) (k : ℕ) (hk : k < 64) (hd : ∀ r c, d (ix2 r c) = masked (D r) BIG k c) (r : Fin 256) (f : Fin 2048 → EReal) :
    (∑ c, k0_pay12 (F := Ideal) (k0_pay21 (F := Ideal)) d (ix2 r c) * f c) = f (nth (D r) ⟨k, by omega⟩) := by
  simp only [pay12_at, take_at D hB d k hk hd, pay21_at]
  exact chosen _ f

/-- A trip keeps it. -/
theorem step_kept (D : Fin 256 → Fin 2048 → EReal) (hB : ∀ r c, D r c < BIG) (x : FVec Ideal S256x3 .f32) (y : FVec Ideal S2048x3 .f32) (w : FVec Ideal S256x2048 .f32)
    (k : Fin k0_t1_loop.trips) (s : Carry Ideal) (h : Kept D x y w k.val s) : Kept D x y w (k.val + 1) (step (F := Ideal) x (k0_pay21 (F := Ideal)) w y k s) := by
  have hk : k.val < 64 := trips_eq ▸ k.isLt
  have hs := sum_at D hB s.1 k.val hk h.keys
  refine ⟨fun r c => ?_, fun r j => ?_, fun r j => ?_, fun r j => ?_, fun r j => ?_⟩
  · rw [step_1, pay13_at, take_at D hB s.1 k.val hk h.keys, pay21_at, h.keys]
    refine Eq.trans (if_congr ?_ rfl rfl) (masked_succ (D r) BIG ⟨k.val, by omega⟩ c)
    rw [num_inj, Fin.ext_iff]
  · rw [step_2, pay17_at, pay16_at, hs, pay2_at, h.one]
    exact cell_succ (D r) (fun c => y (ix2 c 0) - x (ix2 r 0)) k.val hk j
  · rw [step_3, pay18_at, pay16_at, hs, pay2_at, h.two]
    exact cell_succ (D r) (fun c => y (ix2 c 1) - x (ix2 r 1)) k.val hk j
  · rw [step_4, pay19_at, pay16_at, hs, pay2_at, h.three]
    exact cell_succ (D r) (fun c => y (ix2 c 2) - x (ix2 r 2)) k.val hk j
  · rw [step_5, pay6_at, pay14_at, hs, pay2_at, h.costs]
    exact cell_succ (D r) (fun c => w (ix2 r c)) k.val hk j

/-- What the loop leaves, of the block's inputs. -/
def left {F : FTy → Type} [FloatOps F] (x : FVec F S256x3 .f32) (w : FVec F S256x2048 .f32) (y : FVec F S2048x3 .f32) (d : FVec F S256x2048 .f32) : Carry F :=
  Scf.fold (step x (k0_pay21 (F := F)) w y) (d, k0_pay4 (F := F), k0_pay4 (F := F), k0_pay4 (F := F), k0_pay4 (F := F))

/-- It is kept from the start to the end. -/
theorem left_kept (D : Fin 256 → Fin 2048 → EReal) (hB : ∀ r c, D r c < BIG) (x : FVec Ideal S256x3 .f32) (w : FVec Ideal S256x2048 .f32) (y : FVec Ideal S2048x3 .f32) (d : FVec Ideal S256x2048 .f32)
    (hd : ∀ r c, d (ix2 r c) = D r c) : Kept D x y w 64 (left (F := Ideal) x w y d) := by
  have hz : ∀ (g : Fin 2048 → EReal) (r : Fin 256) (j : Fin 64), k0_pay4 (F := Ideal) (ix2 r j) = cell (D r) g 0 j := fun g r j => (pay4_at r j).trans (if_neg (Nat.not_lt_zero _)).symm
  have hi : Kept D x y w 0 (d, k0_pay4 (F := Ideal), k0_pay4 (F := Ideal), k0_pay4 (F := Ideal), k0_pay4 (F := Ideal)) :=
    ⟨fun r c => by rw [masked_zero]; exact hd r c, fun r j => hz _ r j, fun r j => hz _ r j, fun r j => hz _ r j, fun r j => hz _ r j⟩
  have hf := fold_inv (step (F := Ideal) x (k0_pay21 (F := Ideal)) w y) _ (Kept D x y w) hi (step_kept D hB x y w)
  exact trips_eq ▸ (show Kept D x y w k0_t1_loop.trips (left (F := Ideal) x w y d) from hf)

/-- An accumulator at the end. -/
theorem cell_end (d g : Fin 2048 → EReal) (j : Fin 64) : cell d g 64 j = g (nth d ⟨j.val, by omega⟩) := if_pos j.isLt

end Cert.CandIdeal.Near

end
-- ==== Proof.Near.CandBlock.lean ====
/- The blocks that the candidates' kernel stores at a grid point, entry by entry, of the blocks it reads. -/
module

public import proofs.«01_k».proof.Proof.Near.CandLoop
public import proofs.«01_k».proof.Proof.Lbp.Math
public import Idealize.ShloMosaic.Lib.Pipeline.ValueKit
public import Idealize.ShloMosaic.Lib.WholeRead

@[expose] public section

set_option maxRecDepth 16384

noncomputable section

namespace Cert.CandIdeal.Near

open Cert.CandIdeal Cert.CandIdeal.Gen Idealize.ShloMosaic Idealize.ShloMosaic.TcCoe Idealize.SL.Sem Cert.Rank Cert.NearMath
open Cert.LbpMath (cc)

/-- A load through a whole memref reads its contents at the place of the rectangle. -/
theorem rd {Val : EltTy → Type} {s : Shape} {e : EltTy} {mr : Memref sig .tc .vmem s e} (h : mr.IsWhole) (X : s.Idx → Val e) (off size : Fin s.rank → ℕ) (inb) (x : (Rect.unit off size inb).shape.Idx)
    (i : s.Idx) (hi : ∀ a, (i a : ℕ) = off a + x a) : View.readAt Val mr.view (Rect.unit off size inb).toLoadRect (h.unread X) x = X i :=
  (h.readAt_unread X _ x).trans (congrArg X (funext fun a => Fin.ext ((Rect.idx_unit_val off size inb x a).trans (hi a).symm)))

section
variable (c : Dev nD) (i : grid0.Coords) (arg2 : Memref sig .tc .vmem S1x256x3 .f32) (harg2 : arg2.IsWhole) (arg3 : Memref sig .tc .vmem S1x2048x3 .f32) (harg3 : arg3.IsWhole) (arg4 : Memref sig .tc .vmem S1x3x2048 .f32) (harg4 : arg4.IsWhole) (arg5 : Memref sig .tc .vmem S1x256x64 .f32) (harg5 : arg5.IsWhole) (arg6 : Memref sig .tc .vmem S1x64x2048 .f32) (harg6 : arg6.IsWhole) (arg7 : Memref sig .tc .vmem S1x256x192 .f32) (harg7 : arg7.IsWhole) (arg8 : Memref sig .tc .vmem S1x256x64 .f32) (harg8 : arg8.IsWhole)
variable (x0 : FVec Ideal S1x256x3 .f32) (x1 : FVec Ideal S1x2048x3 .f32) (x2 : FVec Ideal S1x3x2048 .f32) (x3 : FVec Ideal S1x256x64 .f32) (x4 : FVec Ideal S1x64x2048 .f32)

def r0 : FVec Ideal S1x256x3 .f32 := View.readAt (Elt Ideal) arg2.view (Rect.unit (s := S1x256x3) ![0, 0, 0] S1x256x3.size inb_S1x256x3_S1x256x3_0_0_0).toLoadRect (harg2.unread x0)
def r1 : FVec Ideal S1x2048x3 .f32 := View.readAt (Elt Ideal) arg3.view (Rect.unit (s := S1x2048x3) ![0, 0, 0] S1x2048x3.size inb_S1x2048x3_S1x2048x3_0_0_0).toLoadRect (harg3.unread x1)
def r2a : FVec Ideal S1x1x2048 .f32 := View.readAt (Elt Ideal) arg4.view (Rect.unit (s := S1x3x2048) ![0, 0, 0] S1x1x2048.size inb_S1x3x2048_S1x1x2048_0_0_0).toLoadRect (harg4.unread x2)
def r2b : FVec Ideal S1x1x2048 .f32 := View.readAt (Elt Ideal) arg4.view (Rect.unit (s := S1x3x2048) ![0, 1, 0] S1x1x2048.size inb_S1x3x2048_S1x1x2048_0_1_0).toLoadRect (harg4.unread x2)
def r2c : FVec Ideal S1x1x2048 .f32 := View.readAt (Elt Ideal) arg4.view (Rect.unit (s := S1x3x2048) ![0, 2, 0] S1x1x2048.size inb_S1x3x2048_S1x1x2048_0_2_0).toLoadRect (harg4.unread x2)
def r3 : FVec Ideal S1x256x64 .f32 := View.readAt (Elt Ideal) arg5.view (Rect.unit (s := S1x256x64) ![0, 0, 0] S1x256x64.size inb_S1x256x64_S1x256x64_0_0_0).toLoadRect (harg5.unread x3)
def r4 : FVec Ideal S1x64x2048 .f32 := View.readAt (Elt Ideal) arg6.view (Rect.unit (s := S1x64x2048) ![0, 0, 0] S1x64x2048.size inb_S1x64x2048_S1x64x2048_0_0_0).toLoadRect (harg6.unread x4)

theorem r0_at (r : Fin 256) (k : Fin 3) : r0 arg2 harg2 x0 (ix3 0 r k) = x0 (ix3 0 r k) := by
  refine rd (Val := Elt Ideal) harg2 x0 _ _ _ _ _ fun a => ?_
  fin_cases a <;> exact (Nat.zero_add _).symm
theorem r1_at (r : Fin 2048) (k : Fin 3) : r1 arg3 harg3 x1 (ix3 0 r k) = x1 (ix3 0 r k) := by
  refine rd (Val := Elt Ideal) harg3 x1 _ _ _ _ _ fun a => ?_
  fin_cases a <;> exact (Nat.zero_add _).symm
theorem r2a_at (e : Fin 2048) : r2a arg4 harg4 x2 (ix3 0 0 e) = x2 (ix3 0 0 e) := by
  refine rd (Val := Elt Ideal) harg4 x2 _ _ _ _ _ fun a => ?_
  fin_cases a <;> first | exact (Nat.zero_add _).symm | rfl
theorem r2b_at (e : Fin 2048) : r2b arg4 harg4 x2 (ix3 0 0 e) = x2 (ix3 0 1 e) := by
  refine rd (Val := Elt Ideal) harg4 x2 _ _ _ _ _ fun a => ?_
  fin_cases a <;> first | exact (Nat.zero_add _).symm | rfl
theorem r2c_at (e : Fin 2048) : r2c arg4 harg4 x2 (ix3 0 0 e) = x2 (ix3 0 2 e) := by
  refine rd (Val := Elt Ideal) harg4 x2 _ _ _ _ _ fun a => ?_
  fin_cases a <;> first | exact (Nat.zero_add _).symm | rfl
theorem r3_at (r : Fin 256) (k : Fin 64) : r3 arg5 harg5 x3 (ix3 0 r k) = x3 (ix3 0 r k) := by
  refine rd (Val := Elt Ideal) harg5 x3 _ _ _ _ _ fun a => ?_
  fin_cases a <;> exact (Nat.zero_add _).symm
theorem r4_at (k : Fin 64) (e : Fin 2048) : r4 arg6 harg6 x4 (ix3 0 k e) = x4 (ix3 0 k e) := by
  refine rd (Val := Elt Ideal) harg6 x4 _ _ _ _ _ fun a => ?_
  fin_cases a <;> exact (Nat.zero_add _).symm

/-- What the loop leaves at a grid point. -/
def fin : Carry Ideal :=
  left (F := Ideal) (k0_pay20 (r0 arg2 harg2 x0)) (k0_pay1 (k0_pay24 (r4 arg6 harg6 x4)) (k0_pay25 (r3 arg5 harg5 x3) (r4 arg6 harg6 x4)) (k0_pay26 (r3 arg5 harg5 x3))) (k0_pay3 (r1 arg3 harg3 x1))
    (k0_pay22 (r0 arg2 harg2 x0) (r2a arg4 harg4 x2) (r2b arg4 harg4 x2) (r2c arg4 harg4 x2))

/-- The stores of the displacements. -/
theorem pieces5 : (bodyRun (F := Ideal) c i arg2 harg2 arg3 harg3 arg4 harg4 arg5 harg5 arg6 harg6 arg7 harg7 arg8 harg8 x0 x1 x2 x3 x4).1 =
    [⟨Rect.unit (s := S1x256x192) ![0, 0, 128] S1x256x64.size inb_S1x256x192_S1x256x64_0_0_128, k0_pay9 (F := Ideal) (fin arg2 harg2 arg3 harg3 arg4 harg4 arg5 harg5 arg6 harg6 x0 x1 x2 x3 x4).2.2.2.1⟩,
     ⟨Rect.unit (s := S1x256x192) ![0, 0, 64] S1x256x64.size inb_S1x256x192_S1x256x64_0_0_64, k0_pay8 (F := Ideal) (fin arg2 harg2 arg3 harg3 arg4 harg4 arg5 harg5 arg6 harg6 x0 x1 x2 x3 x4).2.2.1⟩,
     ⟨Rect.unit (s := S1x256x192) ![0, 0, 0] S1x256x64.size inb_S1x256x192_S1x256x64_0_0_0, k0_pay7 (F := Ideal) (fin arg2 harg2 arg3 harg3 arg4 harg4 arg5 harg5 arg6 harg6 x0 x1 x2 x3 x4).2.1⟩] := rfl

/-- The store of the data costs. -/
theorem pieces6 : (bodyRun (F := Ideal) c i arg2 harg2 arg3 harg3 arg4 harg4 arg5 harg5 arg6 harg6 arg7 harg7 arg8 harg8 x0 x1 x2 x3 x4).2.1 =
    [⟨Rect.unit (s := S1x256x64) ![0, 0, 0] S1x256x64.size inb_S1x256x64_S1x256x64_0_0_0, k0_pay10 (F := Ideal) (fin arg2 harg2 arg3 harg3 arg4 harg4 arg5 harg5 arg6 harg6 x0 x1 x2 x3 x4).2.2.2.2⟩] := rfl

/-- A column outside a stored tile's columns is no entry of it. -/
theorem off_tile (p : Fin 1) (r : Fin 256) (o : ℕ) (inb) (a : Fin 192) (h : a.val < o ∨ o + 64 ≤ a.val) :
    (ix3 p r a : S1x256x192.Idx) ∉ (Rect.unit (s := S1x256x192) ![0, 0, o] S1x256x64.size inb).set := by
  rw [Rect.mem_set_unit]
  intro hm
  obtain ⟨h1, h2⟩ := hm 2
  have e1 : o ≤ a.val := h1
  have e2 : a.val < o + 64 := h2
  omega

/-- The place of a tile's entry. -/
theorem in_tile (p : Fin 1) (r : Fin 256) (j : Fin 64) (o : ℕ) (inb) (a : Fin 192) (h : a.val = o + j.val) :
    (Rect.unit (s := S1x256x192) ![0, 0, o] S1x256x64.size inb).emb (ix3 p r j) = (ix3 p r a : S1x256x192.Idx) := by
  funext q; refine Fin.ext ((Rect.idx_unit_val _ _ _ _ q).trans ?_)
  fin_cases q
  · exact Nat.zero_add _
  · exact Nat.zero_add _
  · exact h.symm

theorem cc_val (k : Fin 3) (j : Fin 64) : (cc k j).val = k.val * 64 + j.val := rfl

/-- A stored tile's entry is read. -/
theorem hit (o : ℕ) (inb) (w : FVec Ideal S1x256x64 .f32) (L : List (View.Piece (Elt Ideal) S1x256x192 .f32)) (p : Fin 1) (r : Fin 256) (j : Fin 64) (a : Fin 192) (h : a.val = o + j.val) :
    View.canon (Val := Elt Ideal) (s := S1x256x192) (e := .f32) (⟨Rect.unit (s := S1x256x192) ![0, 0, o] S1x256x64.size inb, w⟩ :: L) (ix3 p r a) = w (ix3 p r j) := by
  rw [← in_tile p r j o inb a h]
  exact View.canon_cons_emb (Rect.unit (s := S1x256x192) ![0, 0, o] S1x256x64.size inb) w L (ix3 p r j)

/-- Off a stored tile the earlier ones are read. -/
theorem miss (o : ℕ) (inb) (w : FVec Ideal S1x256x64 .f32) (L : List (View.Piece (Elt Ideal) S1x256x192 .f32)) (p : Fin 1) (r : Fin 256) (a : Fin 192) (h : a.val < o ∨ o + 64 ≤ a.val) :
    View.canon (Val := Elt Ideal) (s := S1x256x192) (e := .f32) (⟨Rect.unit (s := S1x256x192) ![0, 0, o] S1x256x64.size inb, w⟩ :: L) (ix3 p r a) = View.canon (Val := Elt Ideal) (s := S1x256x192) (e := .f32) L (ix3 p r a) :=
  View.canon_cons_of_not_mem (⟨Rect.unit (s := S1x256x192) ![0, 0, o] S1x256x64.size inb, w⟩ : View.Piece (Elt Ideal) S1x256x192 .f32) L (off_tile p r o inb a h)

/-- Three stored tiles, at an entry of each. -/
theorem tiles_at (u v w : FVec Ideal S1x256x64 .f32) (p : Fin 1) (r : Fin 256) (j : Fin 64) (f : Fin 3 → EReal) (hu : u (ix3 p r j) = f 0) (hv : v (ix3 p r j) = f 1) (hw : w (ix3 p r j) = f 2) (k : Fin 3) :
    View.canon (Val := Elt Ideal) (s := S1x256x192) (e := .f32)
    [⟨Rect.unit (s := S1x256x192) ![0, 0, 128] S1x256x64.size inb_S1x256x192_S1x256x64_0_0_128, w⟩,
     ⟨Rect.unit (s := S1x256x192) ![0, 0, 64] S1x256x64.size inb_S1x256x192_S1x256x64_0_0_64, v⟩,
     ⟨Rect.unit (s := S1x256x192) ![0, 0, 0] S1x256x64.size inb_S1x256x192_S1x256x64_0_0_0, u⟩] (ix3 p r (cc k j)) = f k := by
  have c0 : (cc 0 j).val = j.val := (cc_val 0 j).trans (by show 0 * 64 + j.val = j.val; omega)
  have c1 : (cc 1 j).val = 64 + j.val := (cc_val 1 j).trans (by show 1 * 64 + j.val = 64 + j.val; omega)
  have c2 : (cc 2 j).val = 128 + j.val := (cc_val 2 j).trans (by show 2 * 64 + j.val = 128 + j.val; omega)
  have hk : k = 0 ∨ k = 1 ∨ k = 2 := by omega
  rcases hk with rfl | rfl | rfl
  · rw [miss 128 _ w _ p r (cc 0 j) (by omega), miss 64 _ v _ p r (cc 0 j) (by omega), hit 0 _ u _ p r j (cc 0 j) (by omega), hu]
  · rw [miss 128 _ w _ p r (cc 1 j) (by omega), hit 64 _ v _ p r j (cc 1 j) (by omega), hv]
  · rw [hit 128 _ w _ p r j (cc 2 j) (by omega), hw]

/-- What the loop leaves, of the distances. -/
theorem fin_kept (D : Fin 256 → Fin 2048 → EReal) (hB : ∀ r e, D r e < BIG) (hD : ∀ r e, D r e = dist (fun k => x0 (ix3 0 r k)) (fun k => x2 (ix3 0 k e))) :
    Kept D (k0_pay20 (F := Ideal) (r0 arg2 harg2 x0)) (k0_pay3 (F := Ideal) (r1 arg3 harg3 x1)) (k0_pay1 (F := Ideal) (k0_pay24 (r4 arg6 harg6 x4)) (k0_pay25 (r3 arg5 harg5 x3) (r4 arg6 harg6 x4)) (k0_pay26 (r3 arg5 harg5 x3))) 64
      (fin arg2 harg2 arg3 harg3 arg4 harg4 arg5 harg5 arg6 harg6 x0 x1 x2 x3 x4) := by
  refine left_kept D hB _ _ _ _ fun r e => ?_
  rw [pay22_at, hD]
  refine congrArg₂ Cert.NearMath.dist (funext fun k => r0_at arg2 harg2 x0 r k) (funext fun k => ?_)
  fin_cases k
  · exact r2a_at arg4 harg4 x2 e
  · exact r2b_at arg4 harg4 x2 e
  · exact r2c_at arg4 harg4 x2 e

/-- The displacements' block at an entry. -/
theorem block5_at (D : Fin 256 → Fin 2048 → EReal) (hB : ∀ r e, D r e < BIG) (hD : ∀ r e, D r e = dist (fun k => x0 (ix3 0 r k)) (fun k => x2 (ix3 0 k e))) (p : Fin 1) (r : Fin 256) (k : Fin 3) (j : Fin 64) :
    View.canon (Val := Elt Ideal) (bodyRun (F := Ideal) c i arg2 harg2 arg3 harg3 arg4 harg4 arg5 harg5 arg6 harg6 arg7 harg7 arg8 harg8 x0 x1 x2 x3 x4).1 (ix3 p r (cc k j)) =
      x1 (ix3 0 (nth (D r) ⟨j.val, by omega⟩) k) - x0 (ix3 0 r k) := by
  have hK := fin_kept arg2 harg2 arg3 harg3 arg4 harg4 arg5 harg5 arg6 harg6 x0 x1 x2 x3 x4 D hB hD
  have hv : ∀ k : Fin 3, (k0_pay3 (F := Ideal) (r1 arg3 harg3 x1)) (ix2 (nth (D r) ⟨j.val, by omega⟩) k) - (k0_pay20 (F := Ideal) (r0 arg2 harg2 x0)) (ix2 r k) = x1 (ix3 0 (nth (D r) ⟨j.val, by omega⟩) k) - x0 (ix3 0 r k) := fun k => by
    rw [pay3_at, pay20_at, r0_at, r1_at]
  rw [pieces5]
  refine tiles_at _ _ _ p r j (fun k => x1 (ix3 0 (nth (D r) ⟨j.val, by omega⟩) k) - x0 (ix3 0 r k)) ?_ ?_ ?_ k
  · exact (pay7_at _ p r j).trans ((hK.one r j).trans ((cell_end _ _ j).trans (hv 0)))
  · exact (pay8_at _ p r j).trans ((hK.two r j).trans ((cell_end _ _ j).trans (hv 1)))
  · exact (pay9_at _ p r j).trans ((hK.three r j).trans ((cell_end _ _ j).trans (hv 2)))

/-- The data costs' block at an entry. -/
theorem block6_at (D : Fin 256 → Fin 2048 → EReal) (hB : ∀ r e, D r e < BIG) (hD : ∀ r e, D r e = dist (fun k => x0 (ix3 0 r k)) (fun k => x2 (ix3 0 k e))) (p : Fin 1) (r : Fin 256) (j : Fin 64) :
    View.canon (Val := Elt Ideal) (bodyRun (F := Ideal) c i arg2 harg2 arg3 harg3 arg4 harg4 arg5 harg5 arg6 harg6 arg7 harg7 arg8 harg8 x0 x1 x2 x3 x4).2.1 (ix3 p r j) =
      costK (fun k => x3 (ix3 0 r k)) (fun k => x4 (ix3 0 k (nth (D r) ⟨j.val, by omega⟩))) := by
  have hK := fin_kept arg2 harg2 arg3 harg3 arg4 harg4 arg5 harg5 arg6 harg6 x0 x1 x2 x3 x4 D hB hD
  rw [pieces6]
  have em : (Rect.unit (s := S1x256x64) ![0, 0, 0] S1x256x64.size inb_S1x256x64_S1x256x64_0_0_0).emb (ix3 p r j) = ix3 p r j := by
    funext q; refine Fin.ext ((Rect.idx_unit_val _ _ _ _ q).trans ?_)
    fin_cases q <;> exact Nat.zero_add _
  refine (congrArg _ em.symm).trans ((View.canon_cons_emb _ _ _ _).trans ?_)
  refine (pay10_at _ p r j).trans ((hK.costs r j).trans ((cell_end _ _ j).trans ((pay1_at _ _ r _).trans ?_)))
  exact congrArg₂ costK (funext fun k => r3_at arg5 harg5 x3 r k) (funext fun k => r4_at arg6 harg6 x4 k _)

end

end Cert.CandIdeal.Near

end
-- ==== Proof.Near.CandRef.lean ====
/- What the candidates' reference computes, entry by entry. -/
module

public import proofs.«01_k».proof.Proof.Gen.CandReferenceIdeal.Run
public import proofs.«01_k».proof.Proof.Near.CandMath
public import proofs.«01_k».proof.Proof.Lbp.Math
public import Idealize.ShloMosaic.Lib.Pointwise

@[expose] public section

set_option maxRecDepth 16384

noncomputable section

namespace Cert.CandReferenceIdeal.Near

open Cert.CandReferenceIdeal Cert.CandReferenceIdeal.Gen Cert.CandReferenceIdeal.Value Idealize.ShloMosaic Idealize.ShloMosaic.TcCoe Idealize.SL.Sem Idealize.ShloMosaic.StableHlo Cert.Rank Cert.NearMath
open Cert.LbpMath (cc pt)

section
variable {F : FTy → Type} [FloatOps F]

/-- The differences of the source's points from the target's. -/
def rdiff (x0 x1 : FVec F S4x2048x3 .f32) : FVec F S4x2048x2048x3 .f32 :=
  subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x1))

/-- The squared distances with their signs changed. -/
def rneg (x0 x1 : FVec F S4x2048x3 .f32) : FVec F S4x2048x2048 .f32 :=
  Host.negf (Host.reduceAdd (mulf (rdiff x0 x1) (rdiff x0 x1)) (constant S_ .f32 0x00000000#32) reducesTo_S4x2048x2048x3_S4x2048x2048_d3 h_S_)

/-- The candidates' numbers. -/
def rtop (x0 x1 : FVec F S4x2048x3 .f32) : IVec S4x2048x64 32 :=
  (Host.topK S4x2048x64 2 (FloatOps.cmpfTotal .gt) (rneg x0 x1) sliceFits_S4x2048x2048_S4x2048x64).2

/-- The numbers as the gathers take them. -/
def ridx (k : IVec S4x2048x64 32) : IVec S4x2048x64x1 32 :=
  broadcastInDim S4x2048x64x1 ![0, 1, 2] bcast_S4x2048x64_S4x2048x64x1_0_1_2 (select (cmpi .slt k (broadcastInDim S4x2048x64 ![] bcast_S_S4x2048x64 (constantI S_ 32 0#32))) (addi k (broadcastInDim S4x2048x64 ![] bcast_S_S4x2048x64 (constantI S_ 32 2048#32))) k)

/-- The candidates less the points. -/
def rdisp (x0 x1 : FVec F S4x2048x3 .f32) (ix : IVec S4x2048x64x1 32) : FVec F S4x2048x64x3 .f32 :=
  subf (Host.gather gather_S4x2048x3_S4x2048x64x1_S4x2048x64x3_3_1_0_0_1_3_113 x1 ix) (broadcastInDim S4x2048x64x3 ![0, 1, 2, 3] bcast_S4x2048x1x3_S4x2048x64x3_0_1_2_3 (broadcastInDim S4x2048x1x3 ![0, 1, 3] bcast_S4x2048x3_S4x2048x1x3_0_1_3 x0))

/-- The displacements, coordinate by coordinate, in rows. -/
def rflat (v : FVec F S4x2048x64x3 .f32) : FVec F S4x2048x192 .f32 :=
  shapeCast _ (transpose S4x2048x3x64 [0, 1, 3, 2] v transposes_S4x2048x64x3_S4x2048x3x64_0_1_3_2) shapeCasts_S4x2048x3x64_S4x2048x192

/-- The features less the candidates'. -/
def rfeat (x2 x3 : FVec F S4x2048x64 .f32) (ix : IVec S4x2048x64x1 32) : FVec F S4x2048x64x64 .f32 :=
  subf (broadcastInDim S4x2048x64x64 ![0, 1, 2, 3] bcast_S4x2048x1x64_S4x2048x64x64_0_1_2_3 (broadcastInDim S4x2048x1x64 ![0, 1, 3] bcast_S4x2048x64_S4x2048x1x64_0_1_3 x2)) (Host.gather gather_S4x2048x64_S4x2048x64x1_S4x2048x64x64_3_1_0_0_1_3_1164 x3 ix)

/-- The data costs, of the features' differences. -/
def rcost (d : FVec F S4x2048x64x64 .f32) : FVec F S4x2048x64 .f32 :=
  Host.divf (mulf (broadcastInDim S4x2048x64 ![] bcast_S_S4x2048x64 (constant S_ .f32 0x42480000#32)) (Host.reduceAdd (mulf d d) (constant S_ .f32 0x00000000#32) reducesTo_S4x2048x64x64_S4x2048x64_d3 h_S_)) (broadcastInDim S4x2048x64 ![] bcast_S_S4x2048x64 (constant S_ .f32 0x42800000#32))

/-- The reference's displacements, of its arguments. -/
def rout5 (x0 x1 : FVec F S4x2048x3 .f32) : FVec F S4x2048x192 .f32 := rflat (rdisp x0 x1 (ridx (rtop x0 x1)))

/-- The reference's data costs, of its arguments. -/
def rout6 (x0 x1 : FVec F S4x2048x3 .f32) (x2 x3 : FVec F S4x2048x64 .f32) : FVec F S4x2048x64 .f32 := rcost (rfeat x2 x3 (ridx (rtop x0 x1)))

theorem v35_eq (m : (ℓ : Loc nD τ sig) → Buf (Elt F) ℓ) (c : Dev nD) :
    res_main_v35 m c = rout6 (m ((c.tc : Thread nD τ).loc main_arg0)) (m ((c.tc : Thread nD τ).loc main_arg1)) (m ((c.tc : Thread nD τ).loc main_arg2)) (m ((c.tc : Thread nD τ).loc main_arg3)) := rfl

end

/-- The distances of a source's point to the target's. -/
def DD (x0 x1 : FVec Ideal S4x2048x3 .f32) (b : Fin 4) (n : Fin 2048) : Fin 2048 → EReal := fun e => dist (fun k => x0 (ix3 b n k)) (fun k => x1 (ix3 b e k))

/-- The candidate at a place. -/
def pk (x0 x1 : FVec Ideal S4x2048x3 .f32) (b : Fin 4) (n : Fin 2048) (j : Fin 64) : Fin 2048 := nth (DD x0 x1 b n) ⟨j.val, by omega⟩

theorem rneg_at (x0 x1 : FVec Ideal S4x2048x3 .f32) (b : Fin 4) (n c : Fin 2048) : rneg x0 x1 (ix3 b n c) = -DD x0 x1 b n c := by
  pointwise [rneg, rdiff]
  rfl

theorem rtop_at (x0 x1 : FVec Ideal S4x2048x3 .f32) (b : Fin 4) (n : Fin 2048) (j : Fin 64) : rtop x0 x1 (ix3 b n j) = BitVec.ofNat 32 (pk x0 x1 b n j).val := by
  have h := topK_at (n := 2048) (n0 := 4) (n1 := 2048) (k := 64) (rneg x0 x1) sliceFits_S4x2048x2048_S4x2048x64 b n j ⟨j.val, by omega⟩ rfl
    (DD x0 x1 b n) (fun c => rneg_at x0 x1 b n c)
  exact h

theorem word_int (p : Fin 2048) : (BitVec.ofNat 32 p.val).toInt = (p.val : ℤ) := by
  rw [BitVec.toInt_ofNat', Int.bmod_eq_of_le (by omega) (by omega)]

theorem pt_word (p : Fin 2048) : pt (BitVec.ofNat 32 p.val) = p := by
  refine Fin.ext ?_
  show min (BitVec.ofNat 32 p.val).toInt.toNat 2047 = p.val
  rw [word_int, Int.toNat_natCast]
  omega

theorem ridx_at (x1 : IVec S4x2048x64 32) (b : Fin 4) (n : Fin 2048) (j : Fin 64) (z : Fin 1) (hv : 0 ≤ (x1 (ix3 b n j)).toInt) : ridx x1 (ix4 b n j z) = x1 (ix3 b n j) := by
  pointwise [ridx]
  have h : IntOp.cmpi .slt (x1 (ix3 b n j)) 0#32 = 0#1 := by
    have h0 : ¬ (x1 (ix3 b n j)).toInt < 0 := not_lt.mpr hv
    show BitVec.ofBool (decide ((x1 (ix3 b n j)).toInt < (0#32 : BitVec 32).toInt)) = 0#1
    simp [h0]
  rw [h]
  rfl

/-- The point the gathers read. -/
theorem at_idx (x0 x1 : FVec Ideal S4x2048x3 .f32) (b : Fin 4) (n : Fin 2048) (j : Fin 64) : pt (ridx (rtop x0 x1) (ix4 b n j 0)) = pk x0 x1 b n j := by
  rw [ridx_at _ _ _ _ _ (by rw [rtop_at, word_int]; exact Int.natCast_nonneg _), rtop_at, pt_word]

/-- The points' gather, at an entry. -/
theorem gather3_at {α : Type} (x : S4x2048x3.Idx → α) (idx : IVec S4x2048x64x1 32) (b : Fin 4) (n : Fin 2048) (j : Fin 64) (a : Fin 3) :
    Host.gather gather_S4x2048x3_S4x2048x64x1_S4x2048x64x3_3_1_0_0_1_3_113 x idx (ix4 b n j a) = x (ix3 b (pt (idx (ix4 b n j 0))) a) := by
  unfold Host.gather
  congr 1
  funext q
  refine Fin.ext ?_
  show GatherDims.start _ (ix4 b n j a) idx q + GatherDims.batchCoord _ (ix4 b n j a) q + GatherDims.offCoord _ (ix4 b n j a) q = _
  fin_cases q
  · unfold GatherDims.start GatherDims.batchCoord GatherDims.offCoord
    rw [dif_neg (by decide), dif_pos (by decide), dif_neg (by decide)]
    show 0 + b.val + 0 = b.val
    omega
  · unfold GatherDims.start GatherDims.batchCoord GatherDims.offCoord
    rw [dif_pos (by decide), dif_neg (by decide), dif_neg (by decide)]
    refine congrArg (fun k => min (idx k).toInt.toNat 2047) (?_ : _ = ix4 b n j 0)
    funext q; refine Fin.ext ?_
    fin_cases q <;> rfl
  · unfold GatherDims.start GatherDims.batchCoord GatherDims.offCoord
    rw [dif_neg (by decide), dif_neg (by decide), dif_pos (by decide)]
    show 0 + 0 + a.val = a.val
    omega

/-- The features' gather, at an entry. -/
theorem gather64_at {α : Type} (x : S4x2048x64.Idx → α) (idx : IVec S4x2048x64x1 32) (b : Fin 4) (n : Fin 2048) (j : Fin 64) (a : Fin 64) :
    Host.gather gather_S4x2048x64_S4x2048x64x1_S4x2048x64x64_3_1_0_0_1_3_1164 x idx (ix4 b n j a) = x (ix3 b (pt (idx (ix4 b n j 0))) a) := by
  unfold Host.gather
  congr 1
  funext q
  refine Fin.ext ?_
  show GatherDims.start _ (ix4 b n j a) idx q + GatherDims.batchCoord _ (ix4 b n j a) q + GatherDims.offCoord _ (ix4 b n j a) q = _
  fin_cases q
  · unfold GatherDims.start GatherDims.batchCoord GatherDims.offCoord
    rw [dif_neg (by decide), dif_pos (by decide), dif_neg (by decide)]
    show 0 + b.val + 0 = b.val
    omega
  · unfold GatherDims.start GatherDims.batchCoord GatherDims.offCoord
    rw [dif_pos (by decide), dif_neg (by decide), dif_neg (by decide)]
    refine congrArg (fun k => min (idx k).toInt.toNat 2047) (?_ : _ = ix4 b n j 0)
    funext q; refine Fin.ext ?_
    fin_cases q <;> rfl
  · unfold GatherDims.start GatherDims.batchCoord GatherDims.offCoord
    rw [dif_neg (by decide), dif_neg (by decide), dif_pos (by decide)]
    show 0 + 0 + a.val = a.val
    omega

theorem rdisp_at (x0 x1 : FVec Ideal S4x2048x3 .f32) (ix : IVec S4x2048x64x1 32) (b : Fin 4) (n : Fin 2048) (j : Fin 64) (k : Fin 3) :
    rdisp x0 x1 ix (ix4 b n j k) = x1 (ix3 b (pt (ix (ix4 b n j 0))) k) - x0 (ix3 b n k) := by
  pointwise [rdisp, gather3_at]

theorem rfeat_at (x2 x3 : FVec Ideal S4x2048x64 .f32) (ix : IVec S4x2048x64x1 32) (b : Fin 4) (n : Fin 2048) (j : Fin 64) (k : Fin 64) :
    rfeat x2 x3 ix (ix4 b n j k) = x2 (ix3 b n k) - x3 (ix3 b (pt (ix (ix4 b n j 0))) k) := by
  pointwise [rfeat, gather64_at]

theorem rflat_at (v : FVec Ideal S4x2048x64x3 .f32) (b : Fin 4) (n : Fin 2048) (k : Fin 3) (j : Fin 64) : rflat v (ix3 b n (cc k j)) = v (ix4 b n j k) := by
  pointwise [rflat]
  unfold cc
  congr 2
  · exact Fin.ext (by show (k.val * 64 + j.val) % 64 = j.val; omega)
  · exact Fin.ext (by show (k.val * 64 + j.val) / 64 = k.val; omega)

theorem rcost_at (d : FVec Ideal S4x2048x64x64 .f32) (b : Fin 4) (n : Fin 2048) (j : Fin 64) :
    rcost d (ix3 b n j) = Ideal.div (Ideal.ofBits FTy.f32 0x42480000#32 * ∑ k, d (ix4 b n j k) * d (ix4 b n j k)) (Ideal.ofBits FTy.f32 0x42800000#32) := by
  pointwise [rcost]

/-- The displacements at an entry: the candidate's coordinate less the point's. -/
theorem rout5_at (x0 x1 : FVec Ideal S4x2048x3 .f32) (b : Fin 4) (n : Fin 2048) (k : Fin 3) (j : Fin 64) :
    rout5 x0 x1 (ix3 b n (cc k j)) = x1 (ix3 b (pk x0 x1 b n j) k) - x0 (ix3 b n k) := by
  unfold rout5
  rw [rflat_at, rdisp_at, at_idx]

/-- The data costs at an entry. -/
theorem rout6_at (x0 x1 : FVec Ideal S4x2048x3 .f32) (x2 x3 : FVec Ideal S4x2048x64 .f32) (b : Fin 4) (n : Fin 2048) (j : Fin 64) :
    rout6 x0 x1 x2 x3 (ix3 b n j) = cost (fun k => x2 (ix3 b n k)) (fun k => x3 (ix3 b (pk x0 x1 b n j) k)) := by
  unfold rout6
  rw [rcost_at]
  simp only [rfeat_at, at_idx]
  rfl

end Cert.CandReferenceIdeal.Near

end
-- ==== Proof.Near.CandPre.lean ====
/- What the precondition says: every squared distance is below the bound, and the features are real. -/
module

public import proofs.«01_k».proof.Pre_near_and_finite_features
public import proofs.«01_k».proof.Proof.Lbp.Pre
public import proofs.«01_k».proof.Proof.Near.KnnMath
public import Idealize.ShloMosaic.Lib.ReduceAll
public import Idealize.ShloMosaic.Lib.Pointwise

@[expose] public section

set_option maxRecDepth 16384

noncomputable section

namespace Cert.CandPre

open Cert.LbpPre (both holds real_of top_word)
open Idealize.ShloMosaic Cert.Pre_near_and_finite_features Cert.NearMath Cert.Rank

/-- The shape relations of the precondition's operations. -/
instance facts : Cert.Pre_near_and_finite_features.Facts where
  bcast_S4x2048x3_S4x2048x1x3_0_1_3 := by decide
  bcast_S4x2048x3_S4x1x2048x3_0_2_3 := by decide
  bcast_S4x2048x1x3_S4x2048x2048x3_0_1_2_3 := by decide
  bcast_S4x1x2048x3_S4x2048x2048x3_0_1_2_3 := by decide
  reducesTo_S4x2048x2048x3_S4x2048x2048_d3 := by decide
  h_S_ := by decide
  bcast_S_S4x2048x2048 := by decide
  reducesTo_S4x2048x2048_S_d0_1_2 := by decide
  bcast_S_S4x2048x64 := by decide
  reducesTo_S4x2048x64_S_d0_1_2 := by decide

open Facts

/-- The squared distances of the points of a batch, as the precondition takes them. -/
def pd (x0 x1 : FVec Ideal S4x2048x3 .f32) : FVec Ideal S4x2048x2048 .f32 :=
  Host.reduceAdd (mulf
    (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x1)))
    (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x0)) (broadcastInDim S4x2048x2048x3 ![0, 1, 2, 3] bcast_S4x1x2048x3_S4x2048x2048x3_0_1_2_3 (broadcastInDim S4x1x2048x3 ![0, 2, 3] bcast_S4x2048x3_S4x1x2048x3_0_2_3 x1))))
    (constant S_ .f32 0x00000000#32) reducesTo_S4x2048x2048x3_S4x2048x2048_d3 h_S_

theorem pd_at (x0 x1 : FVec Ideal S4x2048x3 .f32) (b : Fin 4) (n c : Fin 2048) : pd x0 x1 (ix3 b n c) = dist (fun k => x0 (ix3 b n k)) (fun k => x1 (ix3 b c k)) := by
  pointwise [pd]
  rfl

/-- A feature whose bit is set is real. -/
theorem real_bit (x : EReal) (e : BitVec.ofBool (decide (max x (-x) < Ideal.ofBits FTy.f32 0x7F800000#32)) = 1#1) : ∃ r : ℝ, x = (r : EReal) := by
  rw [top_word] at e
  exact real_of _ (holds _ e)

/-- The distances are bounded and the features real, wherever the precondition's bit is set. -/
theorem all (x0 x1 : FVec Ideal S4x2048x3 .f32) (x2 x3 : FVec Ideal S4x2048x64 .f32) (h : fn (F := Ideal) x0 x1 x2 x3 = fun _ => 1#1) :
    (∀ b n c, dist (fun k => x0 (ix3 b n k)) (fun k => x1 (ix3 b c k)) < BIG) ∧ (∀ i, ∃ r : ℝ, x2 i = (r : EReal)) ∧ ∀ i, ∃ r : ℝ, x3 i = (r : EReal) := by
  have hs : Subsingleton S_.Idx := ⟨fun a b => funext fun q => q.elim0⟩
  obtain ⟨h1, ht⟩ := both _ _ (congrFun h (fun q => q.elim0))
  obtain ⟨hd, he⟩ := both _ _ h1
  refine ⟨fun b n c => ?_, fun i => ?_, fun i => ?_⟩
  · rw [← pd_at]
    have e := Host.reduce_andi_all _ _ _ _ _ hd (ix3 b n c)
    have e' : BitVec.ofBool (decide (pd x0 x1 (ix3 b n c) < Ideal.ofBits FTy.f32 0x7149F2CA#32)) = 1#1 := e
    exact holds _ e'
  · exact real_bit _ (Host.reduce_andi_all _ _ _ _ _ he i)
  · exact real_bit _ (Host.reduce_andi_all _ _ _ _ _ ht i)

end Cert.CandPre

end
-- ==== Proof.Near.CandFinal.lean ====
/- The candidates' result arrays are the reference's terms of the arguments. -/
module

public import proofs.«01_k».proof.Proof.Near.CandBlock
public import proofs.«01_k».proof.Proof.Near.CandRef
public import proofs.«01_k».proof.Proof.Near.CandPre
public import Idealize.ShloMosaic.Lib.StableHlo.Run

@[expose] public section

set_option maxRecDepth 16384

noncomputable section

namespace Cert.CandIdeal.Near

open Cert.CandIdeal Cert.CandIdeal.Gen Idealize.ShloMosaic Idealize.ShloMosaic.TcCoe Idealize.SL.Sem Cert.Rank Cert.NearMath
open Cert.LbpMath (cc)
open Cert.CandReferenceIdeal.Near (DD pk rout5 rout6 rout5_at rout6_at)

/-- A grid point's batch. -/
def bb (t : Fin 32) : Fin 4 := ⟨t.val / 8, by omega⟩
/-- A grid point's block of rows. -/
def qq (t : Fin 32) : Fin 8 := ⟨t.val % 8, by omega⟩
/-- A block's row among all rows of its batch. -/
def rowAt (q : Fin 8) (r : Fin 256) : Fin 2048 := ⟨q.val * 256 + r.val, by omega⟩

/-- The blocks of the grid points. -/
theorem idx0 : ∀ t : Fin cfg0.N, win0_0.index t = ![t.val / 8, t.val % 8, 0] ∧ win0_1.index t = ![t.val / 8, 0, 0] ∧ win0_2.index t = ![t.val / 8, 0, 0] ∧ win0_3.index t = ![t.val / 8, t.val % 8, 0]
    ∧ win0_4.index t = ![t.val / 8, 0, 0] ∧ win0_5.index t = ![t.val / 8, t.val % 8, 0] ∧ win0_6.index t = ![t.val / 8, t.val % 8, 0] := (by decide +kernel : ∀ t : Fin grid0.N, _)

theorem transpose3_at (X : FVec Ideal S4x2048x3 .f32) (b : Fin 4) (k : Fin 3) (e : Fin 2048) :
    (transpose S4x3x2048 [0, 2, 1] X transposes_S4x2048x3_S4x3x2048_0_2_1 : FVec Ideal S4x3x2048 .f32) (ix3 b k e) = X (ix3 b e k) := by
  pointwise

theorem transpose64_at (X : FVec Ideal S4x2048x64 .f32) (b : Fin 4) (k : Fin 64) (e : Fin 2048) :
    (transpose S4x64x2048 [0, 2, 1] X transposes_S4x2048x64_S4x64x2048_0_2_1 : FVec Ideal S4x64x2048 .f32) (ix3 b k e) = X (ix3 b e k) := by
  pointwise

variable (m : (ℓ : Loc nD τ sig) → Buf (Elt Ideal) ℓ)

/-- The transposed points, as the search finds them. -/
theorem V_main_v0 (c : Dev nD) : (V m c main_v0 : FVec Ideal S4x3x2048 .f32) = transpose S4x3x2048 [0, 2, 1] (m ((c.tc : Thread nD τ).loc main_arg1) : FVec Ideal S4x2048x3 .f32) transposes_S4x2048x3_S4x3x2048_0_2_1 := by
  show StableHlo.after hostOps0 (fun b => m (c, b)) main_v0 = _
  after_results

/-- The transposed features, as the search finds them. -/
theorem V_main_v1 (c : Dev nD) : (V m c main_v1 : FVec Ideal S4x64x2048 .f32) = transpose S4x64x2048 [0, 2, 1] (m ((c.tc : Thread nD τ).loc main_arg3) : FVec Ideal S4x2048x64 .f32) transposes_S4x2048x64_S4x64x2048_0_2_1 := by
  show StableHlo.after hostOps0 (fun b => m (c, b)) main_v1 = _
  after_results

/-- The difference of two extended reals. -/
def less (x y : EReal) : EReal := x - y

/-- The displacements left at a grid point. -/
theorem outs5 (c : Dev nD) (t : Fin cfg0.N) (D : Fin 256 → Fin 2048 → EReal) (hB : ∀ r e, D r e < BIG)
    (hD : ∀ r e, D r e = dist (fun k => (iblk m c 0 t : FVec Ideal S1x256x3 .f32) (ix3 0 r k)) (fun k => (iblk m c 2 t : FVec Ideal S1x3x2048 .f32) (ix3 0 k e))) (p : Fin 1) (r : Fin 256) (k : Fin 3) (j : Fin 64) :
    out5 m c t (ix3 p r (cc k j)) = less ((iblk m c 1 t : FVec Ideal S1x2048x3 .f32) (ix3 0 (nth (D r) ⟨j.val, by omega⟩) k)) ((iblk m c 0 t : FVec Ideal S1x256x3 .f32) (ix3 0 r k)) := by
  unfold out5
  rw [View.read_writes_junk_eq_canon]
  exact block5_at c (grid0.coords t) (ms0 t) (hs0 t) (ms1 t) (hs1 t) (ms2 t) (hs2 t) (ms3 t) (hs3 t) (ms4 t) (hs4 t) (ms5 t) (hs5 t) (ms6 t) (hs6 t) _ _ _ _ _ D hB hD p r k j

/-- The data costs left at a grid point. -/
theorem outs6 (c : Dev nD) (t : Fin cfg0.N) (D : Fin 256 → Fin 2048 → EReal) (hB : ∀ r e, D r e < BIG)
    (hD : ∀ r e, D r e = dist (fun k => (iblk m c 0 t : FVec Ideal S1x256x3 .f32) (ix3 0 r k)) (fun k => (iblk m c 2 t : FVec Ideal S1x3x2048 .f32) (ix3 0 k e))) (p : Fin 1) (r : Fin 256) (j : Fin 64) :
    out6 m c t (ix3 p r j) = costK (fun k => (iblk m c 3 t : FVec Ideal S1x256x64 .f32) (ix3 0 r k)) (fun k => (iblk m c 4 t : FVec Ideal S1x64x2048 .f32) (ix3 0 k (nth (D r) ⟨j.val, by omega⟩))) := by
  unfold out6
  rw [View.read_writes_junk_eq_canon]
  exact block6_at c (grid0.coords t) (ms0 t) (hs0 t) (ms1 t) (hs1 t) (ms2 t) (hs2 t) (ms3 t) (hs3 t) (ms4 t) (hs4 t) (ms5 t) (hs5 t) (ms6 t) (hs6 t) _ _ _ _ _ D hB hD p r j

section
variable (c : Dev nD) (X Y : FVec Ideal S4x2048x3 .f32) (E T : FVec Ideal S4x2048x64 .f32)

theorem e0 (a0 : V m c main_arg0 = X) (t : Fin cfg0.N) (r : Fin 256) (k : Fin 3) : (iblk m c 0 t : FVec Ideal S1x256x3 .f32) (ix3 0 r k) = X (ix3 (bb t) (rowAt (qq t) r) k) := by
  rw [← a0]; blk_ext [iblk, idx0 t, bb, qq, rowAt]

theorem e1 (a1 : V m c main_arg1 = Y) (t : Fin cfg0.N) (e : Fin 2048) (k : Fin 3) : (iblk m c 1 t : FVec Ideal S1x2048x3 .f32) (ix3 0 e k) = Y (ix3 (bb t) e k) := by
  rw [← a1]; blk_ext [iblk, idx0 t, bb]

theorem e2 (a2 : V m c main_v0 = transpose S4x3x2048 [0, 2, 1] Y transposes_S4x2048x3_S4x3x2048_0_2_1) (t : Fin cfg0.N) (e : Fin 2048) (k : Fin 3) : (iblk m c 2 t : FVec Ideal S1x3x2048 .f32) (ix3 0 k e) = Y (ix3 (bb t) e k) := by
  rw [← transpose3_at Y (bb t) k e, ← a2]; blk_ext [iblk, idx0 t, bb]

theorem e3 (a3 : V m c main_arg2 = E) (t : Fin cfg0.N) (r : Fin 256) (k : Fin 64) : (iblk m c 3 t : FVec Ideal S1x256x64 .f32) (ix3 0 r k) = E (ix3 (bb t) (rowAt (qq t) r) k) := by
  rw [← a3]; blk_ext [iblk, idx0 t, bb, qq, rowAt]

theorem e4 (a4 : V m c main_v1 = transpose S4x64x2048 [0, 2, 1] T transposes_S4x2048x64_S4x64x2048_0_2_1) (t : Fin cfg0.N) (e : Fin 2048) (k : Fin 64) : (iblk m c 4 t : FVec Ideal S1x64x2048 .f32) (ix3 0 k e) = T (ix3 (bb t) e k) := by
  rw [← transpose64_at T (bb t) k e, ← a4]; blk_ext [iblk, idx0 t, bb]

/-- The distances of a grid point's block. -/
theorem dd (a0 : V m c main_arg0 = X) (a2 : V m c main_v0 = transpose S4x3x2048 [0, 2, 1] Y transposes_S4x2048x3_S4x3x2048_0_2_1) (t : Fin cfg0.N) (r : Fin 256) (e : Fin 2048) :
    DD X Y (bb t) (rowAt (qq t) r) e = dist (fun k => (iblk m c 0 t : FVec Ideal S1x256x3 .f32) (ix3 0 r k)) (fun k => (iblk m c 2 t : FVec Ideal S1x3x2048 .f32) (ix3 0 k e)) :=
  congrArg₂ dist (funext fun k => (e0 m c X a0 t r k).symm) (funext fun k => (e2 m c Y a2 t e k).symm)

set_option maxHeartbeats 1600000 in
/-- The displacements' array, when the distances are bounded. -/
theorem final5 (a0 : V m c main_arg0 = X) (a1 : V m c main_arg1 = Y) (a2 : V m c main_v0 = transpose S4x3x2048 [0, 2, 1] Y transposes_S4x2048x3_S4x3x2048_0_2_1)
    (hB : ∀ b n e, DD X Y b n e < BIG) : (dats m 0 c).arrAt 5 cfg0.N = rout5 (F := Ideal) X Y := by
  refine (dats m 0 c).arrAt_eq_of_covers 5 _ (by decide +kernel) fun t hf y => ?_
  blk_simp
  rw [after5]
  obtain ⟨p, r, k, j, rfl⟩ : ∃ (p : Fin 1) (r : Fin 256) (k : Fin 3) (j : Fin 64), y = (ix3 p r (cc k j) : S1x256x192.Idx) := by
    have h2 : (y 2).val < 192 := (y 2).isLt
    refine ⟨⟨(y 0).val, (y 0).isLt⟩, ⟨(y 1).val, (y 1).isLt⟩, ⟨(y 2).val / 64, by omega⟩, ⟨(y 2).val % 64, by omega⟩, ?_⟩
    funext q; refine Fin.ext ?_
    fin_cases q
    · rfl
    · rfl
    · exact (Nat.div_add_mod' (y 2).val 64).symm
  refine (outs5 m c t (fun r => DD X Y (bb t) (rowAt (qq t) r)) (fun r e => hB _ _ _) (fun r e => dd m c X Y a0 a2 t r e) p r k j).trans ?_
  rw [e0 m c X a0, e1 m c Y a1]
  refine (rout5_at X Y (bb t) (rowAt (qq t) r) k j).symm.trans (congrArg (rout5 (F := Ideal) X Y) ?_)
  blk_ext [idx0 t, bb, qq, rowAt]

set_option maxHeartbeats 1600000 in
/-- The data costs' array, when the distances are bounded and the features real. -/
theorem final6 (a0 : V m c main_arg0 = X) (a2 : V m c main_v0 = transpose S4x3x2048 [0, 2, 1] Y transposes_S4x2048x3_S4x3x2048_0_2_1)
    (a3 : V m c main_arg2 = E) (a4 : V m c main_v1 = transpose S4x64x2048 [0, 2, 1] T transposes_S4x2048x64_S4x64x2048_0_2_1)
    (hB : ∀ b n e, DD X Y b n e < BIG) (hE : ∀ i, ∃ r : ℝ, E i = (r : EReal)) (hT : ∀ i, ∃ r : ℝ, T i = (r : EReal)) : (dats m 0 c).arrAt 6 cfg0.N = rout6 (F := Ideal) X Y E T := by
  refine (dats m 0 c).arrAt_eq_of_covers 6 _ (by decide +kernel) fun t hf y => ?_
  blk_simp
  rw [after6]
  obtain ⟨p, r, j, rfl⟩ : ∃ (p : Fin 1) (r : Fin 256) (j : Fin 64), y = (ix3 p r j : S1x256x64.Idx) :=
    ⟨⟨(y 0).val, (y 0).isLt⟩, ⟨(y 1).val, (y 1).isLt⟩, ⟨(y 2).val, (y 2).isLt⟩, by funext q; fin_cases q <;> rfl⟩
  refine (outs6 m c t (fun r => DD X Y (bb t) (rowAt (qq t) r)) (fun r e => hB _ _ _) (fun r e => dd m c X Y a0 a2 t r e) p r j).trans ?_
  simp only [e3 m c E a3, e4 m c T a4]
  refine (costK_eq _ _ (fun k => hE _) (fun k => hT _)).trans ?_
  refine (rout6_at X Y E T (bb t) (rowAt (qq t) r) j).symm.trans (congrArg (rout6 (F := Ideal) X Y E T) ?_)
  blk_ext [idx0 t, bb, qq, rowAt]

end

/-- The kernel's result arrays are the reference's results, under the precondition. -/
theorem result (c : Dev nD) (h : Cert.Pre_near_and_finite_features.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    (dats m 0 c).arrAt 5 cfg0.N = rout5 (F := Ideal) (m ((c.tc : Thread nD τ).loc main_arg0)) (m ((c.tc : Thread nD τ).loc main_arg1))
    ∧ (dats m 0 c).arrAt 6 cfg0.N = rout6 (F := Ideal) (m ((c.tc : Thread nD τ).loc main_arg0)) (m ((c.tc : Thread nD τ).loc main_arg1)) (m ((c.tc : Thread nD τ).loc main_arg2)) (m ((c.tc : Thread nD τ).loc main_arg3)) := by
  obtain ⟨hB, hE, hT⟩ := Cert.CandPre.all _ _ _ _ h
  exact ⟨final5 m c _ _ (V_main_arg0 m c) (V_main_arg1 m c) (V_main_v0 m c) hB,
    final6 m c _ _ _ _ (V_main_arg0 m c) (V_main_v0 m c) (V_main_arg2 m c) (V_main_v1 m c) hB hE hT⟩

end Cert.CandIdeal.Near

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Lbp.Frame
public import proofs.«01_k».proof.Proof.Gen.LbpIdeal.Frame
public import proofs.«01_k».proof.Proof.Gen.LbpReferenceIdeal.Run
public import proofs.«01_k».proof.Proof.Cross.Final
public import proofs.«01_k».proof.Proof.Lbp.Run
public import proofs.«01_k».proof.Proof.Lbp.Final
public import proofs.«01_k».proof.Proof.Gen.Edge.Frame
public import proofs.«01_k».proof.Proof.Gen.EdgeIdeal.Frame
public import proofs.«01_k».proof.Proof.Gen.EdgeIdeal.Value
public import proofs.«01_k».proof.Proof.Gen.EdgeReferenceIdeal.Run
public import proofs.«01_k».proof.Proof.Edge.Final
public import proofs.«01_k».proof.Proof.Gen.Knn.Frame
public import proofs.«01_k».proof.Proof.Gen.KnnIdeal.Frame
public import proofs.«01_k».proof.Proof.Gen.KnnReferenceIdeal.Run
public import proofs.«01_k».proof.Proof.Near.KnnFinal
public import proofs.«01_k».proof.Proof.Gen.CandReferenceIdeal.Run
public import proofs.«01_k».proof.Proof.Near.CandBody
public import proofs.«01_k».proof.Proof.Near.CandFinal
public import Idealize.ShloMosaic.Lib.Claim

@[expose] public section

noncomputable section

namespace Cert.Proof

open Idealize.ShloMosaic Idealize.SL.Sem Cert.Kernel

/-- The kernel and the reference end with the same array, over the extended reals. -/
theorem algebraic : Cert.algebraic_KernelIdeal_ReferenceIdeal := by
  pair_intro
  · run_from Cert.KernelIdeal.Gen.run_main m g
  · run_from Cert.ReferenceIdeal.Value.run m' g'
    refine Eq.trans (b := Cert.ReferenceIdeal.Cross.rout (F := Ideal) _ _ _ _ _ _ _ _ _ _) rfl ?_
    obtain ⟨h0, h1, h2, h3, h4, h5, h6, h7, h8, h9⟩ := hagree c
    refine Eq.trans ?_ (Cert.KernelIdeal.Cross.final m c).symm
    unfold Cert.KernelIdeal.Cross.REF
    rw [← h0, ← h1, ← h2, ← h3, ← h4, ← h5, ← h6, ← h7, ← h8, ← h9]

/-- The reference runs, its arguments unchanged and every counter at zero: it declares no semaphore. -/
theorem frame_reference : Cert.quiescent_ReferenceIdeal := by
  intro m ρ _
  refine (θ_run _ _ _).mono (fun r h => ⟨fun c => (h c).2, sem_eq_zero_of_no_sems (by decide) _⟩) (Cert.ReferenceIdeal.Value.run m ρ)

/-- The belief propagation's launches and their reference end with the same array, over the extended reals, when the
    candidates are finite and the indices in range. -/
theorem algebraic_lbp : Cert.algebraic_LbpIdeal_LbpReferenceIdeal_pre_finite_disp_and_indices := by
  intro m g m' g' hpre hagree
  refine ⟨fun c => Cert.LbpReferenceIdeal.Lbp.rout (F := Ideal) (m ((c.tc : Thread Cert.LbpIdeal.nD Cert.LbpIdeal.τ).loc Cert.LbpIdeal.main_arg0)) (m ((c.tc : Thread Cert.LbpIdeal.nD Cert.LbpIdeal.τ).loc Cert.LbpIdeal.main_arg1)) (m ((c.tc : Thread Cert.LbpIdeal.nD Cert.LbpIdeal.τ).loc Cert.LbpIdeal.main_arg2)) (m ((c.tc : Thread Cert.LbpIdeal.nD Cert.LbpIdeal.τ).loc Cert.LbpIdeal.main_arg3)), ?_, ?_⟩
  · exact (θ_run _ _ _).mono (fun r h c => ⟨(h c).1.trans (Cert.LbpIdeal.Lbp.result m g c (hpre c)), (h c).2⟩) (Cert.LbpIdeal.Lbp.run m g)
  · refine (θ_run _ _ _).mono (fun r h c => ⟨(h c).1.trans ?_, (h c).2⟩) (Cert.LbpReferenceIdeal.Value.run m' g')
    obtain ⟨h0, h1, h2, h3⟩ := hagree c
    refine (Cert.LbpReferenceIdeal.Lbp.v98_eq m' c).trans ?_
    rw [h0, h1, h2, h3]

/-- The belief propagation's reference runs, its arguments unchanged and every counter at zero: it declares no semaphore. -/
theorem frame_lbp_reference : Cert.quiescent_LbpReferenceIdeal := by
  intro m ρ _
  refine (θ_run _ _ _).mono (fun r h => ⟨fun c => (h c).2, sem_eq_zero_of_no_sems (by decide) _⟩) (Cert.LbpReferenceIdeal.Value.run m ρ)

theorem frame_lbp_reference_pre : Cert.quiescent_LbpReferenceIdeal_pre_finite_disp_and_indices := by
  intro m ρ _
  exact frame_lbp_reference m ρ trivial

/-- The edge features' launch and its reference end with the same array, over the extended reals, when the points and
    the weights are finite and the indices in range. -/
theorem algebraic_edge : Cert.algebraic_EdgeIdeal_EdgeReferenceIdeal_pre_finite_points_and_indices := by
  intro m g m' g' hpre hagree
  refine ⟨fun c => Cert.EdgeReferenceIdeal.Edge.rout (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)), ?_, ?_⟩
  · exact (θ_run _ _ _).mono (fun r h c => ⟨(h c).1.trans (Cert.EdgeIdeal.Edge.result m c (hpre c)), (h c).2⟩) (Cert.EdgeIdeal.Value.run_blocks m g)
  · refine (θ_run _ _ _).mono (fun r h c => ⟨(h c).1.trans ?_, (h c).2⟩) (Cert.EdgeReferenceIdeal.Value.run m' g')
    obtain ⟨h0, h1, h2, h3⟩ := hagree c
    refine Eq.trans (b := Cert.EdgeReferenceIdeal.Edge.rout (F := Ideal) _ _ _ _) rfl ?_
    rw [h0, h1, h2, h3]

/-- The edge features' reference runs, its arguments unchanged and every counter at zero: it declares no semaphore. -/
theorem frame_edge_reference : Cert.quiescent_EdgeReferenceIdeal := by
  intro m ρ _
  refine (θ_run _ _ _).mono (fun r h => ⟨fun c => (h c).2, sem_eq_zero_of_no_sems (by decide) _⟩) (Cert.EdgeReferenceIdeal.Value.run m ρ)

theorem frame_edge_reference_pre : Cert.quiescent_EdgeReferenceIdeal_pre_finite_points_and_indices := by
  intro m ρ _
  exact frame_edge_reference m ρ trivial

/-- The neighbour search's launch and its reference end with the same array, over the extended reals, when no squared
    distance reaches the mask and no two points coincide. -/
theorem algebraic_knn : Cert.algebraic_KnnIdeal_KnnReferenceIdeal_pre_apart_and_near := by
  intro m g m' g' hpre hagree
  refine ⟨fun c => Cert.KnnReferenceIdeal.Near.rout (F := Ideal) (m ((c.tc : Thread Cert.KnnIdeal.nD Cert.KnnIdeal.τ).loc Cert.KnnIdeal.main_arg0)), ?_, ?_⟩
  · exact (θ_run _ _ _).mono (fun r h c => ⟨((h c).1 2).trans (Cert.KnnIdeal.Near.result m c (hpre c)),
      ((h c).1 0).trans (((Cert.KnnIdeal.Gen.dats m 0 c).arrAt_in 0 rfl _).trans ((Cert.KnnIdeal.Gen.A_eq m c 0).trans (Cert.KnnIdeal.Gen.V_main_arg0 m c)))⟩)
      (Cert.KnnIdeal.Gen.run_main m g)
  · refine (θ_run _ _ _).mono (fun r h c => ⟨(h c).1.trans ?_, (h c).2⟩) (Cert.KnnReferenceIdeal.Value.run m' g')
    refine Eq.trans (b := Cert.KnnReferenceIdeal.Near.rout (F := Ideal) _) rfl ?_
    rw [hagree c]

/-- The neighbour search's reference runs, its argument unchanged and every counter at zero: it declares no semaphore. -/
theorem frame_knn_reference : Cert.quiescent_KnnReferenceIdeal := by
  intro m ρ _
  refine (θ_run _ _ _).mono (fun r h => ⟨fun c => (h c).2, sem_eq_zero_of_no_sems (by decide) _⟩) (Cert.KnnReferenceIdeal.Value.run m ρ)

theorem frame_knn_reference_pre : Cert.quiescent_KnnReferenceIdeal_pre_apart_and_near := by
  intro m ρ _
  exact frame_knn_reference m ρ trivial

/-- The candidates' launch and its reference end with the same two arrays, over the extended reals, when no squared
    distance reaches the mask and the features are finite. -/
theorem algebraic_cand : Cert.algebraic_CandIdeal_CandReferenceIdeal_pre_near_and_finite_features := by
  intro m g m' g' hpre hagree
  refine ⟨fun c => Cert.CandReferenceIdeal.Near.rout5 (F := Ideal) (m ((c.tc : Thread Cert.CandIdeal.nD Cert.CandIdeal.τ).loc Cert.CandIdeal.main_arg0)) (m ((c.tc : Thread Cert.CandIdeal.nD Cert.CandIdeal.τ).loc Cert.CandIdeal.main_arg1)),
    fun c => Cert.CandReferenceIdeal.Near.rout6 (F := Ideal) (m ((c.tc : Thread Cert.CandIdeal.nD Cert.CandIdeal.τ).loc Cert.CandIdeal.main_arg0)) (m ((c.tc : Thread Cert.CandIdeal.nD Cert.CandIdeal.τ).loc Cert.CandIdeal.main_arg1))
      (m ((c.tc : Thread Cert.CandIdeal.nD Cert.CandIdeal.τ).loc Cert.CandIdeal.main_arg2)) (m ((c.tc : Thread Cert.CandIdeal.nD Cert.CandIdeal.τ).loc Cert.CandIdeal.main_arg3)), ?_, ?_⟩
  · refine (θ_run _ _ _).mono (fun r h c => ?_) (θ_run_and (Cert.CandIdeal.Near.run m g) (Cert.CandIdeal.Near.frame m g))
    have hr := Cert.CandIdeal.Near.result m c (hpre c)
    exact ⟨((h.1 c).1 5).trans hr.1, ((h.1 c).1 6).trans hr.2, h.2.1 c⟩
  · refine (θ_run _ _ _).mono (fun r h c => ⟨(h c).1.trans ?_, (h c).2.1.trans ?_, (h c).2.2⟩) (Cert.CandReferenceIdeal.Value.run m' g')
    · refine Eq.trans (b := Cert.CandReferenceIdeal.Near.rout5 (F := Ideal) _ _) rfl ?_
      obtain ⟨h0, h1, -, -⟩ := hagree c
      rw [h0, h1]
    · refine (Cert.CandReferenceIdeal.Near.v35_eq m' c).trans ?_
      obtain ⟨h0, h1, h2, h3⟩ := hagree c
      rw [h0, h1, h2, h3]

/-- The candidates' reference runs, its arguments unchanged and every counter at zero: it declares no semaphore. -/
theorem frame_cand_reference : Cert.quiescent_CandReferenceIdeal := by
  intro m ρ _
  refine (θ_run _ _ _).mono (fun r h => ⟨fun c => (h c).2.2, sem_eq_zero_of_no_sems (by decide) _⟩) (Cert.CandReferenceIdeal.Value.run m ρ)

theorem frame_cand_reference_pre : Cert.quiescent_CandReferenceIdeal_pre_near_and_finite_features := by
  intro m ρ _
  exact frame_cand_reference m ρ trivial

/-- Every claim of the certificate. -/
theorem claim : Cert.Claim := ⟨Cert.Kernel.Gen.facts, Cert.KernelIdeal.Gen.facts, Cert.ReferenceIdeal.Gen.facts, Cert.Lbp.Gen.facts, Cert.LbpIdeal.Gen.facts, Cert.LbpReferenceIdeal.Gen.facts,
  Cert.Edge.Gen.facts, Cert.EdgeIdeal.Gen.facts, Cert.EdgeReferenceIdeal.Gen.facts,
  Cert.Knn.Gen.facts, Cert.KnnIdeal.Gen.facts, Cert.KnnReferenceIdeal.Gen.facts,
  Cert.Cand.Gen.facts, Cert.CandIdeal.Gen.facts, Cert.CandReferenceIdeal.Gen.facts, Cert.LbpPre.facts, Cert.EdgePre.facts, Cert.KnnPre.facts, Cert.CandPre.facts,
  fun m ρ _ => Cert.Kernel.Gen.frame m ρ, fun m ρ _ => Cert.KernelIdeal.Gen.frame m ρ, frame_reference,
  fun m ρ _ => Cert.Lbp.Gen.frame m ρ, fun m ρ _ => Cert.LbpIdeal.Gen.frame m ρ, fun m ρ _ => Cert.LbpIdeal.Gen.frame m ρ,
  frame_lbp_reference, frame_lbp_reference_pre,
  fun m ρ _ => Cert.Edge.Gen.frame m ρ, fun m ρ _ => Cert.EdgeIdeal.Gen.frame m ρ, fun m ρ _ => Cert.EdgeIdeal.Gen.frame m ρ,
  frame_edge_reference, frame_edge_reference_pre,
  fun m ρ _ => Cert.Knn.Gen.frame m ρ, fun m ρ _ => Cert.KnnIdeal.Gen.frame m ρ, fun m ρ _ => Cert.KnnIdeal.Gen.frame m ρ,
  frame_knn_reference, frame_knn_reference_pre,
  fun m ρ _ => Cert.Cand.Near.frame m ρ, fun m ρ _ => Cert.CandIdeal.Near.frame m ρ, fun m ρ _ => Cert.CandIdeal.Near.frame m ρ,
  frame_cand_reference, frame_cand_reference_pre,
  trivial, algebraic, trivial, algebraic_lbp, trivial, algebraic_edge, trivial, algebraic_knn, trivial, algebraic_cand⟩

end Cert.Proof

end
